-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v182) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ preserves_Kernel_KernelIdeal
    ∧ algebraic_KernelIdeal_ReferenceIdeal (hKernelIdeal := hKernelIdeal) (hReferenceIdeal := hReferenceIdeal)
    ∧ preserves_Kernel2_Kernel2Ideal
-- ==== Kernel.lean ====
abbrev S1x1x8x48x48 : Shape := ⟨5, ![1, 1, 8, 48, 48]⟩
abbrev S64x1x3x3x3 : Shape := ⟨5, ![64, 1, 3, 3, 3]⟩
abbrev S64 : Shape := ⟨1, ![64]⟩
abbrev S2x64x64x3x3x3 : Shape := ⟨6, ![2, 64, 64, 3, 3, 3]⟩
abbrev S2x64 : Shape := ⟨2, ![2, 64]⟩
abbrev S64x64x3x3x3 : Shape := ⟨5, ![64, 64, 3, 3, 3]⟩
abbrev S1x4096x3 : Shape := ⟨3, ![1, 4096, 3]⟩
abbrev S8x48x48 : Shape := ⟨3, ![8, 48, 48]⟩
abbrev S18432x1 : Shape := ⟨2, ![18432, 1]⟩
abbrev S_ : Shape := ⟨0, ![]⟩
abbrev S18432x63 : Shape := ⟨2, ![18432, 63]⟩
abbrev S18432x64 : Shape := ⟨2, ![18432, 64]⟩
abbrev S3x3x3x1x64 : Shape := ⟨5, ![3, 3, 3, 1, 64]⟩
abbrev S27x1x64 : Shape := ⟨3, ![27, 1, 64]⟩
abbrev S27x63x64 : Shape := ⟨3, ![27, 63, 64]⟩
abbrev S27x64x64 : Shape := ⟨3, ![27, 64, 64]⟩
abbrev S1x4096 : Shape := ⟨2, ![1, 4096]⟩
abbrev S1x64 : Shape := ⟨2, ![1, 64]⟩
abbrev S1x64x64x3x3x3 : Shape := ⟨6, ![1, 64, 64, 3, 3, 3]⟩
abbrev S3x3x3x64x64 : Shape := ⟨5, ![3, 3, 3, 64, 64]⟩
abbrev S1x27x64x64 : Shape := ⟨4, ![1, 27, 64, 64]⟩
abbrev S2x27x64x64 : Shape := ⟨4, ![2, 27, 64, 64]⟩
abbrev S2x1x64 : Shape := ⟨3, ![2, 1, 64]⟩
abbrev S10x50x50x64 : Shape := ⟨4, ![10, 50, 50, 64]⟩
abbrev S8x48x48x64 : Shape := ⟨4, ![8, 48, 48, 64]⟩
abbrev S1x64x64 : Shape := ⟨3, ![1, 64, 64]⟩
abbrev S64x64 : Shape := ⟨2, ![64, 64]⟩
abbrev S1x1x64x64 : Shape := ⟨4, ![1, 1, 64, 64]⟩
abbrev S1x1x64 : Shape := ⟨3, ![1, 1, 64]⟩

abbrev nBuf : Space → Nat
  | .hbm => 51
  | .vmem => 13
  | .smem => 0
  | _ => 0

abbrev bufTy : (tb : Table) → Fin (tcTables nBuf tb) → BufTy
  | .hbm, ⟨0, _⟩ => ⟨S1x1x8x48x48, .f32⟩
  | .hbm, ⟨1, _⟩ => ⟨S64x1x3x3x3, .f32⟩
  | .hbm, ⟨2, _⟩ => ⟨S64, .f32⟩
  | .hbm, ⟨3, _⟩ => ⟨S2x64x64x3x3x3, .f32⟩
  | .hbm, ⟨4, _⟩ => ⟨S2x64, .f32⟩
  | .hbm, ⟨5, _⟩ => ⟨S2x64x64x3x3x3, .f32⟩
  | .hbm, ⟨6, _⟩ => ⟨S2x64, .f32⟩
  | .hbm, ⟨7, _⟩ => ⟨S64x64x3x3x3, .f32⟩
  | .hbm, ⟨8, _⟩ => ⟨S64, .f32⟩
  | .hbm, ⟨9, _⟩ => ⟨S1x4096x3, .f32⟩
  | .hbm, ⟨10, _⟩ => ⟨S8x48x48, .f32⟩
  | .hbm, ⟨11, _⟩ => ⟨S18432x1, .f32⟩
  | .hbm, ⟨12, _⟩ => ⟨S_, .f32⟩
  | .hbm, ⟨13, _⟩ => ⟨S18432x63, .f32⟩
  | .hbm, ⟨14, _⟩ => ⟨S18432x64, .f32⟩
  | .hbm, ⟨15, _⟩ => ⟨S3x3x3x1x64, .f32⟩
  | .hbm, ⟨16, _⟩ => ⟨S27x1x64, .f32⟩
  | .hbm, ⟨17, _⟩ => ⟨S_, .f32⟩
  | .hbm, ⟨18, _⟩ => ⟨S27x63x64, .f32⟩
  | .hbm, ⟨19, _⟩ => ⟨S27x64x64, .f32⟩
  | .hbm, ⟨20, _⟩ => ⟨S_, .f32⟩
  | .hbm, ⟨21, _⟩ => ⟨S1x4096, .f32⟩
  | .hbm, ⟨22, _⟩ => ⟨S1x64, .f32⟩
  | .hbm, ⟨23, _⟩ => ⟨S1x64x64x3x3x3, .f32⟩
  | .hbm, ⟨24, _⟩ => ⟨S64x64x3x3x3, .f32⟩
  | .hbm, ⟨25, _⟩ => ⟨S3x3x3x64x64, .f32⟩
  | .hbm, ⟨26, _⟩ => ⟨S27x64x64, .f32⟩
  | .hbm, ⟨27, _⟩ => ⟨S1x64x64x3x3x3, .f32⟩
  | .hbm, ⟨28, _⟩ => ⟨S64x64x3x3x3, .f32⟩
  | .hbm, ⟨29, _⟩ => ⟨S3x3x3x64x64, .f32⟩
  | .hbm, ⟨30, _⟩ => ⟨S27x64x64, .f32⟩
  | .hbm, ⟨31, _⟩ => ⟨S1x27x64x64, .f32⟩
  | .hbm, ⟨32, _⟩ => ⟨S1x27x64x64, .f32⟩
  | .hbm, ⟨33, _⟩ => ⟨S2x27x64x64, .f32⟩
  | .hbm, ⟨34, _⟩ => ⟨S2x1x64, .f32⟩
  | .hbm, ⟨35, _⟩ => ⟨S1x64x64x3x3x3, .f32⟩
  | .hbm, ⟨36, _⟩ => ⟨S64x64x3x3x3, .f32⟩
  | .hbm, ⟨37, _⟩ => ⟨S3x3x3x64x64, .f32⟩
  | .hbm, ⟨38, _⟩ => ⟨S27x64x64, .f32⟩
  | .hbm, ⟨39, _⟩ => ⟨S1x64x64x3x3x3, .f32⟩
  | .hbm, ⟨40, _⟩ => ⟨S64x64x3x3x3, .f32⟩
  | .hbm, ⟨41, _⟩ => ⟨S3x3x3x64x64, .f32⟩
  | .hbm, ⟨42, _⟩ => ⟨S27x64x64, .f32⟩
  | .hbm, ⟨43, _⟩ => ⟨S1x27x64x64, .f32⟩
  | .hbm, ⟨44, _⟩ => ⟨S1x27x64x64, .f32⟩
  | .hbm, ⟨45, _⟩ => ⟨S2x27x64x64, .f32⟩
  | .hbm, ⟨46, _⟩ => ⟨S2x1x64, .f32⟩
  | .hbm, ⟨47, _⟩ => ⟨S3x3x3x64x64, .f32⟩
  | .hbm, ⟨48, _⟩ => ⟨S27x64x64, .f32⟩
  | .hbm, ⟨49, _⟩ => ⟨S1x64, .f32⟩
  | .hbm, ⟨50, _⟩ => ⟨S18432x64, .f32⟩
  | .local _ .vmem, ⟨0, _⟩ => ⟨S18432x64, .f32⟩
  | .local _ .vmem, ⟨1, _⟩ => ⟨S27x64x64, .f32⟩
  | .local _ .vmem, ⟨2, _⟩ => ⟨S1x64, .f32⟩
  | .local _ .vmem, ⟨3, _⟩ => ⟨S2x27x64x64, .f32⟩
  | .local _ .vmem, ⟨4, _⟩ => ⟨S2x1x64, .f32⟩
  | .local _ .vmem, ⟨5, _⟩ => ⟨S2x27x64x64, .f32⟩
  | .local _ .vmem, ⟨6, _⟩ => ⟨S2x1x64, .f32⟩
  | .local _ .vmem, ⟨7, _⟩ => ⟨S27x64x64, .f32⟩
  | .local _ .vmem, ⟨8, _⟩ => ⟨S1x64, .f32⟩
  | .local _ .vmem, ⟨9, _⟩ => ⟨S18432x64, .f32⟩
  | .local _ .vmem, ⟨10, _⟩ => ⟨S10x50x50x64, .f32⟩
  | .local _ .vmem, ⟨11, _⟩ => ⟨S18432x64, .f32⟩
  | .local _ .vmem, ⟨12, _⟩ => ⟨S18432x64, .f32⟩
  | _, _ => ⟨S1x1x8x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c27_i32 : BitVec 32 := 27#32
  let v14 : BitVec 32 := Scalar.addi c0_i32 c27_i32
  let c1_i32 : BitVec 32 := 1#32
  ⟨c0_i32, v14, c1_i32⟩
def k0_off1 (k0_t1 : Fin k0_t1_loop.trips) : Fin 4 → Nat :=
  let c0_i32 : BitVec 32 := 0#32
  let c1_i32 : BitVec 32 := 1#32
  let arg13 : BitVec 32 := Scf.iv c0_i32 c1_i32 k0_t1
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let c0_i32_159 : BitVec 32 := 0#32
  let v164 : BitVec 1 := Scalar.cmpi .sgt v152 c0_i32_159
  let v165 : BitVec 32 := Scalar.extui v164
  let c0_i32_160 : BitVec 32 := 0#32
  let v166 : BitVec 1 := Scalar.cmpi .slt v152 c0_i32_160
  let v167 : BitVec 32 := Scalar.extui v166
  let v168 : BitVec 32 := Scalar.subi v165 v167
  let c9_i32 : BitVec 32 := 9#32
  let c0_i32_161 : BitVec 32 := 0#32
  let v169 : BitVec 1 := Scalar.cmpi .sgt c9_i32 c0_i32_161
  let v170 : BitVec 32 := Scalar.extui v169
  let c0_i32_162 : BitVec 32 := 0#32
  let v171 : BitVec 1 := Scalar.cmpi .slt c9_i32 c0_i32_162
  let v172 : BitVec 32 := Scalar.extui v171
  let v173 : BitVec 32 := Scalar.subi v170 v172
  let v174 : BitVec 1 := Scalar.cmpi .ne v168 v173
  let v175 : BitVec 32 := Scalar.remsi v152 c9_i32
  let c0_i32_163 : BitVec 32 := 0#32
  let v176 : BitVec 1 := Scalar.cmpi .ne v175 c0_i32_163
  let v177 : BitVec 1 := Scalar.andi v174 v176
  let v163 : BitVec 32 := Scalar.divsi v152 c9_i32
  let c1_i32_164 : BitVec 32 := 1#32
  let v178 : BitVec 32 := Scalar.subi v163 c1_i32_164
  let v179 : BitVec 32 := Scalar.select v177 v178 v163
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c8_i32 : BitVec 32 := 8#32
  let v217 : BitVec 32 := Scalar.muli v162 c8_i32
  let v218 : BitVec 32 := Scalar.addi v179 v217
  let v219 : Index := Scalar.indexCast v218
  let c0_i32_165 : BitVec 32 := 0#32
  let v181 : BitVec 1 := Scalar.cmpi .sgt v152 c0_i32_165
  let v182 : BitVec 32 := Scalar.extui v181
  let c0_i32_166 : BitVec 32 := 0#32
  let v183 : BitVec 1 := Scalar.cmpi .slt v152 c0_i32_166
  let v184 : BitVec 32 := Scalar.extui v183
  let v185 : BitVec 32 := Scalar.subi v182 v184
  let c3_i32 : BitVec 32 := 3#32
  let c0_i32_167 : BitVec 32 := 0#32
  let v186 : BitVec 1 := Scalar.cmpi .sgt c3_i32 c0_i32_167
  let v187 : BitVec 32 := Scalar.extui v186
  let c0_i32_168 : BitVec 32 := 0#32
  let v188 : BitVec 1 := Scalar.cmpi .slt c3_i32 c0_i32_168
  let v189 : BitVec 32 := Scalar.extui v188
  let v190 : BitVec 32 := Scalar.subi v187 v189
  let v191 : BitVec 1 := Scalar.cmpi .ne v185 v190
  let v192 : BitVec 32 := Scalar.remsi v152 c3_i32
  let c0_i32_169 : BitVec 32 := 0#32
  let v193 : BitVec 1 := Scalar.cmpi .ne v192 c0_i32_169
  let v194 : BitVec 1 := Scalar.andi v191 v193
  let v180 : BitVec 32 := Scalar.divsi v152 c3_i32
  let c1_i32_170 : BitVec 32 := 1#32
  let v195 : BitVec 32 := Scalar.subi v180 c1_i32_170
  let v196 : BitVec 32 := Scalar.select v194 v195 v180
  let c3_i32_171 : BitVec 32 := 3#32
  let c0_i32_172 : BitVec 32 := 0#32
  let v197 : BitVec 1 := Scalar.cmpi .eq c3_i32_171 c0_i32_172
  let c1_i32_173 : BitVec 32 := 1#32
  let v198 : BitVec 32 := Scalar.select v197 c1_i32_173 c3_i32_171
  let v199 : BitVec 32 := Scalar.remsi v196 v198
  let c0_i32_175 : BitVec 32 := 0#32
  let v201 : BitVec 1 := Scalar.cmpi .slt v199 c0_i32_175
  let c0_i32_176 : BitVec 32 := 0#32
  let v202 : BitVec 1 := Scalar.cmpi .slt v198 c0_i32_176
  let v203 : BitVec 1 := Scalar.xori v201 v202
  let c0_i32_174 : BitVec 32 := 0#32
  let v200 : BitVec 1 := Scalar.cmpi .ne v199 c0_i32_174
  let v204 : BitVec 1 := Scalar.andi v203 v200
  let v205 : BitVec 32 := Scalar.addi v199 v198
  let v206 : BitVec 32 := Scalar.select v204 v205 v199
  let v220 : Index := Scalar.indexCast v206
  let c3_i32_177 : BitVec 32 := 3#32
  let c0_i32_178 : BitVec 32 := 0#32
  let v207 : BitVec 1 := Scalar.cmpi .eq c3_i32_177 c0_i32_178
  let c1_i32_179 : BitVec 32 := 1#32
  let v208 : BitVec 32 := Scalar.select v207 c1_i32_179 c3_i32_177
  let v209 : BitVec 32 := Scalar.remsi v152 v208
  let c0_i32_181 : BitVec 32 := 0#32
  let v211 : BitVec 1 := Scalar.cmpi .slt v209 c0_i32_181
  let c0_i32_182 : BitVec 32 := 0#32
  let v212 : BitVec 1 := Scalar.cmpi .slt v208 c0_i32_182
  let v213 : BitVec 1 := Scalar.xori v211 v212
  let c0_i32_180 : BitVec 32 := 0#32
  let v210 : BitVec 1 := Scalar.cmpi .ne v209 c0_i32_180
  let v214 : BitVec 1 := Scalar.andi v213 v210
  let v215 : BitVec 32 := Scalar.addi v209 v208
  let v216 : BitVec 32 := Scalar.select v214 v215 v209
  let v221 : Index := Scalar.indexCast v216
  let c0_183 : Index := 0#32
  ![v219.toNat, v220.toNat, v221.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c18432_i32 : BitVec 32 := 18432#32
  let v223 : BitVec 32 := Scalar.muli v162 c18432_i32
  let v224 : Index := Scalar.indexCast v223
  let c0_184 : Index := 0#32
  ![v224.toNat, 0]
def k0_off3 (k0_t1 : Fin k0_t1_loop.trips) : Fin 3 → Nat :=
  let c0_i32 : BitVec 32 := 0#32
  let c1_i32 : BitVec 32 := 1#32
  let arg13 : BitVec 32 := Scf.iv c0_i32 c1_i32 k0_t1
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let v227 : Index := Scalar.indexCast v152
  let c0_185 : Index := 0#32
  let c0_186 : Index := 0#32
  ![v227.toNat, 0, 0]
@[reducible] def k0_t2_loop : Scf.Loop 32 :=
  let c0_i32_36 : BitVec 32 := 0#32
  let c27_i32_37 : BitVec 32 := 27#32
  let v39 : BitVec 32 := Scalar.addi c0_i32_36 c27_i32_37
  let c1_i32_38 : BitVec 32 := 1#32
  ⟨c0_i32_36, v39, c1_i32_38⟩
def k0_off4 (k0_t2 : Fin k0_t2_loop.trips) : Fin 4 → Nat :=
  let c0_i32_36 : BitVec 32 := 0#32
  let c1_i32_38 : BitVec 32 := 1#32
  let arg13 : BitVec 32 := Scf.iv c0_i32_36 c1_i32_38 k0_t2
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let c0_i32_159 : BitVec 32 := 0#32
  let v164 : BitVec 1 := Scalar.cmpi .sgt v152 c0_i32_159
  let v165 : BitVec 32 := Scalar.extui v164
  let c0_i32_160 : BitVec 32 := 0#32
  let v166 : BitVec 1 := Scalar.cmpi .slt v152 c0_i32_160
  let v167 : BitVec 32 := Scalar.extui v166
  let v168 : BitVec 32 := Scalar.subi v165 v167
  let c9_i32 : BitVec 32 := 9#32
  let c0_i32_161 : BitVec 32 := 0#32
  let v169 : BitVec 1 := Scalar.cmpi .sgt c9_i32 c0_i32_161
  let v170 : BitVec 32 := Scalar.extui v169
  let c0_i32_162 : BitVec 32 := 0#32
  let v171 : BitVec 1 := Scalar.cmpi .slt c9_i32 c0_i32_162
  let v172 : BitVec 32 := Scalar.extui v171
  let v173 : BitVec 32 := Scalar.subi v170 v172
  let v174 : BitVec 1 := Scalar.cmpi .ne v168 v173
  let v175 : BitVec 32 := Scalar.remsi v152 c9_i32
  let c0_i32_163 : BitVec 32 := 0#32
  let v176 : BitVec 1 := Scalar.cmpi .ne v175 c0_i32_163
  let v177 : BitVec 1 := Scalar.andi v174 v176
  let v163 : BitVec 32 := Scalar.divsi v152 c9_i32
  let c1_i32_164 : BitVec 32 := 1#32
  let v178 : BitVec 32 := Scalar.subi v163 c1_i32_164
  let v179 : BitVec 32 := Scalar.select v177 v178 v163
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c8_i32 : BitVec 32 := 8#32
  let v217 : BitVec 32 := Scalar.muli v162 c8_i32
  let v218 : BitVec 32 := Scalar.addi v179 v217
  let v219 : Index := Scalar.indexCast v218
  let c0_i32_165 : BitVec 32 := 0#32
  let v181 : BitVec 1 := Scalar.cmpi .sgt v152 c0_i32_165
  let v182 : BitVec 32 := Scalar.extui v181
  let c0_i32_166 : BitVec 32 := 0#32
  let v183 : BitVec 1 := Scalar.cmpi .slt v152 c0_i32_166
  let v184 : BitVec 32 := Scalar.extui v183
  let v185 : BitVec 32 := Scalar.subi v182 v184
  let c3_i32 : BitVec 32 := 3#32
  let c0_i32_167 : BitVec 32 := 0#32
  let v186 : BitVec 1 := Scalar.cmpi .sgt c3_i32 c0_i32_167
  let v187 : BitVec 32 := Scalar.extui v186
  let c0_i32_168 : BitVec 32 := 0#32
  let v188 : BitVec 1 := Scalar.cmpi .slt c3_i32 c0_i32_168
  let v189 : BitVec 32 := Scalar.extui v188
  let v190 : BitVec 32 := Scalar.subi v187 v189
  let v191 : BitVec 1 := Scalar.cmpi .ne v185 v190
  let v192 : BitVec 32 := Scalar.remsi v152 c3_i32
  let c0_i32_169 : BitVec 32 := 0#32
  let v193 : BitVec 1 := Scalar.cmpi .ne v192 c0_i32_169
  let v194 : BitVec 1 := Scalar.andi v191 v193
  let v180 : BitVec 32 := Scalar.divsi v152 c3_i32
  let c1_i32_170 : BitVec 32 := 1#32
  let v195 : BitVec 32 := Scalar.subi v180 c1_i32_170
  let v196 : BitVec 32 := Scalar.select v194 v195 v180
  let c3_i32_171 : BitVec 32 := 3#32
  let c0_i32_172 : BitVec 32 := 0#32
  let v197 : BitVec 1 := Scalar.cmpi .eq c3_i32_171 c0_i32_172
  let c1_i32_173 : BitVec 32 := 1#32
  let v198 : BitVec 32 := Scalar.select v197 c1_i32_173 c3_i32_171
  let v199 : BitVec 32 := Scalar.remsi v196 v198
  let c0_i32_175 : BitVec 32 := 0#32
  let v201 : BitVec 1 := Scalar.cmpi .slt v199 c0_i32_175
  let c0_i32_176 : BitVec 32 := 0#32
  let v202 : BitVec 1 := Scalar.cmpi .slt v198 c0_i32_176
  let v203 : BitVec 1 := Scalar.xori v201 v202
  let c0_i32_174 : BitVec 32 := 0#32
  let v200 : BitVec 1 := Scalar.cmpi .ne v199 c0_i32_174
  let v204 : BitVec 1 := Scalar.andi v203 v200
  let v205 : BitVec 32 := Scalar.addi v199 v198
  let v206 : BitVec 32 := Scalar.select v204 v205 v199
  let v220 : Index := Scalar.indexCast v206
  let c3_i32_177 : BitVec 32 := 3#32
  let c0_i32_178 : BitVec 32 := 0#32
  let v207 : BitVec 1 := Scalar.cmpi .eq c3_i32_177 c0_i32_178
  let c1_i32_179 : BitVec 32 := 1#32
  let v208 : BitVec 32 := Scalar.select v207 c1_i32_179 c3_i32_177
  let v209 : BitVec 32 := Scalar.remsi v152 v208
  let c0_i32_181 : BitVec 32 := 0#32
  let v211 : BitVec 1 := Scalar.cmpi .slt v209 c0_i32_181
  let c0_i32_182 : BitVec 32 := 0#32
  let v212 : BitVec 1 := Scalar.cmpi .slt v208 c0_i32_182
  let v213 : BitVec 1 := Scalar.xori v211 v212
  let c0_i32_180 : BitVec 32 := 0#32
  let v210 : BitVec 1 := Scalar.cmpi .ne v209 c0_i32_180
  let v214 : BitVec 1 := Scalar.andi v213 v210
  let v215 : BitVec 32 := Scalar.addi v209 v208
  let v216 : BitVec 32 := Scalar.select v214 v215 v209
  let v221 : Index := Scalar.indexCast v216
  let c0_183 : Index := 0#32
  ![v219.toNat, v220.toNat, v221.toNat, 0]
def k0_off5 (k0_t2 : Fin k0_t2_loop.trips) : Fin 2 → Nat :=
  let c0_i32_36 : BitVec 32 := 0#32
  let c1_i32_38 : BitVec 32 := 1#32
  let arg13 : BitVec 32 := Scf.iv c0_i32_36 c1_i32_38 k0_t2
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c18432_i32 : BitVec 32 := 18432#32
  let v223 : BitVec 32 := Scalar.muli v162 c18432_i32
  let v224 : Index := Scalar.indexCast v223
  let c0_184 : Index := 0#32
  ![v224.toNat, 0]
def k0_off6 (k0_t2 : Fin k0_t2_loop.trips) : Fin 4 → Nat :=
  let c0_185 : Index := 0#32
  let c0_i32_36 : BitVec 32 := 0#32
  let c1_i32_38 : BitVec 32 := 1#32
  let arg13 : BitVec 32 := Scf.iv c0_i32_36 c1_i32_38 k0_t2
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let v227 : Index := Scalar.indexCast v152
  let c0_186 : Index := 0#32
  let c0_187 : Index := 0#32
  ![0, v227.toNat, 0, 0]
@[reducible] def k0_t3_loop : Scf.Loop 32 :=
  let c0_i32_58 : BitVec 32 := 0#32
  let c27_i32_59 : BitVec 32 := 27#32
  let v59 : BitVec 32 := Scalar.addi c0_i32_58 c27_i32_59
  let c1_i32_60 : BitVec 32 := 1#32
  ⟨c0_i32_58, v59, c1_i32_60⟩
def k0_off7 (k0_t3 : Fin k0_t3_loop.trips) : Fin 4 → Nat :=
  let c0_i32_58 : BitVec 32 := 0#32
  let c1_i32_60 : BitVec 32 := 1#32
  let arg13 : BitVec 32 := Scf.iv c0_i32_58 c1_i32_60 k0_t3
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let c0_i32_159 : BitVec 32 := 0#32
  let v164 : BitVec 1 := Scalar.cmpi .sgt v152 c0_i32_159
  let v165 : BitVec 32 := Scalar.extui v164
  let c0_i32_160 : BitVec 32 := 0#32
  let v166 : BitVec 1 := Scalar.cmpi .slt v152 c0_i32_160
  let v167 : BitVec 32 := Scalar.extui v166
  let v168 : BitVec 32 := Scalar.subi v165 v167
  let c9_i32 : BitVec 32 := 9#32
  let c0_i32_161 : BitVec 32 := 0#32
  let v169 : BitVec 1 := Scalar.cmpi .sgt c9_i32 c0_i32_161
  let v170 : BitVec 32 := Scalar.extui v169
  let c0_i32_162 : BitVec 32 := 0#32
  let v171 : BitVec 1 := Scalar.cmpi .slt c9_i32 c0_i32_162
  let v172 : BitVec 32 := Scalar.extui v171
  let v173 : BitVec 32 := Scalar.subi v170 v172
  let v174 : BitVec 1 := Scalar.cmpi .ne v168 v173
  let v175 : BitVec 32 := Scalar.remsi v152 c9_i32
  let c0_i32_163 : BitVec 32 := 0#32
  let v176 : BitVec 1 := Scalar.cmpi .ne v175 c0_i32_163
  let v177 : BitVec 1 := Scalar.andi v174 v176
  let v163 : BitVec 32 := Scalar.divsi v152 c9_i32
  let c1_i32_164 : BitVec 32 := 1#32
  let v178 : BitVec 32 := Scalar.subi v163 c1_i32_164
  let v179 : BitVec 32 := Scalar.select v177 v178 v163
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c8_i32 : BitVec 32 := 8#32
  let v217 : BitVec 32 := Scalar.muli v162 c8_i32
  let v218 : BitVec 32 := Scalar.addi v179 v217
  let v219 : Index := Scalar.indexCast v218
  let c0_i32_165 : BitVec 32 := 0#32
  let v181 : BitVec 1 := Scalar.cmpi .sgt v152 c0_i32_165
  let v182 : BitVec 32 := Scalar.extui v181
  let c0_i32_166 : BitVec 32 := 0#32
  let v183 : BitVec 1 := Scalar.cmpi .slt v152 c0_i32_166
  let v184 : BitVec 32 := Scalar.extui v183
  let v185 : BitVec 32 := Scalar.subi v182 v184
  let c3_i32 : BitVec 32 := 3#32
  let c0_i32_167 : BitVec 32 := 0#32
  let v186 : BitVec 1 := Scalar.cmpi .sgt c3_i32 c0_i32_167
  let v187 : BitVec 32 := Scalar.extui v186
  let c0_i32_168 : BitVec 32 := 0#32
  let v188 : BitVec 1 := Scalar.cmpi .slt c3_i32 c0_i32_168
  let v189 : BitVec 32 := Scalar.extui v188
  let v190 : BitVec 32 := Scalar.subi v187 v189
  let v191 : BitVec 1 := Scalar.cmpi .ne v185 v190
  let v192 : BitVec 32 := Scalar.remsi v152 c3_i32
  let c0_i32_169 : BitVec 32 := 0#32
  let v193 : BitVec 1 := Scalar.cmpi .ne v192 c0_i32_169
  let v194 : BitVec 1 := Scalar.andi v191 v193
  let v180 : BitVec 32 := Scalar.divsi v152 c3_i32
  let c1_i32_170 : BitVec 32 := 1#32
  let v195 : BitVec 32 := Scalar.subi v180 c1_i32_170
  let v196 : BitVec 32 := Scalar.select v194 v195 v180
  let c3_i32_171 : BitVec 32 := 3#32
  let c0_i32_172 : BitVec 32 := 0#32
  let v197 : BitVec 1 := Scalar.cmpi .eq c3_i32_171 c0_i32_172
  let c1_i32_173 : BitVec 32 := 1#32
  let v198 : BitVec 32 := Scalar.select v197 c1_i32_173 c3_i32_171
  let v199 : BitVec 32 := Scalar.remsi v196 v198
  let c0_i32_175 : BitVec 32 := 0#32
  let v201 : BitVec 1 := Scalar.cmpi .slt v199 c0_i32_175
  let c0_i32_176 : BitVec 32 := 0#32
  let v202 : BitVec 1 := Scalar.cmpi .slt v198 c0_i32_176
  let v203 : BitVec 1 := Scalar.xori v201 v202
  let c0_i32_174 : BitVec 32 := 0#32
  let v200 : BitVec 1 := Scalar.cmpi .ne v199 c0_i32_174
  let v204 : BitVec 1 := Scalar.andi v203 v200
  let v205 : BitVec 32 := Scalar.addi v199 v198
  let v206 : BitVec 32 := Scalar.select v204 v205 v199
  let v220 : Index := Scalar.indexCast v206
  let c3_i32_177 : BitVec 32 := 3#32
  let c0_i32_178 : BitVec 32 := 0#32
  let v207 : BitVec 1 := Scalar.cmpi .eq c3_i32_177 c0_i32_178
  let c1_i32_179 : BitVec 32 := 1#32
  let v208 : BitVec 32 := Scalar.select v207 c1_i32_179 c3_i32_177
  let v209 : BitVec 32 := Scalar.remsi v152 v208
  let c0_i32_181 : BitVec 32 := 0#32
  let v211 : BitVec 1 := Scalar.cmpi .slt v209 c0_i32_181
  let c0_i32_182 : BitVec 32 := 0#32
  let v212 : BitVec 1 := Scalar.cmpi .slt v208 c0_i32_182
  let v213 : BitVec 1 := Scalar.xori v211 v212
  let c0_i32_180 : BitVec 32 := 0#32
  let v210 : BitVec 1 := Scalar.cmpi .ne v209 c0_i32_180
  let v214 : BitVec 1 := Scalar.andi v213 v210
  let v215 : BitVec 32 := Scalar.addi v209 v208
  let v216 : BitVec 32 := Scalar.select v214 v215 v209
  let v221 : Index := Scalar.indexCast v216
  let c0_183 : Index := 0#32
  ![v219.toNat, v220.toNat, v221.toNat, 0]
def k0_off8 (k0_t3 : Fin k0_t3_loop.trips) : Fin 2 → Nat :=
  let c0_i32_58 : BitVec 32 := 0#32
  let c1_i32_60 : BitVec 32 := 1#32
  let arg13 : BitVec 32 := Scf.iv c0_i32_58 c1_i32_60 k0_t3
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c18432_i32 : BitVec 32 := 18432#32
  let v223 : BitVec 32 := Scalar.muli v162 c18432_i32
  let v224 : Index := Scalar.indexCast v223
  let c0_184 : Index := 0#32
  ![v224.toNat, 0]
def k0_off9 (k0_t3 : Fin k0_t3_loop.trips) : Fin 4 → Nat :=
  let c0_185 : Index := 0#32
  let c0_i32_58 : BitVec 32 := 0#32
  let c1_i32_60 : BitVec 32 := 1#32
  let arg13 : BitVec 32 := Scf.iv c0_i32_58 c1_i32_60 k0_t3
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let v227 : Index := Scalar.indexCast v152
  let c0_186 : Index := 0#32
  let c0_187 : Index := 0#32
  ![0, v227.toNat, 0, 0]
@[reducible] def k0_t4_loop : Scf.Loop 32 :=
  let c0_i32_85 : BitVec 32 := 0#32
  let c27_i32_86 : BitVec 32 := 27#32
  let v83 : BitVec 32 := Scalar.addi c0_i32_85 c27_i32_86
  let c1_i32_87 : BitVec 32 := 1#32
  ⟨c0_i32_85, v83, c1_i32_87⟩
def k0_off10 (k0_t4 : Fin k0_t4_loop.trips) : Fin 4 → Nat :=
  let c0_i32_85 : BitVec 32 := 0#32
  let c1_i32_87 : BitVec 32 := 1#32
  let arg13 : BitVec 32 := Scf.iv c0_i32_85 c1_i32_87 k0_t4
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let c0_i32_159 : BitVec 32 := 0#32
  let v164 : BitVec 1 := Scalar.cmpi .sgt v152 c0_i32_159
  let v165 : BitVec 32 := Scalar.extui v164
  let c0_i32_160 : BitVec 32 := 0#32
  let v166 : BitVec 1 := Scalar.cmpi .slt v152 c0_i32_160
  let v167 : BitVec 32 := Scalar.extui v166
  let v168 : BitVec 32 := Scalar.subi v165 v167
  let c9_i32 : BitVec 32 := 9#32
  let c0_i32_161 : BitVec 32 := 0#32
  let v169 : BitVec 1 := Scalar.cmpi .sgt c9_i32 c0_i32_161
  let v170 : BitVec 32 := Scalar.extui v169
  let c0_i32_162 : BitVec 32 := 0#32
  let v171 : BitVec 1 := Scalar.cmpi .slt c9_i32 c0_i32_162
  let v172 : BitVec 32 := Scalar.extui v171
  let v173 : BitVec 32 := Scalar.subi v170 v172
  let v174 : BitVec 1 := Scalar.cmpi .ne v168 v173
  let v175 : BitVec 32 := Scalar.remsi v152 c9_i32
  let c0_i32_163 : BitVec 32 := 0#32
  let v176 : BitVec 1 := Scalar.cmpi .ne v175 c0_i32_163
  let v177 : BitVec 1 := Scalar.andi v174 v176
  let v163 : BitVec 32 := Scalar.divsi v152 c9_i32
  let c1_i32_164 : BitVec 32 := 1#32
  let v178 : BitVec 32 := Scalar.subi v163 c1_i32_164
  let v179 : BitVec 32 := Scalar.select v177 v178 v163
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c8_i32 : BitVec 32 := 8#32
  let v217 : BitVec 32 := Scalar.muli v162 c8_i32
  let v218 : BitVec 32 := Scalar.addi v179 v217
  let v219 : Index := Scalar.indexCast v218
  let c0_i32_165 : BitVec 32 := 0#32
  let v181 : BitVec 1 := Scalar.cmpi .sgt v152 c0_i32_165
  let v182 : BitVec 32 := Scalar.extui v181
  let c0_i32_166 : BitVec 32 := 0#32
  let v183 : BitVec 1 := Scalar.cmpi .slt v152 c0_i32_166
  let v184 : BitVec 32 := Scalar.extui v183
  let v185 : BitVec 32 := Scalar.subi v182 v184
  let c3_i32 : BitVec 32 := 3#32
  let c0_i32_167 : BitVec 32 := 0#32
  let v186 : BitVec 1 := Scalar.cmpi .sgt c3_i32 c0_i32_167
  let v187 : BitVec 32 := Scalar.extui v186
  let c0_i32_168 : BitVec 32 := 0#32
  let v188 : BitVec 1 := Scalar.cmpi .slt c3_i32 c0_i32_168
  let v189 : BitVec 32 := Scalar.extui v188
  let v190 : BitVec 32 := Scalar.subi v187 v189
  let v191 : BitVec 1 := Scalar.cmpi .ne v185 v190
  let v192 : BitVec 32 := Scalar.remsi v152 c3_i32
  let c0_i32_169 : BitVec 32 := 0#32
  let v193 : BitVec 1 := Scalar.cmpi .ne v192 c0_i32_169
  let v194 : BitVec 1 := Scalar.andi v191 v193
  let v180 : BitVec 32 := Scalar.divsi v152 c3_i32
  let c1_i32_170 : BitVec 32 := 1#32
  let v195 : BitVec 32 := Scalar.subi v180 c1_i32_170
  let v196 : BitVec 32 := Scalar.select v194 v195 v180
  let c3_i32_171 : BitVec 32 := 3#32
  let c0_i32_172 : BitVec 32 := 0#32
  let v197 : BitVec 1 := Scalar.cmpi .eq c3_i32_171 c0_i32_172
  let c1_i32_173 : BitVec 32 := 1#32
  let v198 : BitVec 32 := Scalar.select v197 c1_i32_173 c3_i32_171
  let v199 : BitVec 32 := Scalar.remsi v196 v198
  let c0_i32_175 : BitVec 32 := 0#32
  let v201 : BitVec 1 := Scalar.cmpi .slt v199 c0_i32_175
  let c0_i32_176 : BitVec 32 := 0#32
  let v202 : BitVec 1 := Scalar.cmpi .slt v198 c0_i32_176
  let v203 : BitVec 1 := Scalar.xori v201 v202
  let c0_i32_174 : BitVec 32 := 0#32
  let v200 : BitVec 1 := Scalar.cmpi .ne v199 c0_i32_174
  let v204 : BitVec 1 := Scalar.andi v203 v200
  let v205 : BitVec 32 := Scalar.addi v199 v198
  let v206 : BitVec 32 := Scalar.select v204 v205 v199
  let v220 : Index := Scalar.indexCast v206
  let c3_i32_177 : BitVec 32 := 3#32
  let c0_i32_178 : BitVec 32 := 0#32
  let v207 : BitVec 1 := Scalar.cmpi .eq c3_i32_177 c0_i32_178
  let c1_i32_179 : BitVec 32 := 1#32
  let v208 : BitVec 32 := Scalar.select v207 c1_i32_179 c3_i32_177
  let v209 : BitVec 32 := Scalar.remsi v152 v208
  let c0_i32_181 : BitVec 32 := 0#32
  let v211 : BitVec 1 := Scalar.cmpi .slt v209 c0_i32_181
  let c0_i32_182 : BitVec 32 := 0#32
  let v212 : BitVec 1 := Scalar.cmpi .slt v208 c0_i32_182
  let v213 : BitVec 1 := Scalar.xori v211 v212
  let c0_i32_180 : BitVec 32 := 0#32
  let v210 : BitVec 1 := Scalar.cmpi .ne v209 c0_i32_180
  let v214 : BitVec 1 := Scalar.andi v213 v210
  let v215 : BitVec 32 := Scalar.addi v209 v208
  let v216 : BitVec 32 := Scalar.select v214 v215 v209
  let v221 : Index := Scalar.indexCast v216
  let c0_183 : Index := 0#32
  ![v219.toNat, v220.toNat, v221.toNat, 0]
def k0_off11 (k0_t4 : Fin k0_t4_loop.trips) : Fin 2 → Nat :=
  let c0_i32_85 : BitVec 32 := 0#32
  let c1_i32_87 : BitVec 32 := 1#32
  let arg13 : BitVec 32 := Scf.iv c0_i32_85 c1_i32_87 k0_t4
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c18432_i32 : BitVec 32 := 18432#32
  let v223 : BitVec 32 := Scalar.muli v162 c18432_i32
  let v224 : Index := Scalar.indexCast v223
  let c0_184 : Index := 0#32
  ![v224.toNat, 0]
def k0_off12 (k0_t4 : Fin k0_t4_loop.trips) : Fin 4 → Nat :=
  let c1_185 : Index := 1#32
  let c0_i32_85 : BitVec 32 := 0#32
  let c1_i32_87 : BitVec 32 := 1#32
  let arg13 : BitVec 32 := Scf.iv c0_i32_85 c1_i32_87 k0_t4
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let v227 : Index := Scalar.indexCast v152
  let c0_186 : Index := 0#32
  let c0_187 : Index := 0#32
  ![1, v227.toNat, 0, 0]
@[reducible] def k0_t5_loop : Scf.Loop 32 :=
  let c0_i32_107 : BitVec 32 := 0#32
  let c27_i32_108 : BitVec 32 := 27#32
  let v103 : BitVec 32 := Scalar.addi c0_i32_107 c27_i32_108
  let c1_i32_109 : BitVec 32 := 1#32
  ⟨c0_i32_107, v103, c1_i32_109⟩
def k0_off13 (k0_t5 : Fin k0_t5_loop.trips) : Fin 4 → Nat :=
  let c0_i32_107 : BitVec 32 := 0#32
  let c1_i32_109 : BitVec 32 := 1#32
  let arg13 : BitVec 32 := Scf.iv c0_i32_107 c1_i32_109 k0_t5
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let c0_i32_159 : BitVec 32 := 0#32
  let v164 : BitVec 1 := Scalar.cmpi .sgt v152 c0_i32_159
  let v165 : BitVec 32 := Scalar.extui v164
  let c0_i32_160 : BitVec 32 := 0#32
  let v166 : BitVec 1 := Scalar.cmpi .slt v152 c0_i32_160
  let v167 : BitVec 32 := Scalar.extui v166
  let v168 : BitVec 32 := Scalar.subi v165 v167
  let c9_i32 : BitVec 32 := 9#32
  let c0_i32_161 : BitVec 32 := 0#32
  let v169 : BitVec 1 := Scalar.cmpi .sgt c9_i32 c0_i32_161
  let v170 : BitVec 32 := Scalar.extui v169
  let c0_i32_162 : BitVec 32 := 0#32
  let v171 : BitVec 1 := Scalar.cmpi .slt c9_i32 c0_i32_162
  let v172 : BitVec 32 := Scalar.extui v171
  let v173 : BitVec 32 := Scalar.subi v170 v172
  let v174 : BitVec 1 := Scalar.cmpi .ne v168 v173
  let v175 : BitVec 32 := Scalar.remsi v152 c9_i32
  let c0_i32_163 : BitVec 32 := 0#32
  let v176 : BitVec 1 := Scalar.cmpi .ne v175 c0_i32_163
  let v177 : BitVec 1 := Scalar.andi v174 v176
  let v163 : BitVec 32 := Scalar.divsi v152 c9_i32
  let c1_i32_164 : BitVec 32 := 1#32
  let v178 : BitVec 32 := Scalar.subi v163 c1_i32_164
  let v179 : BitVec 32 := Scalar.select v177 v178 v163
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c8_i32 : BitVec 32 := 8#32
  let v217 : BitVec 32 := Scalar.muli v162 c8_i32
  let v218 : BitVec 32 := Scalar.addi v179 v217
  let v219 : Index := Scalar.indexCast v218
  let c0_i32_165 : BitVec 32 := 0#32
  let v181 : BitVec 1 := Scalar.cmpi .sgt v152 c0_i32_165
  let v182 : BitVec 32 := Scalar.extui v181
  let c0_i32_166 : BitVec 32 := 0#32
  let v183 : BitVec 1 := Scalar.cmpi .slt v152 c0_i32_166
  let v184 : BitVec 32 := Scalar.extui v183
  let v185 : BitVec 32 := Scalar.subi v182 v184
  let c3_i32 : BitVec 32 := 3#32
  let c0_i32_167 : BitVec 32 := 0#32
  let v186 : BitVec 1 := Scalar.cmpi .sgt c3_i32 c0_i32_167
  let v187 : BitVec 32 := Scalar.extui v186
  let c0_i32_168 : BitVec 32 := 0#32
  let v188 : BitVec 1 := Scalar.cmpi .slt c3_i32 c0_i32_168
  let v189 : BitVec 32 := Scalar.extui v188
  let v190 : BitVec 32 := Scalar.subi v187 v189
  let v191 : BitVec 1 := Scalar.cmpi .ne v185 v190
  let v192 : BitVec 32 := Scalar.remsi v152 c3_i32
  let c0_i32_169 : BitVec 32 := 0#32
  let v193 : BitVec 1 := Scalar.cmpi .ne v192 c0_i32_169
  let v194 : BitVec 1 := Scalar.andi v191 v193
  let v180 : BitVec 32 := Scalar.divsi v152 c3_i32
  let c1_i32_170 : BitVec 32 := 1#32
  let v195 : BitVec 32 := Scalar.subi v180 c1_i32_170
  let v196 : BitVec 32 := Scalar.select v194 v195 v180
  let c3_i32_171 : BitVec 32 := 3#32
  let c0_i32_172 : BitVec 32 := 0#32
  let v197 : BitVec 1 := Scalar.cmpi .eq c3_i32_171 c0_i32_172
  let c1_i32_173 : BitVec 32 := 1#32
  let v198 : BitVec 32 := Scalar.select v197 c1_i32_173 c3_i32_171
  let v199 : BitVec 32 := Scalar.remsi v196 v198
  let c0_i32_175 : BitVec 32 := 0#32
  let v201 : BitVec 1 := Scalar.cmpi .slt v199 c0_i32_175
  let c0_i32_176 : BitVec 32 := 0#32
  let v202 : BitVec 1 := Scalar.cmpi .slt v198 c0_i32_176
  let v203 : BitVec 1 := Scalar.xori v201 v202
  let c0_i32_174 : BitVec 32 := 0#32
  let v200 : BitVec 1 := Scalar.cmpi .ne v199 c0_i32_174
  let v204 : BitVec 1 := Scalar.andi v203 v200
  let v205 : BitVec 32 := Scalar.addi v199 v198
  let v206 : BitVec 32 := Scalar.select v204 v205 v199
  let v220 : Index := Scalar.indexCast v206
  let c3_i32_177 : BitVec 32 := 3#32
  let c0_i32_178 : BitVec 32 := 0#32
  let v207 : BitVec 1 := Scalar.cmpi .eq c3_i32_177 c0_i32_178
  let c1_i32_179 : BitVec 32 := 1#32
  let v208 : BitVec 32 := Scalar.select v207 c1_i32_179 c3_i32_177
  let v209 : BitVec 32 := Scalar.remsi v152 v208
  let c0_i32_181 : BitVec 32 := 0#32
  let v211 : BitVec 1 := Scalar.cmpi .slt v209 c0_i32_181
  let c0_i32_182 : BitVec 32 := 0#32
  let v212 : BitVec 1 := Scalar.cmpi .slt v208 c0_i32_182
  let v213 : BitVec 1 := Scalar.xori v211 v212
  let c0_i32_180 : BitVec 32 := 0#32
  let v210 : BitVec 1 := Scalar.cmpi .ne v209 c0_i32_180
  let v214 : BitVec 1 := Scalar.andi v213 v210
  let v215 : BitVec 32 := Scalar.addi v209 v208
  let v216 : BitVec 32 := Scalar.select v214 v215 v209
  let v221 : Index := Scalar.indexCast v216
  let c0_183 : Index := 0#32
  ![v219.toNat, v220.toNat, v221.toNat, 0]
def k0_off14 (k0_t5 : Fin k0_t5_loop.trips) : Fin 2 → Nat :=
  let c0_i32_107 : BitVec 32 := 0#32
  let c1_i32_109 : BitVec 32 := 1#32
  let arg13 : BitVec 32 := Scf.iv c0_i32_107 c1_i32_109 k0_t5
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c18432_i32 : BitVec 32 := 18432#32
  let v223 : BitVec 32 := Scalar.muli v162 c18432_i32
  let v224 : Index := Scalar.indexCast v223
  let c0_184 : Index := 0#32
  ![v224.toNat, 0]
def k0_off15 (k0_t5 : Fin k0_t5_loop.trips) : Fin 4 → Nat :=
  let c1_185 : Index := 1#32
  let c0_i32_107 : BitVec 32 := 0#32
  let c1_i32_109 : BitVec 32 := 1#32
  let arg13 : BitVec 32 := Scf.iv c0_i32_107 c1_i32_109 k0_t5
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let v227 : Index := Scalar.indexCast v152
  let c0_186 : Index := 0#32
  let c0_187 : Index := 0#32
  ![1, v227.toNat, 0, 0]
@[reducible] def k0_t6_loop : Scf.Loop 32 :=
  let c0_i32_134 : BitVec 32 := 0#32
  let c27_i32_135 : BitVec 32 := 27#32
  let v127 : BitVec 32 := Scalar.addi c0_i32_134 c27_i32_135
  let c1_i32_136 : BitVec 32 := 1#32
  ⟨c0_i32_134, v127, c1_i32_136⟩
def k0_off16 (k0_t6 : Fin k0_t6_loop.trips) : Fin 4 → Nat :=
  let c0_i32_134 : BitVec 32 := 0#32
  let c1_i32_136 : BitVec 32 := 1#32
  let arg13 : BitVec 32 := Scf.iv c0_i32_134 c1_i32_136 k0_t6
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let c0_i32_159 : BitVec 32 := 0#32
  let v164 : BitVec 1 := Scalar.cmpi .sgt v152 c0_i32_159
  let v165 : BitVec 32 := Scalar.extui v164
  let c0_i32_160 : BitVec 32 := 0#32
  let v166 : BitVec 1 := Scalar.cmpi .slt v152 c0_i32_160
  let v167 : BitVec 32 := Scalar.extui v166
  let v168 : BitVec 32 := Scalar.subi v165 v167
  let c9_i32 : BitVec 32 := 9#32
  let c0_i32_161 : BitVec 32 := 0#32
  let v169 : BitVec 1 := Scalar.cmpi .sgt c9_i32 c0_i32_161
  let v170 : BitVec 32 := Scalar.extui v169
  let c0_i32_162 : BitVec 32 := 0#32
  let v171 : BitVec 1 := Scalar.cmpi .slt c9_i32 c0_i32_162
  let v172 : BitVec 32 := Scalar.extui v171
  let v173 : BitVec 32 := Scalar.subi v170 v172
  let v174 : BitVec 1 := Scalar.cmpi .ne v168 v173
  let v175 : BitVec 32 := Scalar.remsi v152 c9_i32
  let c0_i32_163 : BitVec 32 := 0#32
  let v176 : BitVec 1 := Scalar.cmpi .ne v175 c0_i32_163
  let v177 : BitVec 1 := Scalar.andi v174 v176
  let v163 : BitVec 32 := Scalar.divsi v152 c9_i32
  let c1_i32_164 : BitVec 32 := 1#32
  let v178 : BitVec 32 := Scalar.subi v163 c1_i32_164
  let v179 : BitVec 32 := Scalar.select v177 v178 v163
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c8_i32 : BitVec 32 := 8#32
  let v217 : BitVec 32 := Scalar.muli v162 c8_i32
  let v218 : BitVec 32 := Scalar.addi v179 v217
  let v219 : Index := Scalar.indexCast v218
  let c0_i32_165 : BitVec 32 := 0#32
  let v181 : BitVec 1 := Scalar.cmpi .sgt v152 c0_i32_165
  let v182 : BitVec 32 := Scalar.extui v181
  let c0_i32_166 : BitVec 32 := 0#32
  let v183 : BitVec 1 := Scalar.cmpi .slt v152 c0_i32_166
  let v184 : BitVec 32 := Scalar.extui v183
  let v185 : BitVec 32 := Scalar.subi v182 v184
  let c3_i32 : BitVec 32 := 3#32
  let c0_i32_167 : BitVec 32 := 0#32
  let v186 : BitVec 1 := Scalar.cmpi .sgt c3_i32 c0_i32_167
  let v187 : BitVec 32 := Scalar.extui v186
  let c0_i32_168 : BitVec 32 := 0#32
  let v188 : BitVec 1 := Scalar.cmpi .slt c3_i32 c0_i32_168
  let v189 : BitVec 32 := Scalar.extui v188
  let v190 : BitVec 32 := Scalar.subi v187 v189
  let v191 : BitVec 1 := Scalar.cmpi .ne v185 v190
  let v192 : BitVec 32 := Scalar.remsi v152 c3_i32
  let c0_i32_169 : BitVec 32 := 0#32
  let v193 : BitVec 1 := Scalar.cmpi .ne v192 c0_i32_169
  let v194 : BitVec 1 := Scalar.andi v191 v193
  let v180 : BitVec 32 := Scalar.divsi v152 c3_i32
  let c1_i32_170 : BitVec 32 := 1#32
  let v195 : BitVec 32 := Scalar.subi v180 c1_i32_170
  let v196 : BitVec 32 := Scalar.select v194 v195 v180
  let c3_i32_171 : BitVec 32 := 3#32
  let c0_i32_172 : BitVec 32 := 0#32
  let v197 : BitVec 1 := Scalar.cmpi .eq c3_i32_171 c0_i32_172
  let c1_i32_173 : BitVec 32 := 1#32
  let v198 : BitVec 32 := Scalar.select v197 c1_i32_173 c3_i32_171
  let v199 : BitVec 32 := Scalar.remsi v196 v198
  let c0_i32_175 : BitVec 32 := 0#32
  let v201 : BitVec 1 := Scalar.cmpi .slt v199 c0_i32_175
  let c0_i32_176 : BitVec 32 := 0#32
  let v202 : BitVec 1 := Scalar.cmpi .slt v198 c0_i32_176
  let v203 : BitVec 1 := Scalar.xori v201 v202
  let c0_i32_174 : BitVec 32 := 0#32
  let v200 : BitVec 1 := Scalar.cmpi .ne v199 c0_i32_174
  let v204 : BitVec 1 := Scalar.andi v203 v200
  let v205 : BitVec 32 := Scalar.addi v199 v198
  let v206 : BitVec 32 := Scalar.select v204 v205 v199
  let v220 : Index := Scalar.indexCast v206
  let c3_i32_177 : BitVec 32 := 3#32
  let c0_i32_178 : BitVec 32 := 0#32
  let v207 : BitVec 1 := Scalar.cmpi .eq c3_i32_177 c0_i32_178
  let c1_i32_179 : BitVec 32 := 1#32
  let v208 : BitVec 32 := Scalar.select v207 c1_i32_179 c3_i32_177
  let v209 : BitVec 32 := Scalar.remsi v152 v208
  let c0_i32_181 : BitVec 32 := 0#32
  let v211 : BitVec 1 := Scalar.cmpi .slt v209 c0_i32_181
  let c0_i32_182 : BitVec 32 := 0#32
  let v212 : BitVec 1 := Scalar.cmpi .slt v208 c0_i32_182
  let v213 : BitVec 1 := Scalar.xori v211 v212
  let c0_i32_180 : BitVec 32 := 0#32
  let v210 : BitVec 1 := Scalar.cmpi .ne v209 c0_i32_180
  let v214 : BitVec 1 := Scalar.andi v213 v210
  let v215 : BitVec 32 := Scalar.addi v209 v208
  let v216 : BitVec 32 := Scalar.select v214 v215 v209
  let v221 : Index := Scalar.indexCast v216
  let c0_183 : Index := 0#32
  ![v219.toNat, v220.toNat, v221.toNat, 0]
def k0_off17 (k0_t6 : Fin k0_t6_loop.trips) : Fin 2 → Nat :=
  let c0_i32_134 : BitVec 32 := 0#32
  let c1_i32_136 : BitVec 32 := 1#32
  let arg13 : BitVec 32 := Scf.iv c0_i32_134 c1_i32_136 k0_t6
  let c1_i32_153 : BitVec 32 := 1#32
  let c0_i32_154 : BitVec 32 := 0#32
  let v153 : BitVec 1 := Scalar.cmpi .eq c1_i32_153 c0_i32_154
  let c1_i32_155 : BitVec 32 := 1#32
  let v154 : BitVec 32 := Scalar.select v153 c1_i32_155 c1_i32_153
  let v155 : BitVec 32 := Scalar.remsi arg13 v154
  let c0_i32_157 : BitVec 32 := 0#32
  let v157 : BitVec 1 := Scalar.cmpi .slt v155 c0_i32_157
  let c0_i32_158 : BitVec 32 := 0#32
  let v158 : BitVec 1 := Scalar.cmpi .slt v154 c0_i32_158
  let v159 : BitVec 1 := Scalar.xori v157 v158
  let c0_i32_156 : BitVec 32 := 0#32
  let v156 : BitVec 1 := Scalar.cmpi .ne v155 c0_i32_156
  let v160 : BitVec 1 := Scalar.andi v159 v156
  let v161 : BitVec 32 := Scalar.addi v155 v154
  let v162 : BitVec 32 := Scalar.select v160 v161 v155
  let c18432_i32 : BitVec 32 := 18432#32
  let v223 : BitVec 32 := Scalar.muli v162 c18432_i32
  let v224 : Index := Scalar.indexCast v223
  let c0_184 : Index := 0#32
  ![v224.toNat, 0]
def k0_off18 (k0_t6 : Fin k0_t6_loop.trips) : Fin 3 → Nat :=
  let c0_i32_134 : BitVec 32 := 0#32
  let c1_i32_136 : BitVec 32 := 1#32
  let arg13 : BitVec 32 := Scf.iv c0_i32_134 c1_i32_136 k0_t6
  let c0_i32_147 : BitVec 32 := 0#32
  let v137 : BitVec 1 := Scalar.cmpi .sgt arg13 c0_i32_147
  let v138 : BitVec 32 := Scalar.extui v137
  let c0_i32_148 : BitVec 32 := 0#32
  let v139 : BitVec 1 := Scalar.cmpi .slt arg13 c0_i32_148
  let v140 : BitVec 32 := Scalar.extui v139
  let v141 : BitVec 32 := Scalar.subi v138 v140
  let c1_i32_146 : BitVec 32 := 1#32
  let c0_i32_149 : BitVec 32 := 0#32
  let v142 : BitVec 1 := Scalar.cmpi .sgt c1_i32_146 c0_i32_149
  let v143 : BitVec 32 := Scalar.extui v142
  let c0_i32_150 : BitVec 32 := 0#32
  let v144 : BitVec 1 := Scalar.cmpi .slt c1_i32_146 c0_i32_150
  let v145 : BitVec 32 := Scalar.extui v144
  let v146 : BitVec 32 := Scalar.subi v143 v145
  let v147 : BitVec 1 := Scalar.cmpi .ne v141 v146
  let v148 : BitVec 32 := Scalar.remsi arg13 c1_i32_146
  let c0_i32_151 : BitVec 32 := 0#32
  let v149 : BitVec 1 := Scalar.cmpi .ne v148 c0_i32_151
  let v150 : BitVec 1 := Scalar.andi v147 v149
  let v136 : BitVec 32 := Scalar.divsi arg13 c1_i32_146
  let c1_i32_152 : BitVec 32 := 1#32
  let v151 : BitVec 32 := Scalar.subi v136 c1_i32_152
  let v152 : BitVec 32 := Scalar.select v150 v151 v136
  let v227 : Index := Scalar.indexCast v152
  let c0_185 : Index := 0#32
  let c0_186 : Index := 0#32
  ![v227.toNat, 0, 0]
abbrev stage0_0 : Fin 1 → Memref sig .tc .vmem S18432x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x27x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x27x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S27x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S18432x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S1x1x8x48x48 : Shape := ⟨5, ![1, 1, 8, 48, 48]⟩
abbrev S64x1x3x3x3 : Shape := ⟨5, ![64, 1, 3, 3, 3]⟩
abbrev S64 : Shape := ⟨1, ![64]⟩
abbrev S2x64x64x3x3x3 : Shape := ⟨6, ![2, 64, 64, 3, 3, 3]⟩
abbrev S2x64 : Shape := ⟨2, ![2, 64]⟩
abbrev S64x64x3x3x3 : Shape := ⟨5, ![64, 64, 3, 3, 3]⟩
abbrev S1x4096x3 : Shape := ⟨3, ![1, 4096, 3]⟩
abbrev S1x8x48x48 : Shape := ⟨4, ![1, 8, 48, 48]⟩
abbrev S_ : Shape := ⟨0, ![]⟩
abbrev S1x10x50x50 : Shape := ⟨4, ![1, 10, 50, 50]⟩
abbrev S1x8x50x50 : Shape := ⟨4, ![1, 8, 50, 50]⟩
abbrev S1x1x8x50x50 : Shape := ⟨5, ![1, 1, 8, 50, 50]⟩
abbrev S3x1x8x50x50 : Shape := ⟨5, ![3, 1, 8, 50, 50]⟩
abbrev S3x1x8x48x50 : Shape := ⟨5, ![3, 1, 8, 48, 50]⟩
abbrev S1x3x1x8x48x50 : Shape := ⟨6, ![1, 3, 1, 8, 48, 50]⟩
abbrev S3x3x1x8x48x50 : Shape := ⟨6, ![3, 3, 1, 8, 48, 50]⟩
abbrev S3x3x1x8x48x48 : Shape := ⟨6, ![3, 3, 1, 8, 48, 48]⟩
abbrev S1x3x3x1x8x48x48 : Shape := ⟨7, ![1, 3, 3, 1, 8, 48, 48]⟩
abbrev S3x3x3x1x8x48x48 : Shape := ⟨7, ![3, 3, 3, 1, 8, 48, 48]⟩
abbrev S64x8x48x48 : Shape := ⟨4, ![64, 8, 48, 48]⟩
abbrev S64x1x1x1 : Shape := ⟨4, ![64, 1, 1, 1]⟩
abbrev S1x64x64x3x3x3 : Shape := ⟨6, ![1, 64, 64, 3, 3, 3]⟩
abbrev S1x64 : Shape := ⟨2, ![1, 64]⟩
abbrev S64x10x50x50 : Shape := ⟨4, ![64, 10, 50, 50]⟩
abbrev S64x8x50x50 : Shape := ⟨4, ![64, 8, 50, 50]⟩
abbrev S1x64x8x50x50 : Shape := ⟨5, ![1, 64, 8, 50, 50]⟩
abbrev S3x64x8x50x50 : Shape := ⟨5, ![3, 64, 8, 50, 50]⟩
abbrev S3x64x8x48x50 : Shape := ⟨5, ![3, 64, 8, 48, 50]⟩
abbrev S1x3x64x8x48x50 : Shape := ⟨6, ![1, 3, 64, 8, 48, 50]⟩
abbrev S3x3x64x8x48x50 : Shape := ⟨6, ![3, 3, 64, 8, 48, 50]⟩
abbrev S3x3x64x8x48x48 : Shape := ⟨6, ![3, 3, 64, 8, 48, 48]⟩
abbrev S1x3x3x64x8x48x48 : Shape := ⟨7, ![1, 3, 3, 64, 8, 48, 48]⟩
abbrev S3x3x3x64x8x48x48 : Shape := ⟨7, ![3, 3, 3, 64, 8, 48, 48]⟩
abbrev S8x48x48x64 : Shape := ⟨4, ![8, 48, 48, 64]⟩
abbrev S18432x64 : Shape := ⟨2, ![18432, 64]⟩
abbrev S1x4096 : Shape := ⟨2, ![1, 4096]⟩

abbrev nBuf : Space → Nat
  | .hbm => 202
  | .vmem => 0
  | .smem => 0
  | _ => 0

abbrev hbmTy0_0 (i : Nat) : BufTy := match i % 128 with
  | 0 => ⟨S1x1x8x48x48, .f32⟩
  | 1 => ⟨S64x1x3x3x3, .f32⟩
  | 2 => ⟨S64, .f32⟩
  | 3 => ⟨S2x64x64x3x3x3, .f32⟩
  | 4 => ⟨S2x64, .f32⟩
  | 5 => ⟨S2x64x64x3x3x3, .f32⟩
  | 6 => ⟨S2x64, .f32⟩
  | 7 => ⟨S64x64x3x3x3, .f32⟩
  | 8 => ⟨S64, .f32⟩
  | 9 => ⟨S1x4096x3, .f32⟩
  | 10 => ⟨S1x8x48x48, .f32⟩
  | 11 => ⟨S_, .f32⟩
  | 12 => ⟨S1x10x50x50, .f32⟩
  | 13 => ⟨S1x8x50x50, .f32⟩
  | 14 => ⟨S1x8x50x50, .f32⟩
  | 15 => ⟨S1x8x50x50, .f32⟩
  | 16 => ⟨S1x1x8x50x50, .f32⟩
  | 17 => ⟨S1x1x8x50x50, .f32⟩
  | 18 => ⟨S1x1x8x50x50, .f32⟩
  | 19 => ⟨S3x1x8x50x50, .f32⟩
  | 20 => ⟨S3x1x8x48x50, .f32⟩
  | 21 => ⟨S3x1x8x48x50, .f32⟩
  | 22 => ⟨S3x1x8x48x50, .f32⟩
  | 23 => ⟨S1x3x1x8x48x50, .f32⟩
  | 24 => ⟨S1x3x1x8x48x50, .f32⟩
  | 25 => ⟨S1x3x1x8x48x50, .f32⟩
  | 26 => ⟨S3x3x1x8x48x50, .f32⟩
  | 27 => ⟨S3x3x1x8x48x48, .f32⟩
  | 28 => ⟨S3x3x1x8x48x48, .f32⟩
  | 29 => ⟨S3x3x1x8x48x48, .f32⟩
  | 30 => ⟨S1x3x3x1x8x48x48, .f32⟩
  | 31 => ⟨S1x3x3x1x8x48x48, .f32⟩
  | 32 => ⟨S1x3x3x1x8x48x48, .f32⟩
  | 33 => ⟨S3x3x3x1x8x48x48, .f32⟩
  | 34 => ⟨S64x8x48x48, .f32⟩
  | 35 => ⟨S64x1x1x1, .f32⟩
  | 36 => ⟨S64x8x48x48, .f32⟩
  | 37 => ⟨S64x8x48x48, .f32⟩
  | 38 => ⟨S1x64x64x3x3x3, .f32⟩
  | 39 => ⟨S64x64x3x3x3, .f32⟩
  | 40 => ⟨S1x64, .f32⟩
  | 41 => ⟨S64, .f32⟩
  | 42 => ⟨S_, .f32⟩
  | 43 => ⟨S64x10x50x50, .f32⟩
  | 44 => ⟨S64x8x50x50, .f32⟩
  | 45 => ⟨S64x8x50x50, .f32⟩
  | 46 => ⟨S64x8x50x50, .f32⟩
  | 47 => ⟨S1x64x8x50x50, .f32⟩
  | 48 => ⟨S1x64x8x50x50, .f32⟩
  | 49 => ⟨S1x64x8x50x50, .f32⟩
  | 50 => ⟨S3x64x8x50x50, .f32⟩
  | 51 => ⟨S3x64x8x48x50, .f32⟩
  | 52 => ⟨S3x64x8x48x50, .f32⟩
  | 53 => ⟨S3x64x8x48x50, .f32⟩
  | 54 => ⟨S1x3x64x8x48x50, .f32⟩
  | 55 => ⟨S1x3x64x8x48x50, .f32⟩
  | 56 => ⟨S1x3x64x8x48x50, .f32⟩
  | 57 => ⟨S3x3x64x8x48x50, .f32⟩
  | 58 => ⟨S3x3x64x8x48x48, .f32⟩
  | 59 => ⟨S3x3x64x8x48x48, .f32⟩
  | 60 => ⟨S3x3x64x8x48x48, .f32⟩
  | 61 => ⟨S1x3x3x64x8x48x48, .f32⟩
  | 62 => ⟨S1x3x3x64x8x48x48, .f32⟩
  | 63 => ⟨S1x3x3x64x8x48x48, .f32⟩
  | 64 => ⟨S3x3x3x64x8x48x48, .f32⟩
  | 65 => ⟨S64x8x48x48, .f32⟩
  | 66 => ⟨S64x1x1x1, .f32⟩
  | 67 => ⟨S64x8x48x48, .f32⟩
  | 68 => ⟨S64x8x48x48, .f32⟩
  | 69 => ⟨S_, .f32⟩
  | 70 => ⟨S64x8x48x48, .f32⟩
  | 71 => ⟨S64x8x48x48, .f32⟩
  | 72 => ⟨S1x64x64x3x3x3, .f32⟩
  | 73 => ⟨S64x64x3x3x3, .f32⟩
  | 74 => ⟨S1x64, .f32⟩
  | 75 => ⟨S64, .f32⟩
  | 76 => ⟨S_, .f32⟩
  | 77 => ⟨S64x10x50x50, .f32⟩
  | 78 => ⟨S64x8x50x50, .f32⟩
  | 79 => ⟨S64x8x50x50, .f32⟩
  | 80 => ⟨S64x8x50x50, .f32⟩
  | 81 => ⟨S1x64x8x50x50, .f32⟩
  | 82 => ⟨S1x64x8x50x50, .f32⟩
  | 83 => ⟨S1x64x8x50x50, .f32⟩
  | 84 => ⟨S3x64x8x50x50, .f32⟩
  | 85 => ⟨S3x64x8x48x50, .f32⟩
  | 86 => ⟨S3x64x8x48x50, .f32⟩
  | 87 => ⟨S3x64x8x48x50, .f32⟩
  | 88 => ⟨S1x3x64x8x48x50, .f32⟩
  | 89 => ⟨S1x3x64x8x48x50, .f32⟩
  | 90 => ⟨S1x3x64x8x48x50, .f32⟩
  | 91 => ⟨S3x3x64x8x48x50, .f32⟩
  | 92 => ⟨S3x3x64x8x48x48, .f32⟩
  | 93 => ⟨S3x3x64x8x48x48, .f32⟩
  | 94 => ⟨S3x3x64x8x48x48, .f32⟩
  | 95 => ⟨S1x3x3x64x8x48x48, .f32⟩
  | 96 => ⟨S1x3x3x64x8x48x48, .f32⟩
  | 97 => ⟨S1x3x3x64x8x48x48, .f32⟩
  | 98 => ⟨S3x3x3x64x8x48x48, .f32⟩
  | 99 => ⟨S64x8x48x48, .f32⟩
  | 100 => ⟨S64x1x1x1, .f32⟩
  | 101 => ⟨S64x8x48x48, .f32⟩
  | 102 => ⟨S64x8x48x48, .f32⟩
  | 103 => ⟨S64x8x48x48, .f32⟩
  | 104 => ⟨S1x64x64x3x3x3, .f32⟩
  | 105 => ⟨S64x64x3x3x3, .f32⟩
  | 106 => ⟨S1x64, .f32⟩
  | 107 => ⟨S64, .f32⟩
  | 108 => ⟨S_, .f32⟩
  | 109 => ⟨S64x10x50x50, .f32⟩
  | 110 => ⟨S64x8x50x50, .f32⟩
  | 111 => ⟨S64x8x50x50, .f32⟩
  | 112 => ⟨S64x8x50x50, .f32⟩
  | 113 => ⟨S1x64x8x50x50, .f32⟩
  | 114 => ⟨S1x64x8x50x50, .f32⟩
  | 115 => ⟨S1x64x8x50x50, .f32⟩
  | 116 => ⟨S3x64x8x50x50, .f32⟩
  | 117 => ⟨S3x64x8x48x50, .f32⟩
  | 118 => ⟨S3x64x8x48x50, .f32⟩
  | 119 => ⟨S3x64x8x48x50, .f32⟩
  | 120 => ⟨S1x3x64x8x48x50, .f32⟩
  | 121 => ⟨S1x3x64x8x48x50, .f32⟩
  | 122 => ⟨S1x3x64x8x48x50, .f32⟩
  | 123 => ⟨S3x3x64x8x48x50, .f32⟩
  | 124 => ⟨S3x3x64x8x48x48, .f32⟩
  | 125 => ⟨S3x3x64x8x48x48, .f32⟩
  | 126 => ⟨S3x3x64x8x48x48, .f32⟩
  | 127 => ⟨S1x3x3x64x8x48x48, .f32⟩
  | _ => ⟨S1x1x8x48x48, .f32⟩

abbrev hbmTy0_1 (i : Nat) : BufTy := match i % 128 with
  | 0 => ⟨S1x3x3x64x8x48x48, .f32⟩
  | 1 => ⟨S1x3x3x64x8x48x48, .f32⟩
  | 2 => ⟨S3x3x3x64x8x48x48, .f32⟩
  | 3 => ⟨S64x8x48x48, .f32⟩
  | 4 => ⟨S64x1x1x1, .f32⟩
  | 5 => ⟨S64x8x48x48, .f32⟩
  | 6 => ⟨S64x8x48x48, .f32⟩
  | 7 => ⟨S_, .f32⟩
  | 8 => ⟨S64x8x48x48, .f32⟩
  | 9 => ⟨S64x8x48x48, .f32⟩
  | 10 => ⟨S1x64x64x3x3x3, .f32⟩
  | 11 => ⟨S64x64x3x3x3, .f32⟩
  | 12 => ⟨S1x64, .f32⟩
  | 13 => ⟨S64, .f32⟩
  | 14 => ⟨S_, .f32⟩
  | 15 => ⟨S64x10x50x50, .f32⟩
  | 16 => ⟨S64x8x50x50, .f32⟩
  | 17 => ⟨S64x8x50x50, .f32⟩
  | 18 => ⟨S64x8x50x50, .f32⟩
  | 19 => ⟨S1x64x8x50x50, .f32⟩
  | 20 => ⟨S1x64x8x50x50, .f32⟩
  | 21 => ⟨S1x64x8x50x50, .f32⟩
  | 22 => ⟨S3x64x8x50x50, .f32⟩
  | 23 => ⟨S3x64x8x48x50, .f32⟩
  | 24 => ⟨S3x64x8x48x50, .f32⟩
  | 25 => ⟨S3x64x8x48x50, .f32⟩
  | 26 => ⟨S1x3x64x8x48x50, .f32⟩
  | 27 => ⟨S1x3x64x8x48x50, .f32⟩
  | 28 => ⟨S1x3x64x8x48x50, .f32⟩
  | 29 => ⟨S3x3x64x8x48x50, .f32⟩
  | 30 => ⟨S3x3x64x8x48x48, .f32⟩
  | 31 => ⟨S3x3x64x8x48x48, .f32⟩
  | 32 => ⟨S3x3x64x8x48x48, .f32⟩
  | 33 => ⟨S1x3x3x64x8x48x48, .f32⟩
  | 34 => ⟨S1x3x3x64x8x48x48, .f32⟩
  | 35 => ⟨S1x3x3x64x8x48x48, .f32⟩
  | 36 => ⟨S3x3x3x64x8x48x48, .f32⟩
  | 37 => ⟨S64x8x48x48, .f32⟩
  | 38 => ⟨S64x1x1x1, .f32⟩
  | 39 => ⟨S64x8x48x48, .f32⟩
  | 40 => ⟨S64x8x48x48, .f32⟩
  | 41 => ⟨S64x8x48x48, .f32⟩
  | 42 => ⟨S_, .f32⟩
  | 43 => ⟨S64x10x50x50, .f32⟩
  | 44 => ⟨S64x8x50x50, .f32⟩
  | 45 => ⟨S64x8x50x50, .f32⟩
  | 46 => ⟨S64x8x50x50, .f32⟩
  | 47 => ⟨S1x64x8x50x50, .f32⟩
  | 48 => ⟨S1x64x8x50x50, .f32⟩
  | 49 => ⟨S1x64x8x50x50, .f32⟩
  | 50 => ⟨S3x64x8x50x50, .f32⟩
  | 51 => ⟨S3x64x8x48x50, .f32⟩
  | 52 => ⟨S3x64x8x48x50, .f32⟩
  | 53 => ⟨S3x64x8x48x50, .f32⟩
  | 54 => ⟨S1x3x64x8x48x50, .f32⟩
  | 55 => ⟨S1x3x64x8x48x50, .f32⟩
  | 56 => ⟨S1x3x64x8x48x50, .f32⟩
  | 57 => ⟨S3x3x64x8x48x50, .f32⟩
  | 58 => ⟨S3x3x64x8x48x48, .f32⟩
  | 59 => ⟨S3x3x64x8x48x48, .f32⟩
  | 60 => ⟨S3x3x64x8x48x48, .f32⟩
  | 61 => ⟨S1x3x3x64x8x48x48, .f32⟩
  | 62 => ⟨S1x3x3x64x8x48x48, .f32⟩
  | 63 => ⟨S1x3x3x64x8x48x48, .f32⟩
  | 64 => ⟨S3x3x3x64x8x48x48, .f32⟩
  | 65 => ⟨S64x8x48x48, .f32⟩
  | 66 => ⟨S64x1x1x1, .f32⟩
  | 67 => ⟨S64x8x48x48, .f32⟩
  | 68 => ⟨S64x8x48x48, .f32⟩
  | 69 => ⟨S64x8x48x48, .f32⟩
  | 70 => ⟨S8x48x48x64, .f32⟩
  | 71 => ⟨S18432x64, .f32⟩
  | 72 => ⟨S_, .f32⟩
  | 73 => ⟨S1x4096, .f32⟩
  | _ => ⟨S1x1x8x48x48, .f32⟩

abbrev hbmTy (i : Nat) : BufTy := match i / 128 with
  | 0 => hbmTy0_0 i
  | 1 => hbmTy0_1 i
  | _ => ⟨S1x1x8x48x48, .f32⟩

abbrev bufTy : (tb : Table) → Fin (tcTables nBuf tb) → BufTy
  | .hbm, ⟨i, _⟩ => hbmTy i
  | _, _ => ⟨S1x1x8x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_1 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_2 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_3 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_cst_4 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_cst_5 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_cst_6 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_cst_7 : Ref sig .tc := ⟨.hbm, 200, rfl⟩
abbrev main_v182 : Ref sig .tc := ⟨.hbm, 201, rfl⟩

abbrev nD : Nat := 1
abbrev τ : Topo := Topo.v7x

variable {F : FTy → Type} [FloatOps F]
-- ==== Kernel2.lean ====
abbrev S9x51x51x64 : Shape := ⟨4, ![9, 51, 51, 64]⟩
abbrev S1x4096x3 : Shape := ⟨3, ![1, 4096, 3]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S4096x3 : Shape := ⟨2, ![4096, 3]⟩
abbrev S4096x1 : Shape := ⟨2, ![4096, 1]⟩
abbrev S4096 : Shape := ⟨1, ![4096]⟩
abbrev S_ : Shape := ⟨0, ![]⟩
abbrev S1x64 : Shape := ⟨2, ![1, 64]⟩
abbrev S1x256 : Shape := ⟨2, ![1, 256]⟩
abbrev S1x1 : Shape := ⟨2, ![1, 1]⟩
abbrev S4096x64 : Shape := ⟨2, ![4096, 64]⟩
abbrev S2x2x2x64 : Shape := ⟨4, ![2, 2, 2, 64]⟩
abbrev S1x2x2x64 : Shape := ⟨4, ![1, 2, 2, 64]⟩
abbrev S2x2x64 : Shape := ⟨3, ![2, 2, 64]⟩
abbrev S1x2x64 : Shape := ⟨3, ![1, 2, 64]⟩
abbrev S2x64 : Shape := ⟨2, ![2, 64]⟩
abbrev S2x7x7 : Shape := ⟨3, ![2, 7, 7]⟩
abbrev S3x8x8x64 : Shape := ⟨4, ![3, 8, 8, 64]⟩
abbrev S2x8x8x64 : Shape := ⟨4, ![2, 8, 8, 64]⟩
abbrev S2x7x8x64 : Shape := ⟨4, ![2, 7, 8, 64]⟩
abbrev S2x7x7x64 : Shape := ⟨4, ![2, 7, 7, 64]⟩
abbrev S1x1x1x64 : Shape := ⟨4, ![1, 1, 1, 64]⟩
abbrev S1x2x7x7 : Shape := ⟨4, ![1, 2, 7, 7]⟩
abbrev S1x1x1x1 : Shape := ⟨4, ![1, 1, 1, 1]⟩
abbrev S2x7x7x1 : Shape := ⟨4, ![2, 7, 7, 1]⟩
abbrev S4096x256 : Shape := ⟨2, ![4096, 256]⟩

abbrev nBuf : Space → Nat
  | .hbm => 168
  | .vmem => 23
  | .smem => 12
  | _ => 0

abbrev hbmTy0_0 (i : Nat) : BufTy := match i % 128 with
  | 0 => ⟨S9x51x51x64, .f32⟩
  | 1 => ⟨S1x4096x3, .f32⟩
  | 2 => ⟨S1x4096x3, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x1, .f32⟩
  | 20 => ⟨S1, .f32⟩
  | 21 => ⟨S4096x3, .f32⟩
  | 22 => ⟨S4096x1, .f32⟩
  | 23 => ⟨S4096, .f32⟩
  | 24 => ⟨S_, .f32⟩
  | 25 => ⟨S4096, .f32⟩
  | 26 => ⟨S4096, .f32⟩
  | 27 => ⟨S_, .f32⟩
  | 28 => ⟨S4096, .f32⟩
  | 29 => ⟨S4096, .f32⟩
  | 30 => ⟨S_, .f32⟩
  | 31 => ⟨S4096, .f32⟩
  | 32 => ⟨S4096, .f32⟩
  | 33 => ⟨S4096x1, .f32⟩
  | 34 => ⟨S4096, .f32⟩
  | 35 => ⟨S_, .f32⟩
  | 36 => ⟨S4096, .f32⟩
  | 37 => ⟨S4096, .f32⟩
  | 38 => ⟨S_, .f32⟩
  | 39 => ⟨S4096, .f32⟩
  | 40 => ⟨S4096, .f32⟩
  | 41 => ⟨S_, .f32⟩
  | 42 => ⟨S4096, .f32⟩
  | 43 => ⟨S4096, .f32⟩
  | 44 => ⟨S4096x1, .f32⟩
  | 45 => ⟨S4096, .f32⟩
  | 46 => ⟨S_, .f32⟩
  | 47 => ⟨S4096, .f32⟩
  | 48 => ⟨S4096, .f32⟩
  | 49 => ⟨S_, .f32⟩
  | 50 => ⟨S4096, .f32⟩
  | 51 => ⟨S4096, .f32⟩
  | 52 => ⟨S_, .f32⟩
  | 53 => ⟨S4096, .f32⟩
  | 54 => ⟨S4096, .f32⟩
  | 55 => ⟨S4096, .f32⟩
  | 56 => ⟨S4096, .f32⟩
  | 57 => ⟨S4096, .f32⟩
  | 58 => ⟨S4096, .f32⟩
  | 59 => ⟨S4096, .f32⟩
  | 60 => ⟨S4096, .f32⟩
  | 61 => ⟨S4096, .i32⟩
  | 62 => ⟨S_, .i32⟩
  | 63 => ⟨S_, .i32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .i32⟩
  | 71 => ⟨S_, .i32⟩
  | 72 => ⟨S_, .i32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S4096, .i32⟩
  | 80 => ⟨S_, .i32⟩
  | 81 => ⟨S_, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096x3, .f32⟩
  | 89 => ⟨S4096x1, .f32⟩
  | 90 => ⟨S4096, .f32⟩
  | 91 => ⟨S_, .f32⟩
  | 92 => ⟨S4096, .f32⟩
  | 93 => ⟨S4096, .f32⟩
  | 94 => ⟨S_, .f32⟩
  | 95 => ⟨S4096, .f32⟩
  | 96 => ⟨S4096, .f32⟩
  | 97 => ⟨S_, .f32⟩
  | 98 => ⟨S4096, .f32⟩
  | 99 => ⟨S4096, .f32⟩
  | 100 => ⟨S_, .f32⟩
  | 101 => ⟨S4096, .f32⟩
  | 102 => ⟨S4096, .f32⟩
  | 103 => ⟨S4096x1, .f32⟩
  | 104 => ⟨S4096, .f32⟩
  | 105 => ⟨S_, .f32⟩
  | 106 => ⟨S4096, .f32⟩
  | 107 => ⟨S4096, .f32⟩
  | 108 => ⟨S_, .f32⟩
  | 109 => ⟨S4096, .f32⟩
  | 110 => ⟨S4096, .f32⟩
  | 111 => ⟨S_, .f32⟩
  | 112 => ⟨S4096, .f32⟩
  | 113 => ⟨S4096, .f32⟩
  | 114 => ⟨S4096x1, .f32⟩
  | 115 => ⟨S4096, .f32⟩
  | 116 => ⟨S_, .f32⟩
  | 117 => ⟨S4096, .f32⟩
  | 118 => ⟨S4096, .f32⟩
  | 119 => ⟨S_, .f32⟩
  | 120 => ⟨S4096, .f32⟩
  | 121 => ⟨S4096, .f32⟩
  | 122 => ⟨S_, .f32⟩
  | 123 => ⟨S4096, .f32⟩
  | 124 => ⟨S4096, .f32⟩
  | 125 => ⟨S4096, .f32⟩
  | 126 => ⟨S4096, .f32⟩
  | 127 => ⟨S4096, .f32⟩
  | _ => ⟨S9x51x51x64, .f32⟩

abbrev hbmTy0_1 (i : Nat) : BufTy := match i % 128 with
  | 0 => ⟨S4096, .f32⟩
  | 1 => ⟨S4096, .f32⟩
  | 2 => ⟨S4096, .f32⟩
  | 3 => ⟨S4096, .i32⟩
  | 4 => ⟨S_, .i32⟩
  | 5 => ⟨S_, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S4096, .i32⟩
  | 13 => ⟨S_, .i32⟩
  | 14 => ⟨S_, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .i32⟩
  | 22 => ⟨S_, .i32⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S1x64, .f32⟩
  | 31 => ⟨S1x64, .f32⟩
  | 32 => ⟨S1x64, .f32⟩
  | 33 => ⟨S1x64, .f32⟩
  | 34 => ⟨S1x256, .f32⟩
  | 35 => ⟨S1x256, .f32⟩
  | 36 => ⟨S1x256, .f32⟩
  | 37 => ⟨S1x256, .f32⟩
  | 38 => ⟨S1x1, .f32⟩
  | 39 => ⟨S4096x1, .f32⟩
  | _ => ⟨S9x51x51x64, .f32⟩

abbrev hbmTy (i : Nat) : BufTy := match i / 128 with
  | 0 => hbmTy0_0 i
  | 1 => hbmTy0_1 i
  | _ => ⟨S9x51x51x64, .f32⟩

abbrev bufTy : (tb : Table) → Fin (tcTables nBuf tb) → BufTy
  | .hbm, ⟨i, _⟩ => hbmTy i
  | .local _ .vmem, ⟨0, _⟩ => ⟨S9x51x51x64, .f32⟩
  | .local _ .vmem, ⟨1, _⟩ => ⟨S64x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S64x256, .f32⟩
  | .local _ .vmem, ⟨10, _⟩ => ⟨S1x256, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S256x1, .f32⟩
  | .local _ .vmem, ⟨18, _⟩ => ⟨S1x1, .f32⟩
  | .local _ .vmem, ⟨19, _⟩ => ⟨S4096x1, .f32⟩
  | .local _ .vmem, ⟨20, _⟩ => ⟨S4096x64, .f32⟩
  | .local _ .vmem, ⟨21, _⟩ => ⟨S4096x64, .f32⟩
  | .local _ .vmem, ⟨22, _⟩ => ⟨S4096x64, .f32⟩
  | .local _ .smem, ⟨0, _⟩ => ⟨S4096, .i32⟩
  | .local _ .smem, ⟨1, _⟩ => ⟨S4096, .i32⟩
  | .local _ .smem, ⟨2, _⟩ => ⟨S4096, .i32⟩
  | .local _ .smem, ⟨3, _⟩ => ⟨S4096, .i32⟩
  | .local _ .smem, ⟨4, _⟩ => ⟨S4096, .i32⟩
  | .local _ .smem, ⟨5, _⟩ => ⟨S4096, .i32⟩
  | .local _ .smem, ⟨6, _⟩ => ⟨S4096, .f32⟩
  | .local _ .smem, ⟨7, _⟩ => ⟨S4096, .f32⟩
  | .local _ .smem, ⟨8, _⟩ => ⟨S4096, .f32⟩
  | .local _ .smem, ⟨9, _⟩ => ⟨S4096, .f32⟩
  | .local _ .smem, ⟨10, _⟩ => ⟨S4096, .f32⟩
  | .local _ .smem, ⟨11, _⟩ => ⟨S4096, .f32⟩
  | _, _ => ⟨S9x51x51x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_cst_1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_cst_3 : Ref sig .tc := ⟨.hbm, 38, rfl⟩
abbrev main_v13 : Ref sig .tc := ⟨.hbm, 39, rfl⟩
abbrev main_v14 : Ref sig .tc := ⟨.hbm, 40, rfl⟩
abbrev main_cst_4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_5 : Ref sig .tc := ⟨.hbm, 46, rfl⟩
abbrev main_v19 : Ref sig .tc := ⟨.hbm, 47, rfl⟩
abbrev main_v20 : Ref sig .tc := ⟨.hbm, 48, rfl⟩
abbrev main_cst_6 : Ref sig .tc := ⟨.hbm, 49, rfl⟩
abbrev main_v21 : Ref sig .tc := ⟨.hbm, 50, rfl⟩
abbrev main_v22 : Ref sig .tc := ⟨.hbm, 51, rfl⟩
abbrev main_cst_7 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c : Ref sig .tc := ⟨.hbm, 62, rfl⟩
abbrev main_c_8 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v32 : Ref sig .tc := ⟨.hbm, 69, rfl⟩
abbrev main_v33 : Ref sig .tc := ⟨.hbm, 70, rfl⟩
abbrev main_c_9 : Ref sig .tc := ⟨.hbm, 71, rfl⟩
abbrev main_c_10 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v34 : Ref sig .tc := ⟨.hbm, 78, rfl⟩
abbrev main_v35 : Ref sig .tc := ⟨.hbm, 79, rfl⟩
abbrev main_c_11 : Ref sig .tc := ⟨.hbm, 80, rfl⟩
abbrev main_c_12 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_13 : Ref sig .tc := ⟨.hbm, 91, rfl⟩
abbrev main_v40 : Ref sig .tc := ⟨.hbm, 92, rfl⟩
abbrev main_v41 : Ref sig .tc := ⟨.hbm, 93, rfl⟩
abbrev main_cst_14 : Ref sig .tc := ⟨.hbm, 94, rfl⟩
abbrev main_v42 : Ref sig .tc := ⟨.hbm, 95, rfl⟩
abbrev main_v43 : Ref sig .tc := ⟨.hbm, 96, rfl⟩
abbrev main_cst_15 : Ref sig .tc := ⟨.hbm, 97, rfl⟩
abbrev main_v44 : Ref sig .tc := ⟨.hbm, 98, rfl⟩
abbrev main_v45 : Ref sig .tc := ⟨.hbm, 99, rfl⟩
abbrev main_cst_16 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_17 : Ref sig .tc := ⟨.hbm, 105, rfl⟩
abbrev main_v50 : Ref sig .tc := ⟨.hbm, 106, rfl⟩
abbrev main_v51 : Ref sig .tc := ⟨.hbm, 107, rfl⟩
abbrev main_cst_18 : Ref sig .tc := ⟨.hbm, 108, rfl⟩
abbrev main_v52 : Ref sig .tc := ⟨.hbm, 109, rfl⟩
abbrev main_v53 : Ref sig .tc := ⟨.hbm, 110, rfl⟩
abbrev main_cst_19 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_cst_20 : Ref sig .tc := ⟨.hbm, 116, rfl⟩
abbrev main_v58 : Ref sig .tc := ⟨.hbm, 117, rfl⟩
abbrev main_v59 : Ref sig .tc := ⟨.hbm, 118, rfl⟩
abbrev main_cst_21 : Ref sig .tc := ⟨.hbm, 119, rfl⟩
abbrev main_v60 : Ref sig .tc := ⟨.hbm, 120, rfl⟩
abbrev main_v61 : Ref sig .tc := ⟨.hbm, 121, rfl⟩
abbrev main_cst_22 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c_23 : Ref sig .tc := ⟨.hbm, 132, rfl⟩
abbrev main_c_24 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_v71 : Ref sig .tc := ⟨.hbm, 139, rfl⟩
abbrev main_v72 : Ref sig .tc := ⟨.hbm, 140, rfl⟩
abbrev main_c_25 : Ref sig .tc := ⟨.hbm, 141, rfl⟩
abbrev main_c_26 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_v73 : Ref sig .tc := ⟨.hbm, 148, rfl⟩
abbrev main_v74 : Ref sig .tc := ⟨.hbm, 149, rfl⟩
abbrev main_c_27 : Ref sig .tc := ⟨.hbm, 150, rfl⟩
abbrev main_c_28 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev cc0_stg0_0 : Ref sig .tc := ⟨.vmem, 0, rfl⟩
abbrev cc0_stg13_0 : Ref sig .tc := ⟨.vmem, 1, rfl⟩
abbrev cc0_stg14_0 : Ref sig .tc := ⟨.vmem, 2, rfl⟩
abbrev cc0_stg15_0 : Ref sig .tc := ⟨.vmem, 3, rfl⟩
abbrev cc0_stg16_0 : Ref sig .tc := ⟨.vmem, 4, rfl⟩
abbrev cc0_stg17_0 : Ref sig .tc := ⟨.vmem, 5, rfl⟩
abbrev cc0_stg18_0 : Ref sig .tc := ⟨.vmem, 6, rfl⟩
abbrev cc0_stg19_0 : Ref sig .tc := ⟨.vmem, 7, rfl⟩
abbrev cc0_stg20_0 : Ref sig .tc := ⟨.vmem, 8, rfl⟩
abbrev cc0_stg21_0 : Ref sig .tc := ⟨.vmem, 9, rfl⟩
abbrev cc0_stg22_0 : Ref sig .tc := ⟨.vmem, 10, rfl⟩
abbrev cc0_stg23_0 : Ref sig .tc := ⟨.vmem, 11, rfl⟩
abbrev cc0_stg24_0 : Ref sig .tc := ⟨.vmem, 12, rfl⟩
abbrev cc0_stg25_0 : Ref sig .tc := ⟨.vmem, 13, rfl⟩
abbrev cc0_stg26_0 : Ref sig .tc := ⟨.vmem, 14, rfl⟩
abbrev cc0_stg27_0 : Ref sig .tc := ⟨.vmem, 15, rfl⟩
abbrev cc0_stg28_0 : Ref sig .tc := ⟨.vmem, 16, rfl⟩
abbrev cc0_stg29_0 : Ref sig .tc := ⟨.vmem, 17, rfl⟩
abbrev cc0_stg30_0 : Ref sig .tc := ⟨.vmem, 18, rfl⟩
abbrev cc0_stg31_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg1_0 : Ref sig .tc := ⟨.smem, 0, rfl⟩
abbrev cc0_stg2_0 : Ref sig .tc := ⟨.smem, 1, rfl⟩
abbrev cc0_stg3_0 : Ref sig .tc := ⟨.smem, 2, rfl⟩
abbrev cc0_stg4_0 : Ref sig .tc := ⟨.smem, 3, rfl⟩
abbrev cc0_stg5_0 : Ref sig .tc := ⟨.smem, 4, rfl⟩
abbrev cc0_stg6_0 : Ref sig .tc := ⟨.smem, 5, rfl⟩
abbrev cc0_stg7_0 : Ref sig .tc := ⟨.smem, 6, rfl⟩
abbrev cc0_stg8_0 : Ref sig .tc := ⟨.smem, 7, rfl⟩
abbrev cc0_stg9_0 : Ref sig .tc := ⟨.smem, 8, rfl⟩
abbrev cc0_stg10_0 : Ref sig .tc := ⟨.smem, 9, rfl⟩
abbrev cc0_stg11_0 : Ref sig .tc := ⟨.smem, 10, rfl⟩
abbrev cc0_stg12_0 : Ref sig .tc := ⟨.smem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32 : BitVec 32 := 16#32
  let v75 : BitVec 32 := Scalar.muli arg35 c16_i32
  let c0_i32_59 : BitVec 32 := 0#32
  let v76 : BitVec 32 := Scalar.addi v75 c0_i32_59
  let v77 : Index := Scalar.indexCast v76
  ![v77.toNat]
def k0_off2 (v78 : BitVec 32) (v80 : BitVec 32) (v82 : BitVec 32) : Fin 4 → Nat :=
  let v89 : Index := Scalar.indexCast v78
  let v90 : Index := Scalar.indexCast v80
  let v91 : Index := Scalar.indexCast v82
  let c0_60 : Index := 0#32
  ![v89.toNat, v90.toNat, v91.toNat, 0]

def k0_chk1 (v78 : BitVec 32) (v80 : BitVec 32) (v82 : BitVec 32) : Prop :=
  (∀ a, (k0_off2 v78 v80 v82) a + S2x2x2x64.size a ≤ S9x51x51x64.size a)
theorem k0_off2_inb : ∀ (v78 : BitVec 32) (v80 : BitVec 32) (v82 : BitVec 32) (k0_hw1 : k0_chk1 v78 v80 v82), ∀ a, (k0_off2 v78 v80 v82) a + S2x2x2x64.size a ≤ S9x51x51x64.size a := fun v78 v80 v82 k0_hw1 => k0_hw1

def k0_off3 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32 : BitVec 32 := 16#32
  let v75 : BitVec 32 := Scalar.muli arg35 c16_i32
  let c0_i32_59 : BitVec 32 := 0#32
  let v76 : BitVec 32 := Scalar.addi v75 c0_i32_59
  let v124 : Index := Scalar.indexCast v76
  let c0_64 : Index := 0#32
  ![v124.toNat, 0]
def k0_off4 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_65 : BitVec 32 := 16#32
  let v128 : BitVec 32 := Scalar.muli arg35 c16_i32_65
  let c1_i32_66 : BitVec 32 := 1#32
  let v129 : BitVec 32 := Scalar.addi v128 c1_i32_66
  let v130 : Index := Scalar.indexCast v129
  ![v130.toNat]
def k0_off5 (v131 : BitVec 32) (v133 : BitVec 32) (v135 : BitVec 32) : Fin 4 → Nat :=
  let v142 : Index := Scalar.indexCast v131
  let v143 : Index := Scalar.indexCast v133
  let v144 : Index := Scalar.indexCast v135
  let c0_67 : Index := 0#32
  ![v142.toNat, v143.toNat, v144.toNat, 0]

def k0_chk2 (v131 : BitVec 32) (v133 : BitVec 32) (v135 : BitVec 32) : Prop :=
  (∀ a, (k0_off5 v131 v133 v135) a + S2x2x2x64.size a ≤ S9x51x51x64.size a)
theorem k0_off5_inb : ∀ (v131 : BitVec 32) (v133 : BitVec 32) (v135 : BitVec 32) (k0_hw2 : k0_chk2 v131 v133 v135), ∀ a, (k0_off5 v131 v133 v135) a + S2x2x2x64.size a ≤ S9x51x51x64.size a := fun v131 v133 v135 k0_hw2 => k0_hw2

def k0_off6 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_65 : BitVec 32 := 16#32
  let v128 : BitVec 32 := Scalar.muli arg35 c16_i32_65
  let c1_i32_66 : BitVec 32 := 1#32
  let v129 : BitVec 32 := Scalar.addi v128 c1_i32_66
  let v177 : Index := Scalar.indexCast v129
  let c0_71 : Index := 0#32
  ![v177.toNat, 0]
def k0_off7 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_72 : BitVec 32 := 16#32
  let v181 : BitVec 32 := Scalar.muli arg35 c16_i32_72
  let c2_i32 : BitVec 32 := 2#32
  let v182 : BitVec 32 := Scalar.addi v181 c2_i32
  let v183 : Index := Scalar.indexCast v182
  ![v183.toNat]
def k0_off8 (v184 : BitVec 32) (v186 : BitVec 32) (v188 : BitVec 32) : Fin 4 → Nat :=
  let v195 : Index := Scalar.indexCast v184
  let v196 : Index := Scalar.indexCast v186
  let v197 : Index := Scalar.indexCast v188
  let c0_73 : Index := 0#32
  ![v195.toNat, v196.toNat, v197.toNat, 0]

def k0_chk3 (v184 : BitVec 32) (v186 : BitVec 32) (v188 : BitVec 32) : Prop :=
  (∀ a, (k0_off8 v184 v186 v188) a + S2x2x2x64.size a ≤ S9x51x51x64.size a)
theorem k0_off8_inb : ∀ (v184 : BitVec 32) (v186 : BitVec 32) (v188 : BitVec 32) (k0_hw3 : k0_chk3 v184 v186 v188), ∀ a, (k0_off8 v184 v186 v188) a + S2x2x2x64.size a ≤ S9x51x51x64.size a := fun v184 v186 v188 k0_hw3 => k0_hw3

def k0_off9 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_72 : BitVec 32 := 16#32
  let v181 : BitVec 32 := Scalar.muli arg35 c16_i32_72
  let c2_i32 : BitVec 32 := 2#32
  let v182 : BitVec 32 := Scalar.addi v181 c2_i32
  let v230 : Index := Scalar.indexCast v182
  let c0_77 : Index := 0#32
  ![v230.toNat, 0]
def k0_off10 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_78 : BitVec 32 := 16#32
  let v234 : BitVec 32 := Scalar.muli arg35 c16_i32_78
  let c3_i32 : BitVec 32 := 3#32
  let v235 : BitVec 32 := Scalar.addi v234 c3_i32
  let v236 : Index := Scalar.indexCast v235
  ![v236.toNat]
def k0_off11 (v237 : BitVec 32) (v239 : BitVec 32) (v241 : BitVec 32) : Fin 4 → Nat :=
  let v248 : Index := Scalar.indexCast v237
  let v249 : Index := Scalar.indexCast v239
  let v250 : Index := Scalar.indexCast v241
  let c0_79 : Index := 0#32
  ![v248.toNat, v249.toNat, v250.toNat, 0]

def k0_chk4 (v237 : BitVec 32) (v239 : BitVec 32) (v241 : BitVec 32) : Prop :=
  (∀ a, (k0_off11 v237 v239 v241) a + S2x2x2x64.size a ≤ S9x51x51x64.size a)
theorem k0_off11_inb : ∀ (v237 : BitVec 32) (v239 : BitVec 32) (v241 : BitVec 32) (k0_hw4 : k0_chk4 v237 v239 v241), ∀ a, (k0_off11 v237 v239 v241) a + S2x2x2x64.size a ≤ S9x51x51x64.size a := fun v237 v239 v241 k0_hw4 => k0_hw4

def k0_off12 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_78 : BitVec 32 := 16#32
  let v234 : BitVec 32 := Scalar.muli arg35 c16_i32_78
  let c3_i32 : BitVec 32 := 3#32
  let v235 : BitVec 32 := Scalar.addi v234 c3_i32
  let v283 : Index := Scalar.indexCast v235
  let c0_83 : Index := 0#32
  ![v283.toNat, 0]
def k0_off13 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_84 : BitVec 32 := 16#32
  let v287 : BitVec 32 := Scalar.muli arg35 c16_i32_84
  let c4_i32 : BitVec 32 := 4#32
  let v288 : BitVec 32 := Scalar.addi v287 c4_i32
  let v289 : Index := Scalar.indexCast v288
  ![v289.toNat]
def k0_off14 (v290 : BitVec 32) (v292 : BitVec 32) (v294 : BitVec 32) : Fin 4 → Nat :=
  let v301 : Index := Scalar.indexCast v290
  let v302 : Index := Scalar.indexCast v292
  let v303 : Index := Scalar.indexCast v294
  let c0_85 : Index := 0#32
  ![v301.toNat, v302.toNat, v303.toNat, 0]

def k0_chk5 (v290 : BitVec 32) (v292 : BitVec 32) (v294 : BitVec 32) : Prop :=
  (∀ a, (k0_off14 v290 v292 v294) a + S2x2x2x64.size a ≤ S9x51x51x64.size a)
theorem k0_off14_inb : ∀ (v290 : BitVec 32) (v292 : BitVec 32) (v294 : BitVec 32) (k0_hw5 : k0_chk5 v290 v292 v294), ∀ a, (k0_off14 v290 v292 v294) a + S2x2x2x64.size a ≤ S9x51x51x64.size a := fun v290 v292 v294 k0_hw5 => k0_hw5

def k0_off15 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_84 : BitVec 32 := 16#32
  let v287 : BitVec 32 := Scalar.muli arg35 c16_i32_84
  let c4_i32 : BitVec 32 := 4#32
  let v288 : BitVec 32 := Scalar.addi v287 c4_i32
  let v336 : Index := Scalar.indexCast v288
  let c0_89 : Index := 0#32
  ![v336.toNat, 0]
def k0_off16 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_90 : BitVec 32 := 16#32
  let v340 : BitVec 32 := Scalar.muli arg35 c16_i32_90
  let c5_i32 : BitVec 32 := 5#32
  let v341 : BitVec 32 := Scalar.addi v340 c5_i32
  let v342 : Index := Scalar.indexCast v341
  ![v342.toNat]
def k0_off17 (v343 : BitVec 32) (v345 : BitVec 32) (v347 : BitVec 32) : Fin 4 → Nat :=
  let v354 : Index := Scalar.indexCast v343
  let v355 : Index := Scalar.indexCast v345
  let v356 : Index := Scalar.indexCast v347
  let c0_91 : Index := 0#32
  ![v354.toNat, v355.toNat, v356.toNat, 0]

def k0_chk6 (v343 : BitVec 32) (v345 : BitVec 32) (v347 : BitVec 32) : Prop :=
  (∀ a, (k0_off17 v343 v345 v347) a + S2x2x2x64.size a ≤ S9x51x51x64.size a)
theorem k0_off17_inb : ∀ (v343 : BitVec 32) (v345 : BitVec 32) (v347 : BitVec 32) (k0_hw6 : k0_chk6 v343 v345 v347), ∀ a, (k0_off17 v343 v345 v347) a + S2x2x2x64.size a ≤ S9x51x51x64.size a := fun v343 v345 v347 k0_hw6 => k0_hw6

def k0_off18 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_90 : BitVec 32 := 16#32
  let v340 : BitVec 32 := Scalar.muli arg35 c16_i32_90
  let c5_i32 : BitVec 32 := 5#32
  let v341 : BitVec 32 := Scalar.addi v340 c5_i32
  let v389 : Index := Scalar.indexCast v341
  let c0_95 : Index := 0#32
  ![v389.toNat, 0]
def k0_off19 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_96 : BitVec 32 := 16#32
  let v393 : BitVec 32 := Scalar.muli arg35 c16_i32_96
  let c6_i32 : BitVec 32 := 6#32
  let v394 : BitVec 32 := Scalar.addi v393 c6_i32
  let v395 : Index := Scalar.indexCast v394
  ![v395.toNat]
def k0_off20 (v396 : BitVec 32) (v398 : BitVec 32) (v400 : BitVec 32) : Fin 4 → Nat :=
  let v407 : Index := Scalar.indexCast v396
  let v408 : Index := Scalar.indexCast v398
  let v409 : Index := Scalar.indexCast v400
  let c0_97 : Index := 0#32
  ![v407.toNat, v408.toNat, v409.toNat, 0]

def k0_chk7 (v396 : BitVec 32) (v398 : BitVec 32) (v400 : BitVec 32) : Prop :=
  (∀ a, (k0_off20 v396 v398 v400) a + S2x2x2x64.size a ≤ S9x51x51x64.size a)
theorem k0_off20_inb : ∀ (v396 : BitVec 32) (v398 : BitVec 32) (v400 : BitVec 32) (k0_hw7 : k0_chk7 v396 v398 v400), ∀ a, (k0_off20 v396 v398 v400) a + S2x2x2x64.size a ≤ S9x51x51x64.size a := fun v396 v398 v400 k0_hw7 => k0_hw7

def k0_off21 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_96 : BitVec 32 := 16#32
  let v393 : BitVec 32 := Scalar.muli arg35 c16_i32_96
  let c6_i32 : BitVec 32 := 6#32
  let v394 : BitVec 32 := Scalar.addi v393 c6_i32
  let v442 : Index := Scalar.indexCast v394
  let c0_101 : Index := 0#32
  ![v442.toNat, 0]
def k0_off22 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_102 : BitVec 32 := 16#32
  let v446 : BitVec 32 := Scalar.muli arg35 c16_i32_102
  let c7_i32 : BitVec 32 := 7#32
  let v447 : BitVec 32 := Scalar.addi v446 c7_i32
  let v448 : Index := Scalar.indexCast v447
  ![v448.toNat]
def k0_off23 (v449 : BitVec 32) (v451 : BitVec 32) (v453 : BitVec 32) : Fin 4 → Nat :=
  let v460 : Index := Scalar.indexCast v449
  let v461 : Index := Scalar.indexCast v451
  let v462 : Index := Scalar.indexCast v453
  let c0_103 : Index := 0#32
  ![v460.toNat, v461.toNat, v462.toNat, 0]

def k0_chk8 (v449 : BitVec 32) (v451 : BitVec 32) (v453 : BitVec 32) : Prop :=
  (∀ a, (k0_off23 v449 v451 v453) a + S2x2x2x64.size a ≤ S9x51x51x64.size a)
theorem k0_off23_inb : ∀ (v449 : BitVec 32) (v451 : BitVec 32) (v453 : BitVec 32) (k0_hw8 : k0_chk8 v449 v451 v453), ∀ a, (k0_off23 v449 v451 v453) a + S2x2x2x64.size a ≤ S9x51x51x64.size a := fun v449 v451 v453 k0_hw8 => k0_hw8

def k0_off24 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_102 : BitVec 32 := 16#32
  let v446 : BitVec 32 := Scalar.muli arg35 c16_i32_102
  let c7_i32 : BitVec 32 := 7#32
  let v447 : BitVec 32 := Scalar.addi v446 c7_i32
  let v495 : Index := Scalar.indexCast v447
  let c0_107 : Index := 0#32
  ![v495.toNat, 0]
def k0_off25 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_108 : BitVec 32 := 16#32
  let v499 : BitVec 32 := Scalar.muli arg35 c16_i32_108
  let c8_i32 : BitVec 32 := 8#32
  let v500 : BitVec 32 := Scalar.addi v499 c8_i32
  let v501 : Index := Scalar.indexCast v500
  ![v501.toNat]
def k0_off26 (v502 : BitVec 32) (v504 : BitVec 32) (v506 : BitVec 32) : Fin 4 → Nat :=
  let v513 : Index := Scalar.indexCast v502
  let v514 : Index := Scalar.indexCast v504
  let v515 : Index := Scalar.indexCast v506
  let c0_109 : Index := 0#32
  ![v513.toNat, v514.toNat, v515.toNat, 0]

def k0_chk9 (v502 : BitVec 32) (v504 : BitVec 32) (v506 : BitVec 32) : Prop :=
  (∀ a, (k0_off26 v502 v504 v506) a + S2x2x2x64.size a ≤ S9x51x51x64.size a)
theorem k0_off26_inb : ∀ (v502 : BitVec 32) (v504 : BitVec 32) (v506 : BitVec 32) (k0_hw9 : k0_chk9 v502 v504 v506), ∀ a, (k0_off26 v502 v504 v506) a + S2x2x2x64.size a ≤ S9x51x51x64.size a := fun v502 v504 v506 k0_hw9 => k0_hw9

def k0_off27 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_108 : BitVec 32 := 16#32
  let v499 : BitVec 32 := Scalar.muli arg35 c16_i32_108
  let c8_i32 : BitVec 32 := 8#32
  let v500 : BitVec 32 := Scalar.addi v499 c8_i32
  let v548 : Index := Scalar.indexCast v500
  let c0_113 : Index := 0#32
  ![v548.toNat, 0]
def k0_off28 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_114 : BitVec 32 := 16#32
  let v552 : BitVec 32 := Scalar.muli arg35 c16_i32_114
  let c9_i32 : BitVec 32 := 9#32
  let v553 : BitVec 32 := Scalar.addi v552 c9_i32
  let v554 : Index := Scalar.indexCast v553
  ![v554.toNat]
def k0_off29 (v555 : BitVec 32) (v557 : BitVec 32) (v559 : BitVec 32) : Fin 4 → Nat :=
  let v566 : Index := Scalar.indexCast v555
  let v567 : Index := Scalar.indexCast v557
  let v568 : Index := Scalar.indexCast v559
  let c0_115 : Index := 0#32
  ![v566.toNat, v567.toNat, v568.toNat, 0]

def k0_chk10 (v555 : BitVec 32) (v557 : BitVec 32) (v559 : BitVec 32) : Prop :=
  (∀ a, (k0_off29 v555 v557 v559) a + S2x2x2x64.size a ≤ S9x51x51x64.size a)
theorem k0_off29_inb : ∀ (v555 : BitVec 32) (v557 : BitVec 32) (v559 : BitVec 32) (k0_hw10 : k0_chk10 v555 v557 v559), ∀ a, (k0_off29 v555 v557 v559) a + S2x2x2x64.size a ≤ S9x51x51x64.size a := fun v555 v557 v559 k0_hw10 => k0_hw10

def k0_off30 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_114 : BitVec 32 := 16#32
  let v552 : BitVec 32 := Scalar.muli arg35 c16_i32_114
  let c9_i32 : BitVec 32 := 9#32
  let v553 : BitVec 32 := Scalar.addi v552 c9_i32
  let v601 : Index := Scalar.indexCast v553
  let c0_119 : Index := 0#32
  ![v601.toNat, 0]
def k0_off31 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_120 : BitVec 32 := 16#32
  let v605 : BitVec 32 := Scalar.muli arg35 c16_i32_120
  let c10_i32 : BitVec 32 := 10#32
  let v606 : BitVec 32 := Scalar.addi v605 c10_i32
  let v607 : Index := Scalar.indexCast v606
  ![v607.toNat]
def k0_off32 (v608 : BitVec 32) (v610 : BitVec 32) (v612 : BitVec 32) : Fin 4 → Nat :=
  let v619 : Index := Scalar.indexCast v608
  let v620 : Index := Scalar.indexCast v610
  let v621 : Index := Scalar.indexCast v612
  let c0_121 : Index := 0#32
  ![v619.toNat, v620.toNat, v621.toNat, 0]

def k0_chk11 (v608 : BitVec 32) (v610 : BitVec 32) (v612 : BitVec 32) : Prop :=
  (∀ a, (k0_off32 v608 v610 v612) a + S2x2x2x64.size a ≤ S9x51x51x64.size a)
theorem k0_off32_inb : ∀ (v608 : BitVec 32) (v610 : BitVec 32) (v612 : BitVec 32) (k0_hw11 : k0_chk11 v608 v610 v612), ∀ a, (k0_off32 v608 v610 v612) a + S2x2x2x64.size a ≤ S9x51x51x64.size a := fun v608 v610 v612 k0_hw11 => k0_hw11

def k0_off33 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_120 : BitVec 32 := 16#32
  let v605 : BitVec 32 := Scalar.muli arg35 c16_i32_120
  let c10_i32 : BitVec 32 := 10#32
  let v606 : BitVec 32 := Scalar.addi v605 c10_i32
  let v654 : Index := Scalar.indexCast v606
  let c0_125 : Index := 0#32
  ![v654.toNat, 0]
def k0_off34 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_126 : BitVec 32 := 16#32
  let v658 : BitVec 32 := Scalar.muli arg35 c16_i32_126
  let c11_i32 : BitVec 32 := 11#32
  let v659 : BitVec 32 := Scalar.addi v658 c11_i32
  let v660 : Index := Scalar.indexCast v659
  ![v660.toNat]
def k0_off35 (v661 : BitVec 32) (v663 : BitVec 32) (v665 : BitVec 32) : Fin 4 → Nat :=
  let v672 : Index := Scalar.indexCast v661
  let v673 : Index := Scalar.indexCast v663
  let v674 : Index := Scalar.indexCast v665
  let c0_127 : Index := 0#32
  ![v672.toNat, v673.toNat, v674.toNat, 0]

def k0_chk12 (v661 : BitVec 32) (v663 : BitVec 32) (v665 : BitVec 32) : Prop :=
  (∀ a, (k0_off35 v661 v663 v665) a + S2x2x2x64.size a ≤ S9x51x51x64.size a)
theorem k0_off35_inb : ∀ (v661 : BitVec 32) (v663 : BitVec 32) (v665 : BitVec 32) (k0_hw12 : k0_chk12 v661 v663 v665), ∀ a, (k0_off35 v661 v663 v665) a + S2x2x2x64.size a ≤ S9x51x51x64.size a := fun v661 v663 v665 k0_hw12 => k0_hw12

def k0_off36 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_126 : BitVec 32 := 16#32
  let v658 : BitVec 32 := Scalar.muli arg35 c16_i32_126
  let c11_i32 : BitVec 32 := 11#32
  let v659 : BitVec 32 := Scalar.addi v658 c11_i32
  let v707 : Index := Scalar.indexCast v659
  let c0_131 : Index := 0#32
  ![v707.toNat, 0]
def k0_off37 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_132 : BitVec 32 := 16#32
  let v711 : BitVec 32 := Scalar.muli arg35 c16_i32_132
  let c12_i32 : BitVec 32 := 12#32
  let v712 : BitVec 32 := Scalar.addi v711 c12_i32
  let v713 : Index := Scalar.indexCast v712
  ![v713.toNat]
def k0_off38 (v714 : BitVec 32) (v716 : BitVec 32) (v718 : BitVec 32) : Fin 4 → Nat :=
  let v725 : Index := Scalar.indexCast v714
  let v726 : Index := Scalar.indexCast v716
  let v727 : Index := Scalar.indexCast v718
  let c0_133 : Index := 0#32
  ![v725.toNat, v726.toNat, v727.toNat, 0]

def k0_chk13 (v714 : BitVec 32) (v716 : BitVec 32) (v718 : BitVec 32) : Prop :=
  (∀ a, (k0_off38 v714 v716 v718) a + S2x2x2x64.size a ≤ S9x51x51x64.size a)
theorem k0_off38_inb : ∀ (v714 : BitVec 32) (v716 : BitVec 32) (v718 : BitVec 32) (k0_hw13 : k0_chk13 v714 v716 v718), ∀ a, (k0_off38 v714 v716 v718) a + S2x2x2x64.size a ≤ S9x51x51x64.size a := fun v714 v716 v718 k0_hw13 => k0_hw13

def k0_off39 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_132 : BitVec 32 := 16#32
  let v711 : BitVec 32 := Scalar.muli arg35 c16_i32_132
  let c12_i32 : BitVec 32 := 12#32
  let v712 : BitVec 32 := Scalar.addi v711 c12_i32
  let v760 : Index := Scalar.indexCast v712
  let c0_137 : Index := 0#32
  ![v760.toNat, 0]
def k0_off40 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_138 : BitVec 32 := 16#32
  let v764 : BitVec 32 := Scalar.muli arg35 c16_i32_138
  let c13_i32 : BitVec 32 := 13#32
  let v765 : BitVec 32 := Scalar.addi v764 c13_i32
  let v766 : Index := Scalar.indexCast v765
  ![v766.toNat]
def k0_off41 (v767 : BitVec 32) (v769 : BitVec 32) (v771 : BitVec 32) : Fin 4 → Nat :=
  let v778 : Index := Scalar.indexCast v767
  let v779 : Index := Scalar.indexCast v769
  let v780 : Index := Scalar.indexCast v771
  let c0_139 : Index := 0#32
  ![v778.toNat, v779.toNat, v780.toNat, 0]

def k0_chk14 (v767 : BitVec 32) (v769 : BitVec 32) (v771 : BitVec 32) : Prop :=
  (∀ a, (k0_off41 v767 v769 v771) a + S2x2x2x64.size a ≤ S9x51x51x64.size a)
theorem k0_off41_inb : ∀ (v767 : BitVec 32) (v769 : BitVec 32) (v771 : BitVec 32) (k0_hw14 : k0_chk14 v767 v769 v771), ∀ a, (k0_off41 v767 v769 v771) a + S2x2x2x64.size a ≤ S9x51x51x64.size a := fun v767 v769 v771 k0_hw14 => k0_hw14

def k0_off42 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_138 : BitVec 32 := 16#32
  let v764 : BitVec 32 := Scalar.muli arg35 c16_i32_138
  let c13_i32 : BitVec 32 := 13#32
  let v765 : BitVec 32 := Scalar.addi v764 c13_i32
  let v813 : Index := Scalar.indexCast v765
  let c0_143 : Index := 0#32
  ![v813.toNat, 0]
def k0_off43 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_144 : BitVec 32 := 16#32
  let v817 : BitVec 32 := Scalar.muli arg35 c16_i32_144
  let c14_i32 : BitVec 32 := 14#32
  let v818 : BitVec 32 := Scalar.addi v817 c14_i32
  let v819 : Index := Scalar.indexCast v818
  ![v819.toNat]
def k0_off44 (v820 : BitVec 32) (v822 : BitVec 32) (v824 : BitVec 32) : Fin 4 → Nat :=
  let v831 : Index := Scalar.indexCast v820
  let v832 : Index := Scalar.indexCast v822
  let v833 : Index := Scalar.indexCast v824
  let c0_145 : Index := 0#32
  ![v831.toNat, v832.toNat, v833.toNat, 0]

def k0_chk15 (v820 : BitVec 32) (v822 : BitVec 32) (v824 : BitVec 32) : Prop :=
  (∀ a, (k0_off44 v820 v822 v824) a + S2x2x2x64.size a ≤ S9x51x51x64.size a)
theorem k0_off44_inb : ∀ (v820 : BitVec 32) (v822 : BitVec 32) (v824 : BitVec 32) (k0_hw15 : k0_chk15 v820 v822 v824), ∀ a, (k0_off44 v820 v822 v824) a + S2x2x2x64.size a ≤ S9x51x51x64.size a := fun v820 v822 v824 k0_hw15 => k0_hw15

def k0_off45 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_144 : BitVec 32 := 16#32
  let v817 : BitVec 32 := Scalar.muli arg35 c16_i32_144
  let c14_i32 : BitVec 32 := 14#32
  let v818 : BitVec 32 := Scalar.addi v817 c14_i32
  let v866 : Index := Scalar.indexCast v818
  let c0_149 : Index := 0#32
  ![v866.toNat, 0]
def k0_off46 (k0_t1 : Fin k0_t1_loop.trips) : Fin 1 → Nat :=
  let c0_i32 : BitVec 32 := 0#32
  let c1_i32 : BitVec 32 := 1#32
  let arg35 : BitVec 32 := Scf.iv c0_i32 c1_i32 k0_t1
  let c16_i32_150 : BitVec 32 := 16#32
  let v870 : BitVec 32 := Scalar.muli arg35 c16_i32_150
  let c15_i32 : BitVec 32 := 15#32
  let v871 : BitVec 32 := Scalar.addi v870 c15_i32
  let v872 : Index := Scalar.indexCast v871
  ![v872.toNat]
def k0_off47 (v873 : BitVec 32) (v875 : BitVec 32) (v877 : BitVec 32) : Fin 4 → Nat :=
  let v884 : Index := Scalar.indexCast v873
  let v885 : Index := Scalar.indexCast v875
  let v886 : Index := Scalar.indexCast v877
  let c0_151 : Index := 0#32
  ![v884.toNat, v885.toNat, v886.toNat, 0]

def k0_chk16 (v873 : BitVec 32) (v875 : BitVec 32) (v877 : BitVec 32) : Prop :=
  (∀ a, (k0_off47 v873 v875 v877) a + S2x2x2x64.size a ≤ S9x51x51x64.size a)
theorem k0_off47_inb : ∀ (v873 : BitVec 32) (v875 : BitVec 32) (v877 : BitVec 32) (k0_hw16 : k0_chk16 v873 v875 v877), ∀ a, (k0_off47 v873 v875 v877) a + S2x2x2x64.size a ≤ S9x51x51x64.size a := fun v873 v875 v877 k0_hw16 => k0_hw16

def k0_off48 (k0_t1 : Fin k0_t1_loop.trips) : Fin 2 → Nat :=
  let c0_i32 : BitVec 32 := 0#32
  let c1_i32 : BitVec 32 := 1#32
  let arg35 : BitVec 32 := Scf.iv c0_i32 c1_i32 k0_t1
  let c16_i32_150 : BitVec 32 := 16#32
  let v870 : BitVec 32 := Scalar.muli arg35 c16_i32_150
  let c15_i32 : BitVec 32 := 15#32
  let v871 : BitVec 32 := Scalar.addi v870 c15_i32
  let v919 : Index := Scalar.indexCast v871
  let c0_155 : Index := 0#32
  ![v919.toNat, 0]
@[reducible] def k0_t2_loop : Scf.Loop 32 :=
  let c0_i32_13 : BitVec 32 := 0#32
  let c128_i32 : BitVec 32 := 128#32
  let v21 : BitVec 32 := Scalar.addi c0_i32_13 c128_i32
  let c1_i32_14 : BitVec 32 := 1#32
  ⟨c0_i32_13, v21, c1_i32_14⟩
def k0_off49 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32 : BitVec 32 := 32#32
  let v75 : BitVec 32 := Scalar.muli arg35 c32_i32
  let c0_i32_59 : BitVec 32 := 0#32
  let v76 : BitVec 32 := Scalar.addi v75 c0_i32_59
  let v77 : Index := Scalar.indexCast v76
  ![v77.toNat]
def k0_off50 (v78 : BitVec 32) (v80 : BitVec 32) (v82 : BitVec 32) : Fin 4 → Nat :=
  let c0_i32_60 : BitVec 32 := 0#32
  let v83 : BitVec 32 := Scalar.maxsi v78 c0_i32_60
  let v99 : Index := Scalar.indexCast v83
  let c3_i32 : BitVec 32 := 3#32
  let v84 : BitVec 32 := Scalar.subi v80 c3_i32
  let c0_i32_61 : BitVec 32 := 0#32
  let v85 : BitVec 32 := Scalar.maxsi v84 c0_i32_61
  let v100 : Index := Scalar.indexCast v85
  let c3_i32_62 : BitVec 32 := 3#32
  let v86 : BitVec 32 := Scalar.subi v82 c3_i32_62
  let c0_i32_63 : BitVec 32 := 0#32
  let v87 : BitVec 32 := Scalar.maxsi v86 c0_i32_63
  let v101 : Index := Scalar.indexCast v87
  let c0_66 : Index := 0#32
  ![v99.toNat, v100.toNat, v101.toNat, 0]

def k0_chk17 (v78 : BitVec 32) (v80 : BitVec 32) (v82 : BitVec 32) : Prop :=
  (∀ a, (k0_off50 v78 v80 v82) a + S3x8x8x64.size a ≤ S9x51x51x64.size a)
theorem k0_off50_inb : ∀ (v78 : BitVec 32) (v80 : BitVec 32) (v82 : BitVec 32) (k0_hw17 : k0_chk17 v78 v80 v82), ∀ a, (k0_off50 v78 v80 v82) a + S3x8x8x64.size a ≤ S9x51x51x64.size a := fun v78 v80 v82 k0_hw17 => k0_hw17

def k0_off51 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32 : BitVec 32 := 32#32
  let v75 : BitVec 32 := Scalar.muli arg35 c32_i32
  let c0_i32_59 : BitVec 32 := 0#32
  let v76 : BitVec 32 := Scalar.addi v75 c0_i32_59
  let v163 : Index := Scalar.indexCast v76
  let c0_84 : Index := 0#32
  ![v163.toNat, 0]
def k0_off52 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_90 : BitVec 32 := 32#32
  let v192 : BitVec 32 := Scalar.muli arg35 c32_i32_90
  let c1_i32_91 : BitVec 32 := 1#32
  let v193 : BitVec 32 := Scalar.addi v192 c1_i32_91
  let v194 : Index := Scalar.indexCast v193
  ![v194.toNat]
def k0_off53 (v195 : BitVec 32) (v197 : BitVec 32) (v199 : BitVec 32) : Fin 4 → Nat :=
  let c0_i32_92 : BitVec 32 := 0#32
  let v200 : BitVec 32 := Scalar.maxsi v195 c0_i32_92
  let v216 : Index := Scalar.indexCast v200
  let c3_i32_93 : BitVec 32 := 3#32
  let v201 : BitVec 32 := Scalar.subi v197 c3_i32_93
  let c0_i32_94 : BitVec 32 := 0#32
  let v202 : BitVec 32 := Scalar.maxsi v201 c0_i32_94
  let v217 : Index := Scalar.indexCast v202
  let c3_i32_95 : BitVec 32 := 3#32
  let v203 : BitVec 32 := Scalar.subi v199 c3_i32_95
  let c0_i32_96 : BitVec 32 := 0#32
  let v204 : BitVec 32 := Scalar.maxsi v203 c0_i32_96
  let v218 : Index := Scalar.indexCast v204
  let c0_99 : Index := 0#32
  ![v216.toNat, v217.toNat, v218.toNat, 0]

def k0_chk18 (v195 : BitVec 32) (v197 : BitVec 32) (v199 : BitVec 32) : Prop :=
  (∀ a, (k0_off53 v195 v197 v199) a + S3x8x8x64.size a ≤ S9x51x51x64.size a)
theorem k0_off53_inb : ∀ (v195 : BitVec 32) (v197 : BitVec 32) (v199 : BitVec 32) (k0_hw18 : k0_chk18 v195 v197 v199), ∀ a, (k0_off53 v195 v197 v199) a + S3x8x8x64.size a ≤ S9x51x51x64.size a := fun v195 v197 v199 k0_hw18 => k0_hw18

def k0_off54 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_90 : BitVec 32 := 32#32
  let v192 : BitVec 32 := Scalar.muli arg35 c32_i32_90
  let c1_i32_91 : BitVec 32 := 1#32
  let v193 : BitVec 32 := Scalar.addi v192 c1_i32_91
  let v280 : Index := Scalar.indexCast v193
  let c0_118 : Index := 0#32
  ![v280.toNat, 0]
def k0_off55 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_124 : BitVec 32 := 32#32
  let v309 : BitVec 32 := Scalar.muli arg35 c32_i32_124
  let c2_i32 : BitVec 32 := 2#32
  let v310 : BitVec 32 := Scalar.addi v309 c2_i32
  let v311 : Index := Scalar.indexCast v310
  ![v311.toNat]
def k0_off56 (v312 : BitVec 32) (v314 : BitVec 32) (v316 : BitVec 32) : Fin 4 → Nat :=
  let c0_i32_125 : BitVec 32 := 0#32
  let v317 : BitVec 32 := Scalar.maxsi v312 c0_i32_125
  let v333 : Index := Scalar.indexCast v317
  let c3_i32_126 : BitVec 32 := 3#32
  let v318 : BitVec 32 := Scalar.subi v314 c3_i32_126
  let c0_i32_127 : BitVec 32 := 0#32
  let v319 : BitVec 32 := Scalar.maxsi v318 c0_i32_127
  let v334 : Index := Scalar.indexCast v319
  let c3_i32_128 : BitVec 32 := 3#32
  let v320 : BitVec 32 := Scalar.subi v316 c3_i32_128
  let c0_i32_129 : BitVec 32 := 0#32
  let v321 : BitVec 32 := Scalar.maxsi v320 c0_i32_129
  let v335 : Index := Scalar.indexCast v321
  let c0_132 : Index := 0#32
  ![v333.toNat, v334.toNat, v335.toNat, 0]

def k0_chk19 (v312 : BitVec 32) (v314 : BitVec 32) (v316 : BitVec 32) : Prop :=
  (∀ a, (k0_off56 v312 v314 v316) a + S3x8x8x64.size a ≤ S9x51x51x64.size a)
theorem k0_off56_inb : ∀ (v312 : BitVec 32) (v314 : BitVec 32) (v316 : BitVec 32) (k0_hw19 : k0_chk19 v312 v314 v316), ∀ a, (k0_off56 v312 v314 v316) a + S3x8x8x64.size a ≤ S9x51x51x64.size a := fun v312 v314 v316 k0_hw19 => k0_hw19

def k0_off57 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_124 : BitVec 32 := 32#32
  let v309 : BitVec 32 := Scalar.muli arg35 c32_i32_124
  let c2_i32 : BitVec 32 := 2#32
  let v310 : BitVec 32 := Scalar.addi v309 c2_i32
  let v397 : Index := Scalar.indexCast v310
  let c0_151 : Index := 0#32
  ![v397.toNat, 0]
def k0_off58 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_157 : BitVec 32 := 32#32
  let v426 : BitVec 32 := Scalar.muli arg35 c32_i32_157
  let c3_i32_158 : BitVec 32 := 3#32
  let v427 : BitVec 32 := Scalar.addi v426 c3_i32_158
  let v428 : Index := Scalar.indexCast v427
  ![v428.toNat]
def k0_off59 (v429 : BitVec 32) (v431 : BitVec 32) (v433 : BitVec 32) : Fin 4 → Nat :=
  let c0_i32_159 : BitVec 32 := 0#32
  let v434 : BitVec 32 := Scalar.maxsi v429 c0_i32_159
  let v450 : Index := Scalar.indexCast v434
  let c3_i32_160 : BitVec 32 := 3#32
  let v435 : BitVec 32 := Scalar.subi v431 c3_i32_160
  let c0_i32_161 : BitVec 32 := 0#32
  let v436 : BitVec 32 := Scalar.maxsi v435 c0_i32_161
  let v451 : Index := Scalar.indexCast v436
  let c3_i32_162 : BitVec 32 := 3#32
  let v437 : BitVec 32 := Scalar.subi v433 c3_i32_162
  let c0_i32_163 : BitVec 32 := 0#32
  let v438 : BitVec 32 := Scalar.maxsi v437 c0_i32_163
  let v452 : Index := Scalar.indexCast v438
  let c0_166 : Index := 0#32
  ![v450.toNat, v451.toNat, v452.toNat, 0]

def k0_chk20 (v429 : BitVec 32) (v431 : BitVec 32) (v433 : BitVec 32) : Prop :=
  (∀ a, (k0_off59 v429 v431 v433) a + S3x8x8x64.size a ≤ S9x51x51x64.size a)
theorem k0_off59_inb : ∀ (v429 : BitVec 32) (v431 : BitVec 32) (v433 : BitVec 32) (k0_hw20 : k0_chk20 v429 v431 v433), ∀ a, (k0_off59 v429 v431 v433) a + S3x8x8x64.size a ≤ S9x51x51x64.size a := fun v429 v431 v433 k0_hw20 => k0_hw20

def k0_off60 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_157 : BitVec 32 := 32#32
  let v426 : BitVec 32 := Scalar.muli arg35 c32_i32_157
  let c3_i32_158 : BitVec 32 := 3#32
  let v427 : BitVec 32 := Scalar.addi v426 c3_i32_158
  let v514 : Index := Scalar.indexCast v427
  let c0_185 : Index := 0#32
  ![v514.toNat, 0]
def k0_off61 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_191 : BitVec 32 := 32#32
  let v543 : BitVec 32 := Scalar.muli arg35 c32_i32_191
  let c4_i32 : BitVec 32 := 4#32
  let v544 : BitVec 32 := Scalar.addi v543 c4_i32
  let v545 : Index := Scalar.indexCast v544
  ![v545.toNat]
def k0_off62 (v546 : BitVec 32) (v548 : BitVec 32) (v550 : BitVec 32) : Fin 4 → Nat :=
  let c0_i32_192 : BitVec 32 := 0#32
  let v551 : BitVec 32 := Scalar.maxsi v546 c0_i32_192
  let v567 : Index := Scalar.indexCast v551
  let c3_i32_193 : BitVec 32 := 3#32
  let v552 : BitVec 32 := Scalar.subi v548 c3_i32_193
  let c0_i32_194 : BitVec 32 := 0#32
  let v553 : BitVec 32 := Scalar.maxsi v552 c0_i32_194
  let v568 : Index := Scalar.indexCast v553
  let c3_i32_195 : BitVec 32 := 3#32
  let v554 : BitVec 32 := Scalar.subi v550 c3_i32_195
  let c0_i32_196 : BitVec 32 := 0#32
  let v555 : BitVec 32 := Scalar.maxsi v554 c0_i32_196
  let v569 : Index := Scalar.indexCast v555
  let c0_199 : Index := 0#32
  ![v567.toNat, v568.toNat, v569.toNat, 0]

def k0_chk21 (v546 : BitVec 32) (v548 : BitVec 32) (v550 : BitVec 32) : Prop :=
  (∀ a, (k0_off62 v546 v548 v550) a + S3x8x8x64.size a ≤ S9x51x51x64.size a)
theorem k0_off62_inb : ∀ (v546 : BitVec 32) (v548 : BitVec 32) (v550 : BitVec 32) (k0_hw21 : k0_chk21 v546 v548 v550), ∀ a, (k0_off62 v546 v548 v550) a + S3x8x8x64.size a ≤ S9x51x51x64.size a := fun v546 v548 v550 k0_hw21 => k0_hw21

def k0_off63 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_191 : BitVec 32 := 32#32
  let v543 : BitVec 32 := Scalar.muli arg35 c32_i32_191
  let c4_i32 : BitVec 32 := 4#32
  let v544 : BitVec 32 := Scalar.addi v543 c4_i32
  let v631 : Index := Scalar.indexCast v544
  let c0_218 : Index := 0#32
  ![v631.toNat, 0]
def k0_off64 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_224 : BitVec 32 := 32#32
  let v660 : BitVec 32 := Scalar.muli arg35 c32_i32_224
  let c5_i32 : BitVec 32 := 5#32
  let v661 : BitVec 32 := Scalar.addi v660 c5_i32
  let v662 : Index := Scalar.indexCast v661
  ![v662.toNat]
def k0_off65 (v663 : BitVec 32) (v665 : BitVec 32) (v667 : BitVec 32) : Fin 4 → Nat :=
  let c0_i32_225 : BitVec 32 := 0#32
  let v668 : BitVec 32 := Scalar.maxsi v663 c0_i32_225
  let v684 : Index := Scalar.indexCast v668
  let c3_i32_226 : BitVec 32 := 3#32
  let v669 : BitVec 32 := Scalar.subi v665 c3_i32_226
  let c0_i32_227 : BitVec 32 := 0#32
  let v670 : BitVec 32 := Scalar.maxsi v669 c0_i32_227
  let v685 : Index := Scalar.indexCast v670
  let c3_i32_228 : BitVec 32 := 3#32
  let v671 : BitVec 32 := Scalar.subi v667 c3_i32_228
  let c0_i32_229 : BitVec 32 := 0#32
  let v672 : BitVec 32 := Scalar.maxsi v671 c0_i32_229
  let v686 : Index := Scalar.indexCast v672
  let c0_232 : Index := 0#32
  ![v684.toNat, v685.toNat, v686.toNat, 0]

def k0_chk22 (v663 : BitVec 32) (v665 : BitVec 32) (v667 : BitVec 32) : Prop :=
  (∀ a, (k0_off65 v663 v665 v667) a + S3x8x8x64.size a ≤ S9x51x51x64.size a)
theorem k0_off65_inb : ∀ (v663 : BitVec 32) (v665 : BitVec 32) (v667 : BitVec 32) (k0_hw22 : k0_chk22 v663 v665 v667), ∀ a, (k0_off65 v663 v665 v667) a + S3x8x8x64.size a ≤ S9x51x51x64.size a := fun v663 v665 v667 k0_hw22 => k0_hw22

def k0_off66 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_224 : BitVec 32 := 32#32
  let v660 : BitVec 32 := Scalar.muli arg35 c32_i32_224
  let c5_i32 : BitVec 32 := 5#32
  let v661 : BitVec 32 := Scalar.addi v660 c5_i32
  let v748 : Index := Scalar.indexCast v661
  let c0_251 : Index := 0#32
  ![v748.toNat, 0]
def k0_off67 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_257 : BitVec 32 := 32#32
  let v777 : BitVec 32 := Scalar.muli arg35 c32_i32_257
  let c6_i32_258 : BitVec 32 := 6#32
  let v778 : BitVec 32 := Scalar.addi v777 c6_i32_258
  let v779 : Index := Scalar.indexCast v778
  ![v779.toNat]
def k0_off68 (v780 : BitVec 32) (v782 : BitVec 32) (v784 : BitVec 32) : Fin 4 → Nat :=
  let c0_i32_259 : BitVec 32 := 0#32
  let v785 : BitVec 32 := Scalar.maxsi v780 c0_i32_259
  let v801 : Index := Scalar.indexCast v785
  let c3_i32_260 : BitVec 32 := 3#32
  let v786 : BitVec 32 := Scalar.subi v782 c3_i32_260
  let c0_i32_261 : BitVec 32 := 0#32
  let v787 : BitVec 32 := Scalar.maxsi v786 c0_i32_261
  let v802 : Index := Scalar.indexCast v787
  let c3_i32_262 : BitVec 32 := 3#32
  let v788 : BitVec 32 := Scalar.subi v784 c3_i32_262
  let c0_i32_263 : BitVec 32 := 0#32
  let v789 : BitVec 32 := Scalar.maxsi v788 c0_i32_263
  let v803 : Index := Scalar.indexCast v789
  let c0_266 : Index := 0#32
  ![v801.toNat, v802.toNat, v803.toNat, 0]

def k0_chk23 (v780 : BitVec 32) (v782 : BitVec 32) (v784 : BitVec 32) : Prop :=
  (∀ a, (k0_off68 v780 v782 v784) a + S3x8x8x64.size a ≤ S9x51x51x64.size a)
theorem k0_off68_inb : ∀ (v780 : BitVec 32) (v782 : BitVec 32) (v784 : BitVec 32) (k0_hw23 : k0_chk23 v780 v782 v784), ∀ a, (k0_off68 v780 v782 v784) a + S3x8x8x64.size a ≤ S9x51x51x64.size a := fun v780 v782 v784 k0_hw23 => k0_hw23

def k0_off69 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_257 : BitVec 32 := 32#32
  let v777 : BitVec 32 := Scalar.muli arg35 c32_i32_257
  let c6_i32_258 : BitVec 32 := 6#32
  let v778 : BitVec 32 := Scalar.addi v777 c6_i32_258
  let v865 : Index := Scalar.indexCast v778
  let c0_285 : Index := 0#32
  ![v865.toNat, 0]
def k0_off70 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_291 : BitVec 32 := 32#32
  let v894 : BitVec 32 := Scalar.muli arg35 c32_i32_291
  let c7_i32 : BitVec 32 := 7#32
  let v895 : BitVec 32 := Scalar.addi v894 c7_i32
  let v896 : Index := Scalar.indexCast v895
  ![v896.toNat]
def k0_off71 (v897 : BitVec 32) (v899 : BitVec 32) (v901 : BitVec 32) : Fin 4 → Nat :=
  let c0_i32_292 : BitVec 32 := 0#32
  let v902 : BitVec 32 := Scalar.maxsi v897 c0_i32_292
  let v918 : Index := Scalar.indexCast v902
  let c3_i32_293 : BitVec 32 := 3#32
  let v903 : BitVec 32 := Scalar.subi v899 c3_i32_293
  let c0_i32_294 : BitVec 32 := 0#32
  let v904 : BitVec 32 := Scalar.maxsi v903 c0_i32_294
  let v919 : Index := Scalar.indexCast v904
  let c3_i32_295 : BitVec 32 := 3#32
  let v905 : BitVec 32 := Scalar.subi v901 c3_i32_295
  let c0_i32_296 : BitVec 32 := 0#32
  let v906 : BitVec 32 := Scalar.maxsi v905 c0_i32_296
  let v920 : Index := Scalar.indexCast v906
  let c0_299 : Index := 0#32
  ![v918.toNat, v919.toNat, v920.toNat, 0]

def k0_chk24 (v897 : BitVec 32) (v899 : BitVec 32) (v901 : BitVec 32) : Prop :=
  (∀ a, (k0_off71 v897 v899 v901) a + S3x8x8x64.size a ≤ S9x51x51x64.size a)
theorem k0_off71_inb : ∀ (v897 : BitVec 32) (v899 : BitVec 32) (v901 : BitVec 32) (k0_hw24 : k0_chk24 v897 v899 v901), ∀ a, (k0_off71 v897 v899 v901) a + S3x8x8x64.size a ≤ S9x51x51x64.size a := fun v897 v899 v901 k0_hw24 => k0_hw24

def k0_off72 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_291 : BitVec 32 := 32#32
  let v894 : BitVec 32 := Scalar.muli arg35 c32_i32_291
  let c7_i32 : BitVec 32 := 7#32
  let v895 : BitVec 32 := Scalar.addi v894 c7_i32
  let v982 : Index := Scalar.indexCast v895
  let c0_318 : Index := 0#32
  ![v982.toNat, 0]
def k0_off73 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_324 : BitVec 32 := 32#32
  let v1011 : BitVec 32 := Scalar.muli arg35 c32_i32_324
  let c8_i32 : BitVec 32 := 8#32
  let v1012 : BitVec 32 := Scalar.addi v1011 c8_i32
  let v1013 : Index := Scalar.indexCast v1012
  ![v1013.toNat]
def k0_off74 (v1014 : BitVec 32) (v1016 : BitVec 32) (v1018 : BitVec 32) : Fin 4 → Nat :=
  let c0_i32_325 : BitVec 32 := 0#32
  let v1019 : BitVec 32 := Scalar.maxsi v1014 c0_i32_325
  let v1035 : Index := Scalar.indexCast v1019
  let c3_i32_326 : BitVec 32 := 3#32
  let v1020 : BitVec 32 := Scalar.subi v1016 c3_i32_326
  let c0_i32_327 : BitVec 32 := 0#32
  let v1021 : BitVec 32 := Scalar.maxsi v1020 c0_i32_327
  let v1036 : Index := Scalar.indexCast v1021
  let c3_i32_328 : BitVec 32 := 3#32
  let v1022 : BitVec 32 := Scalar.subi v1018 c3_i32_328
  let c0_i32_329 : BitVec 32 := 0#32
  let v1023 : BitVec 32 := Scalar.maxsi v1022 c0_i32_329
  let v1037 : Index := Scalar.indexCast v1023
  let c0_332 : Index := 0#32
  ![v1035.toNat, v1036.toNat, v1037.toNat, 0]

def k0_chk25 (v1014 : BitVec 32) (v1016 : BitVec 32) (v1018 : BitVec 32) : Prop :=
  (∀ a, (k0_off74 v1014 v1016 v1018) a + S3x8x8x64.size a ≤ S9x51x51x64.size a)
theorem k0_off74_inb : ∀ (v1014 : BitVec 32) (v1016 : BitVec 32) (v1018 : BitVec 32) (k0_hw25 : k0_chk25 v1014 v1016 v1018), ∀ a, (k0_off74 v1014 v1016 v1018) a + S3x8x8x64.size a ≤ S9x51x51x64.size a := fun v1014 v1016 v1018 k0_hw25 => k0_hw25

def k0_off75 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_324 : BitVec 32 := 32#32
  let v1011 : BitVec 32 := Scalar.muli arg35 c32_i32_324
  let c8_i32 : BitVec 32 := 8#32
  let v1012 : BitVec 32 := Scalar.addi v1011 c8_i32
  let v1099 : Index := Scalar.indexCast v1012
  let c0_351 : Index := 0#32
  ![v1099.toNat, 0]
def k0_off76 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_357 : BitVec 32 := 32#32
  let v1128 : BitVec 32 := Scalar.muli arg35 c32_i32_357
  let c9_i32 : BitVec 32 := 9#32
  let v1129 : BitVec 32 := Scalar.addi v1128 c9_i32
  let v1130 : Index := Scalar.indexCast v1129
  ![v1130.toNat]
def k0_off77 (v1131 : BitVec 32) (v1133 : BitVec 32) (v1135 : BitVec 32) : Fin 4 → Nat :=
  let c0_i32_358 : BitVec 32 := 0#32
  let v1136 : BitVec 32 := Scalar.maxsi v1131 c0_i32_358
  let v1152 : Index := Scalar.indexCast v1136
  let c3_i32_359 : BitVec 32 := 3#32
  let v1137 : BitVec 32 := Scalar.subi v1133 c3_i32_359
  let c0_i32_360 : BitVec 32 := 0#32
  let v1138 : BitVec 32 := Scalar.maxsi v1137 c0_i32_360
  let v1153 : Index := Scalar.indexCast v1138
  let c3_i32_361 : BitVec 32 := 3#32
  let v1139 : BitVec 32 := Scalar.subi v1135 c3_i32_361
  let c0_i32_362 : BitVec 32 := 0#32
  let v1140 : BitVec 32 := Scalar.maxsi v1139 c0_i32_362
  let v1154 : Index := Scalar.indexCast v1140
  let c0_365 : Index := 0#32
  ![v1152.toNat, v1153.toNat, v1154.toNat, 0]

def k0_chk26 (v1131 : BitVec 32) (v1133 : BitVec 32) (v1135 : BitVec 32) : Prop :=
  (∀ a, (k0_off77 v1131 v1133 v1135) a + S3x8x8x64.size a ≤ S9x51x51x64.size a)
theorem k0_off77_inb : ∀ (v1131 : BitVec 32) (v1133 : BitVec 32) (v1135 : BitVec 32) (k0_hw26 : k0_chk26 v1131 v1133 v1135), ∀ a, (k0_off77 v1131 v1133 v1135) a + S3x8x8x64.size a ≤ S9x51x51x64.size a := fun v1131 v1133 v1135 k0_hw26 => k0_hw26

def k0_off78 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_357 : BitVec 32 := 32#32
  let v1128 : BitVec 32 := Scalar.muli arg35 c32_i32_357
  let c9_i32 : BitVec 32 := 9#32
  let v1129 : BitVec 32 := Scalar.addi v1128 c9_i32
  let v1216 : Index := Scalar.indexCast v1129
  let c0_384 : Index := 0#32
  ![v1216.toNat, 0]
def k0_off79 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_390 : BitVec 32 := 32#32
  let v1245 : BitVec 32 := Scalar.muli arg35 c32_i32_390
  let c10_i32 : BitVec 32 := 10#32
  let v1246 : BitVec 32 := Scalar.addi v1245 c10_i32
  let v1247 : Index := Scalar.indexCast v1246
  ![v1247.toNat]
def k0_off80 (v1248 : BitVec 32) (v1250 : BitVec 32) (v1252 : BitVec 32) : Fin 4 → Nat :=
  let c0_i32_391 : BitVec 32 := 0#32
  let v1253 : BitVec 32 := Scalar.maxsi v1248 c0_i32_391
  let v1269 : Index := Scalar.indexCast v1253
  let c3_i32_392 : BitVec 32 := 3#32
  let v1254 : BitVec 32 := Scalar.subi v1250 c3_i32_392
  let c0_i32_393 : BitVec 32 := 0#32
  let v1255 : BitVec 32 := Scalar.maxsi v1254 c0_i32_393
  let v1270 : Index := Scalar.indexCast v1255
  let c3_i32_394 : BitVec 32 := 3#32
  let v1256 : BitVec 32 := Scalar.subi v1252 c3_i32_394
  let c0_i32_395 : BitVec 32 := 0#32
  let v1257 : BitVec 32 := Scalar.maxsi v1256 c0_i32_395
  let v1271 : Index := Scalar.indexCast v1257
  let c0_398 : Index := 0#32
  ![v1269.toNat, v1270.toNat, v1271.toNat, 0]

def k0_chk27 (v1248 : BitVec 32) (v1250 : BitVec 32) (v1252 : BitVec 32) : Prop :=
  (∀ a, (k0_off80 v1248 v1250 v1252) a + S3x8x8x64.size a ≤ S9x51x51x64.size a)
theorem k0_off80_inb : ∀ (v1248 : BitVec 32) (v1250 : BitVec 32) (v1252 : BitVec 32) (k0_hw27 : k0_chk27 v1248 v1250 v1252), ∀ a, (k0_off80 v1248 v1250 v1252) a + S3x8x8x64.size a ≤ S9x51x51x64.size a := fun v1248 v1250 v1252 k0_hw27 => k0_hw27

def k0_off81 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_390 : BitVec 32 := 32#32
  let v1245 : BitVec 32 := Scalar.muli arg35 c32_i32_390
  let c10_i32 : BitVec 32 := 10#32
  let v1246 : BitVec 32 := Scalar.addi v1245 c10_i32
  let v1333 : Index := Scalar.indexCast v1246
  let c0_417 : Index := 0#32
  ![v1333.toNat, 0]
def k0_off82 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_423 : BitVec 32 := 32#32
  let v1362 : BitVec 32 := Scalar.muli arg35 c32_i32_423
  let c11_i32 : BitVec 32 := 11#32
  let v1363 : BitVec 32 := Scalar.addi v1362 c11_i32
  let v1364 : Index := Scalar.indexCast v1363
  ![v1364.toNat]
def k0_off83 (v1365 : BitVec 32) (v1367 : BitVec 32) (v1369 : BitVec 32) : Fin 4 → Nat :=
  let c0_i32_424 : BitVec 32 := 0#32
  let v1370 : BitVec 32 := Scalar.maxsi v1365 c0_i32_424
  let v1386 : Index := Scalar.indexCast v1370
  let c3_i32_425 : BitVec 32 := 3#32
  let v1371 : BitVec 32 := Scalar.subi v1367 c3_i32_425
  let c0_i32_426 : BitVec 32 := 0#32
  let v1372 : BitVec 32 := Scalar.maxsi v1371 c0_i32_426
  let v1387 : Index := Scalar.indexCast v1372
  let c3_i32_427 : BitVec 32 := 3#32
  let v1373 : BitVec 32 := Scalar.subi v1369 c3_i32_427
  let c0_i32_428 : BitVec 32 := 0#32
  let v1374 : BitVec 32 := Scalar.maxsi v1373 c0_i32_428
  let v1388 : Index := Scalar.indexCast v1374
  let c0_431 : Index := 0#32
  ![v1386.toNat, v1387.toNat, v1388.toNat, 0]

def k0_chk28 (v1365 : BitVec 32) (v1367 : BitVec 32) (v1369 : BitVec 32) : Prop :=
  (∀ a, (k0_off83 v1365 v1367 v1369) a + S3x8x8x64.size a ≤ S9x51x51x64.size a)
theorem k0_off83_inb : ∀ (v1365 : BitVec 32) (v1367 : BitVec 32) (v1369 : BitVec 32) (k0_hw28 : k0_chk28 v1365 v1367 v1369), ∀ a, (k0_off83 v1365 v1367 v1369) a + S3x8x8x64.size a ≤ S9x51x51x64.size a := fun v1365 v1367 v1369 k0_hw28 => k0_hw28

def k0_off84 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_423 : BitVec 32 := 32#32
  let v1362 : BitVec 32 := Scalar.muli arg35 c32_i32_423
  let c11_i32 : BitVec 32 := 11#32
  let v1363 : BitVec 32 := Scalar.addi v1362 c11_i32
  let v1450 : Index := Scalar.indexCast v1363
  let c0_450 : Index := 0#32
  ![v1450.toNat, 0]
def k0_off85 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_456 : BitVec 32 := 32#32
  let v1479 : BitVec 32 := Scalar.muli arg35 c32_i32_456
  let c12_i32 : BitVec 32 := 12#32
  let v1480 : BitVec 32 := Scalar.addi v1479 c12_i32
  let v1481 : Index := Scalar.indexCast v1480
  ![v1481.toNat]
def k0_off86 (v1482 : BitVec 32) (v1484 : BitVec 32) (v1486 : BitVec 32) : Fin 4 → Nat :=
  let c0_i32_457 : BitVec 32 := 0#32
  let v1487 : BitVec 32 := Scalar.maxsi v1482 c0_i32_457
  let v1503 : Index := Scalar.indexCast v1487
  let c3_i32_458 : BitVec 32 := 3#32
  let v1488 : BitVec 32 := Scalar.subi v1484 c3_i32_458
  let c0_i32_459 : BitVec 32 := 0#32
  let v1489 : BitVec 32 := Scalar.maxsi v1488 c0_i32_459
  let v1504 : Index := Scalar.indexCast v1489
  let c3_i32_460 : BitVec 32 := 3#32
  let v1490 : BitVec 32 := Scalar.subi v1486 c3_i32_460
  let c0_i32_461 : BitVec 32 := 0#32
  let v1491 : BitVec 32 := Scalar.maxsi v1490 c0_i32_461
  let v1505 : Index := Scalar.indexCast v1491
  let c0_464 : Index := 0#32
  ![v1503.toNat, v1504.toNat, v1505.toNat, 0]

def k0_chk29 (v1482 : BitVec 32) (v1484 : BitVec 32) (v1486 : BitVec 32) : Prop :=
  (∀ a, (k0_off86 v1482 v1484 v1486) a + S3x8x8x64.size a ≤ S9x51x51x64.size a)
theorem k0_off86_inb : ∀ (v1482 : BitVec 32) (v1484 : BitVec 32) (v1486 : BitVec 32) (k0_hw29 : k0_chk29 v1482 v1484 v1486), ∀ a, (k0_off86 v1482 v1484 v1486) a + S3x8x8x64.size a ≤ S9x51x51x64.size a := fun v1482 v1484 v1486 k0_hw29 => k0_hw29

def k0_off87 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_456 : BitVec 32 := 32#32
  let v1479 : BitVec 32 := Scalar.muli arg35 c32_i32_456
  let c12_i32 : BitVec 32 := 12#32
  let v1480 : BitVec 32 := Scalar.addi v1479 c12_i32
  let v1567 : Index := Scalar.indexCast v1480
  let c0_483 : Index := 0#32
  ![v1567.toNat, 0]
def k0_off88 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_489 : BitVec 32 := 32#32
  let v1596 : BitVec 32 := Scalar.muli arg35 c32_i32_489
  let c13_i32 : BitVec 32 := 13#32
  let v1597 : BitVec 32 := Scalar.addi v1596 c13_i32
  let v1598 : Index := Scalar.indexCast v1597
  ![v1598.toNat]
def k0_off89 (v1599 : BitVec 32) (v1601 : BitVec 32) (v1603 : BitVec 32) : Fin 4 → Nat :=
  let c0_i32_490 : BitVec 32 := 0#32
  let v1604 : BitVec 32 := Scalar.maxsi v1599 c0_i32_490
  let v1620 : Index := Scalar.indexCast v1604
  let c3_i32_491 : BitVec 32 := 3#32
  let v1605 : BitVec 32 := Scalar.subi v1601 c3_i32_491
  let c0_i32_492 : BitVec 32 := 0#32
  let v1606 : BitVec 32 := Scalar.maxsi v1605 c0_i32_492
  let v1621 : Index := Scalar.indexCast v1606
  let c3_i32_493 : BitVec 32 := 3#32
  let v1607 : BitVec 32 := Scalar.subi v1603 c3_i32_493
  let c0_i32_494 : BitVec 32 := 0#32
  let v1608 : BitVec 32 := Scalar.maxsi v1607 c0_i32_494
  let v1622 : Index := Scalar.indexCast v1608
  let c0_497 : Index := 0#32
  ![v1620.toNat, v1621.toNat, v1622.toNat, 0]

def k0_chk30 (v1599 : BitVec 32) (v1601 : BitVec 32) (v1603 : BitVec 32) : Prop :=
  (∀ a, (k0_off89 v1599 v1601 v1603) a + S3x8x8x64.size a ≤ S9x51x51x64.size a)
theorem k0_off89_inb : ∀ (v1599 : BitVec 32) (v1601 : BitVec 32) (v1603 : BitVec 32) (k0_hw30 : k0_chk30 v1599 v1601 v1603), ∀ a, (k0_off89 v1599 v1601 v1603) a + S3x8x8x64.size a ≤ S9x51x51x64.size a := fun v1599 v1601 v1603 k0_hw30 => k0_hw30

def k0_off90 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_489 : BitVec 32 := 32#32
  let v1596 : BitVec 32 := Scalar.muli arg35 c32_i32_489
  let c13_i32 : BitVec 32 := 13#32
  let v1597 : BitVec 32 := Scalar.addi v1596 c13_i32
  let v1684 : Index := Scalar.indexCast v1597
  let c0_516 : Index := 0#32
  ![v1684.toNat, 0]
def k0_off91 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_522 : BitVec 32 := 32#32
  let v1713 : BitVec 32 := Scalar.muli arg35 c32_i32_522
  let c14_i32 : BitVec 32 := 14#32
  let v1714 : BitVec 32 := Scalar.addi v1713 c14_i32
  let v1715 : Index := Scalar.indexCast v1714
  ![v1715.toNat]
def k0_off92 (v1716 : BitVec 32) (v1718 : BitVec 32) (v1720 : BitVec 32) : Fin 4 → Nat :=
  let c0_i32_523 : BitVec 32 := 0#32
  let v1721 : BitVec 32 := Scalar.maxsi v1716 c0_i32_523
  let v1737 : Index := Scalar.indexCast v1721
  let c3_i32_524 : BitVec 32 := 3#32
  let v1722 : BitVec 32 := Scalar.subi v1718 c3_i32_524
  let c0_i32_525 : BitVec 32 := 0#32
  let v1723 : BitVec 32 := Scalar.maxsi v1722 c0_i32_525
  let v1738 : Index := Scalar.indexCast v1723
  let c3_i32_526 : BitVec 32 := 3#32
  let v1724 : BitVec 32 := Scalar.subi v1720 c3_i32_526
  let c0_i32_527 : BitVec 32 := 0#32
  let v1725 : BitVec 32 := Scalar.maxsi v1724 c0_i32_527
  let v1739 : Index := Scalar.indexCast v1725
  let c0_530 : Index := 0#32
  ![v1737.toNat, v1738.toNat, v1739.toNat, 0]

def k0_chk31 (v1716 : BitVec 32) (v1718 : BitVec 32) (v1720 : BitVec 32) : Prop :=
  (∀ a, (k0_off92 v1716 v1718 v1720) a + S3x8x8x64.size a ≤ S9x51x51x64.size a)
theorem k0_off92_inb : ∀ (v1716 : BitVec 32) (v1718 : BitVec 32) (v1720 : BitVec 32) (k0_hw31 : k0_chk31 v1716 v1718 v1720), ∀ a, (k0_off92 v1716 v1718 v1720) a + S3x8x8x64.size a ≤ S9x51x51x64.size a := fun v1716 v1718 v1720 k0_hw31 => k0_hw31

def k0_off93 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_522 : BitVec 32 := 32#32
  let v1713 : BitVec 32 := Scalar.muli arg35 c32_i32_522
  let c14_i32 : BitVec 32 := 14#32
  let v1714 : BitVec 32 := Scalar.addi v1713 c14_i32
  let v1801 : Index := Scalar.indexCast v1714
  let c0_549 : Index := 0#32
  ![v1801.toNat, 0]
def k0_off94 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_555 : BitVec 32 := 32#32
  let v1830 : BitVec 32 := Scalar.muli arg35 c32_i32_555
  let c15_i32 : BitVec 32 := 15#32
  let v1831 : BitVec 32 := Scalar.addi v1830 c15_i32
  let v1832 : Index := Scalar.indexCast v1831
  ![v1832.toNat]
def k0_off95 (v1833 : BitVec 32) (v1835 : BitVec 32) (v1837 : BitVec 32) : Fin 4 → Nat :=
  let c0_i32_556 : BitVec 32 := 0#32
  let v1838 : BitVec 32 := Scalar.maxsi v1833 c0_i32_556
  let v1854 : Index := Scalar.indexCast v1838
  let c3_i32_557 : BitVec 32 := 3#32
  let v1839 : BitVec 32 := Scalar.subi v1835 c3_i32_557
  let c0_i32_558 : BitVec 32 := 0#32
  let v1840 : BitVec 32 := Scalar.maxsi v1839 c0_i32_558
  let v1855 : Index := Scalar.indexCast v1840
  let c3_i32_559 : BitVec 32 := 3#32
  let v1841 : BitVec 32 := Scalar.subi v1837 c3_i32_559
  let c0_i32_560 : BitVec 32 := 0#32
  let v1842 : BitVec 32 := Scalar.maxsi v1841 c0_i32_560
  let v1856 : Index := Scalar.indexCast v1842
  let c0_563 : Index := 0#32
  ![v1854.toNat, v1855.toNat, v1856.toNat, 0]

def k0_chk32 (v1833 : BitVec 32) (v1835 : BitVec 32) (v1837 : BitVec 32) : Prop :=
  (∀ a, (k0_off95 v1833 v1835 v1837) a + S3x8x8x64.size a ≤ S9x51x51x64.size a)
theorem k0_off95_inb : ∀ (v1833 : BitVec 32) (v1835 : BitVec 32) (v1837 : BitVec 32) (k0_hw32 : k0_chk32 v1833 v1835 v1837), ∀ a, (k0_off95 v1833 v1835 v1837) a + S3x8x8x64.size a ≤ S9x51x51x64.size a := fun v1833 v1835 v1837 k0_hw32 => k0_hw32

def k0_off96 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_555 : BitVec 32 := 32#32
  let v1830 : BitVec 32 := Scalar.muli arg35 c32_i32_555
  let c15_i32 : BitVec 32 := 15#32
  let v1831 : BitVec 32 := Scalar.addi v1830 c15_i32
  let v1918 : Index := Scalar.indexCast v1831
  let c0_582 : Index := 0#32
  ![v1918.toNat, 0]
def k0_off97 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_588 : BitVec 32 := 32#32
  let v1947 : BitVec 32 := Scalar.muli arg35 c32_i32_588
  let c16_i32 : BitVec 32 := 16#32
  let v1948 : BitVec 32 := Scalar.addi v1947 c16_i32
  let v1949 : Index := Scalar.indexCast v1948
  ![v1949.toNat]
def k0_off98 (v1950 : BitVec 32) (v1952 : BitVec 32) (v1954 : BitVec 32) : Fin 4 → Nat :=
  let c0_i32_589 : BitVec 32 := 0#32
  let v1955 : BitVec 32 := Scalar.maxsi v1950 c0_i32_589
  let v1971 : Index := Scalar.indexCast v1955
  let c3_i32_590 : BitVec 32 := 3#32
  let v1956 : BitVec 32 := Scalar.subi v1952 c3_i32_590
  let c0_i32_591 : BitVec 32 := 0#32
  let v1957 : BitVec 32 := Scalar.maxsi v1956 c0_i32_591
  let v1972 : Index := Scalar.indexCast v1957
  let c3_i32_592 : BitVec 32 := 3#32
  let v1958 : BitVec 32 := Scalar.subi v1954 c3_i32_592
  let c0_i32_593 : BitVec 32 := 0#32
  let v1959 : BitVec 32 := Scalar.maxsi v1958 c0_i32_593
  let v1973 : Index := Scalar.indexCast v1959
  let c0_596 : Index := 0#32
  ![v1971.toNat, v1972.toNat, v1973.toNat, 0]

def k0_chk33 (v1950 : BitVec 32) (v1952 : BitVec 32) (v1954 : BitVec 32) : Prop :=
  (∀ a, (k0_off98 v1950 v1952 v1954) a + S3x8x8x64.size a ≤ S9x51x51x64.size a)
theorem k0_off98_inb : ∀ (v1950 : BitVec 32) (v1952 : BitVec 32) (v1954 : BitVec 32) (k0_hw33 : k0_chk33 v1950 v1952 v1954), ∀ a, (k0_off98 v1950 v1952 v1954) a + S3x8x8x64.size a ≤ S9x51x51x64.size a := fun v1950 v1952 v1954 k0_hw33 => k0_hw33

def k0_off99 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_588 : BitVec 32 := 32#32
  let v1947 : BitVec 32 := Scalar.muli arg35 c32_i32_588
  let c16_i32 : BitVec 32 := 16#32
  let v1948 : BitVec 32 := Scalar.addi v1947 c16_i32
  let v2035 : Index := Scalar.indexCast v1948
  let c0_615 : Index := 0#32
  ![v2035.toNat, 0]
def k0_off100 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_621 : BitVec 32 := 32#32
  let v2064 : BitVec 32 := Scalar.muli arg35 c32_i32_621
  let c17_i32 : BitVec 32 := 17#32
  let v2065 : BitVec 32 := Scalar.addi v2064 c17_i32
  let v2066 : Index := Scalar.indexCast v2065
  ![v2066.toNat]
def k0_off101 (v2067 : BitVec 32) (v2069 : BitVec 32) (v2071 : BitVec 32) : Fin 4 → Nat :=
  let c0_i32_622 : BitVec 32 := 0#32
  let v2072 : BitVec 32 := Scalar.maxsi v2067 c0_i32_622
  let v2088 : Index := Scalar.indexCast v2072
  let c3_i32_623 : BitVec 32 := 3#32
  let v2073 : BitVec 32 := Scalar.subi v2069 c3_i32_623
  let c0_i32_624 : BitVec 32 := 0#32
  let v2074 : BitVec 32 := Scalar.maxsi v2073 c0_i32_624
  let v2089 : Index := Scalar.indexCast v2074
  let c3_i32_625 : BitVec 32 := 3#32
  let v2075 : BitVec 32 := Scalar.subi v2071 c3_i32_625
  let c0_i32_626 : BitVec 32 := 0#32
  let v2076 : BitVec 32 := Scalar.maxsi v2075 c0_i32_626
  let v2090 : Index := Scalar.indexCast v2076
  let c0_629 : Index := 0#32
  ![v2088.toNat, v2089.toNat, v2090.toNat, 0]

def k0_chk34 (v2067 : BitVec 32) (v2069 : BitVec 32) (v2071 : BitVec 32) : Prop :=
  (∀ a, (k0_off101 v2067 v2069 v2071) a + S3x8x8x64.size a ≤ S9x51x51x64.size a)
theorem k0_off101_inb : ∀ (v2067 : BitVec 32) (v2069 : BitVec 32) (v2071 : BitVec 32) (k0_hw34 : k0_chk34 v2067 v2069 v2071), ∀ a, (k0_off101 v2067 v2069 v2071) a + S3x8x8x64.size a ≤ S9x51x51x64.size a := fun v2067 v2069 v2071 k0_hw34 => k0_hw34

def k0_off102 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_621 : BitVec 32 := 32#32
  let v2064 : BitVec 32 := Scalar.muli arg35 c32_i32_621
  let c17_i32 : BitVec 32 := 17#32
  let v2065 : BitVec 32 := Scalar.addi v2064 c17_i32
  let v2152 : Index := Scalar.indexCast v2065
  let c0_648 : Index := 0#32
  ![v2152.toNat, 0]
def k0_off103 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_654 : BitVec 32 := 32#32
  let v2181 : BitVec 32 := Scalar.muli arg35 c32_i32_654
  let c18_i32 : BitVec 32 := 18#32
  let v2182 : BitVec 32 := Scalar.addi v2181 c18_i32
  let v2183 : Index := Scalar.indexCast v2182
  ![v2183.toNat]
def k0_off104 (v2184 : BitVec 32) (v2186 : BitVec 32) (v2188 : BitVec 32) : Fin 4 → Nat :=
  let c0_i32_655 : BitVec 32 := 0#32
  let v2189 : BitVec 32 := Scalar.maxsi v2184 c0_i32_655
  let v2205 : Index := Scalar.indexCast v2189
  let c3_i32_656 : BitVec 32 := 3#32
  let v2190 : BitVec 32 := Scalar.subi v2186 c3_i32_656
  let c0_i32_657 : BitVec 32 := 0#32
  let v2191 : BitVec 32 := Scalar.maxsi v2190 c0_i32_657
  let v2206 : Index := Scalar.indexCast v2191
  let c3_i32_658 : BitVec 32 := 3#32
  let v2192 : BitVec 32 := Scalar.subi v2188 c3_i32_658
  let c0_i32_659 : BitVec 32 := 0#32
  let v2193 : BitVec 32 := Scalar.maxsi v2192 c0_i32_659
  let v2207 : Index := Scalar.indexCast v2193
  let c0_662 : Index := 0#32
  ![v2205.toNat, v2206.toNat, v2207.toNat, 0]

def k0_chk35 (v2184 : BitVec 32) (v2186 : BitVec 32) (v2188 : BitVec 32) : Prop :=
  (∀ a, (k0_off104 v2184 v2186 v2188) a + S3x8x8x64.size a ≤ S9x51x51x64.size a)
theorem k0_off104_inb : ∀ (v2184 : BitVec 32) (v2186 : BitVec 32) (v2188 : BitVec 32) (k0_hw35 : k0_chk35 v2184 v2186 v2188), ∀ a, (k0_off104 v2184 v2186 v2188) a + S3x8x8x64.size a ≤ S9x51x51x64.size a := fun v2184 v2186 v2188 k0_hw35 => k0_hw35

def k0_off105 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_654 : BitVec 32 := 32#32
  let v2181 : BitVec 32 := Scalar.muli arg35 c32_i32_654
  let c18_i32 : BitVec 32 := 18#32
  let v2182 : BitVec 32 := Scalar.addi v2181 c18_i32
  let v2269 : Index := Scalar.indexCast v2182
  let c0_681 : Index := 0#32
  ![v2269.toNat, 0]
def k0_off106 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_687 : BitVec 32 := 32#32
  let v2298 : BitVec 32 := Scalar.muli arg35 c32_i32_687
  let c19_i32 : BitVec 32 := 19#32
  let v2299 : BitVec 32 := Scalar.addi v2298 c19_i32
  let v2300 : Index := Scalar.indexCast v2299
  ![v2300.toNat]
def k0_off107 (v2301 : BitVec 32) (v2303 : BitVec 32) (v2305 : BitVec 32) : Fin 4 → Nat :=
  let c0_i32_688 : BitVec 32 := 0#32
  let v2306 : BitVec 32 := Scalar.maxsi v2301 c0_i32_688
  let v2322 : Index := Scalar.indexCast v2306
  let c3_i32_689 : BitVec 32 := 3#32
  let v2307 : BitVec 32 := Scalar.subi v2303 c3_i32_689
  let c0_i32_690 : BitVec 32 := 0#32
  let v2308 : BitVec 32 := Scalar.maxsi v2307 c0_i32_690
  let v2323 : Index := Scalar.indexCast v2308
  let c3_i32_691 : BitVec 32 := 3#32
  let v2309 : BitVec 32 := Scalar.subi v2305 c3_i32_691
  let c0_i32_692 : BitVec 32 := 0#32
  let v2310 : BitVec 32 := Scalar.maxsi v2309 c0_i32_692
  let v2324 : Index := Scalar.indexCast v2310
  let c0_695 : Index := 0#32
  ![v2322.toNat, v2323.toNat, v2324.toNat, 0]

def k0_chk36 (v2301 : BitVec 32) (v2303 : BitVec 32) (v2305 : BitVec 32) : Prop :=
  (∀ a, (k0_off107 v2301 v2303 v2305) a + S3x8x8x64.size a ≤ S9x51x51x64.size a)
theorem k0_off107_inb : ∀ (v2301 : BitVec 32) (v2303 : BitVec 32) (v2305 : BitVec 32) (k0_hw36 : k0_chk36 v2301 v2303 v2305), ∀ a, (k0_off107 v2301 v2303 v2305) a + S3x8x8x64.size a ≤ S9x51x51x64.size a := fun v2301 v2303 v2305 k0_hw36 => k0_hw36

def k0_off108 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_687 : BitVec 32 := 32#32
  let v2298 : BitVec 32 := Scalar.muli arg35 c32_i32_687
  let c19_i32 : BitVec 32 := 19#32
  let v2299 : BitVec 32 := Scalar.addi v2298 c19_i32
  let v2386 : Index := Scalar.indexCast v2299
  let c0_714 : Index := 0#32
  ![v2386.toNat, 0]
def k0_off109 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_720 : BitVec 32 := 32#32
  let v2415 : BitVec 32 := Scalar.muli arg35 c32_i32_720
  let c20_i32 : BitVec 32 := 20#32
  let v2416 : BitVec 32 := Scalar.addi v2415 c20_i32
  let v2417 : Index := Scalar.indexCast v2416
  ![v2417.toNat]
def k0_off110 (v2418 : BitVec 32) (v2420 : BitVec 32) (v2422 : BitVec 32) : Fin 4 → Nat :=
  let c0_i32_721 : BitVec 32 := 0#32
  let v2423 : BitVec 32 := Scalar.maxsi v2418 c0_i32_721
  let v2439 : Index := Scalar.indexCast v2423
  let c3_i32_722 : BitVec 32 := 3#32
  let v2424 : BitVec 32 := Scalar.subi v2420 c3_i32_722
  let c0_i32_723 : BitVec 32 := 0#32
  let v2425 : BitVec 32 := Scalar.maxsi v2424 c0_i32_723
  let v2440 : Index := Scalar.indexCast v2425
  let c3_i32_724 : BitVec 32 := 3#32
  let v2426 : BitVec 32 := Scalar.subi v2422 c3_i32_724
  let c0_i32_725 : BitVec 32 := 0#32
  let v2427 : BitVec 32 := Scalar.maxsi v2426 c0_i32_725
  let v2441 : Index := Scalar.indexCast v2427
  let c0_728 : Index := 0#32
  ![v2439.toNat, v2440.toNat, v2441.toNat, 0]

def k0_chk37 (v2418 : BitVec 32) (v2420 : BitVec 32) (v2422 : BitVec 32) : Prop :=
  (∀ a, (k0_off110 v2418 v2420 v2422) a + S3x8x8x64.size a ≤ S9x51x51x64.size a)
theorem k0_off110_inb : ∀ (v2418 : BitVec 32) (v2420 : BitVec 32) (v2422 : BitVec 32) (k0_hw37 : k0_chk37 v2418 v2420 v2422), ∀ a, (k0_off110 v2418 v2420 v2422) a + S3x8x8x64.size a ≤ S9x51x51x64.size a := fun v2418 v2420 v2422 k0_hw37 => k0_hw37

def k0_off111 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_720 : BitVec 32 := 32#32
  let v2415 : BitVec 32 := Scalar.muli arg35 c32_i32_720
  let c20_i32 : BitVec 32 := 20#32
  let v2416 : BitVec 32 := Scalar.addi v2415 c20_i32
  let v2503 : Index := Scalar.indexCast v2416
  let c0_747 : Index := 0#32
  ![v2503.toNat, 0]
def k0_off112 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_753 : BitVec 32 := 32#32
  let v2532 : BitVec 32 := Scalar.muli arg35 c32_i32_753
  let c21_i32 : BitVec 32 := 21#32
  let v2533 : BitVec 32 := Scalar.addi v2532 c21_i32
  let v2534 : Index := Scalar.indexCast v2533
  ![v2534.toNat]
def k0_off113 (v2535 : BitVec 32) (v2537 : BitVec 32) (v2539 : BitVec 32) : Fin 4 → Nat :=
  let c0_i32_754 : BitVec 32 := 0#32
  let v2540 : BitVec 32 := Scalar.maxsi v2535 c0_i32_754
  let v2556 : Index := Scalar.indexCast v2540
  let c3_i32_755 : BitVec 32 := 3#32
  let v2541 : BitVec 32 := Scalar.subi v2537 c3_i32_755
  let c0_i32_756 : BitVec 32 := 0#32
  let v2542 : BitVec 32 := Scalar.maxsi v2541 c0_i32_756
  let v2557 : Index := Scalar.indexCast v2542
  let c3_i32_757 : BitVec 32 := 3#32
  let v2543 : BitVec 32 := Scalar.subi v2539 c3_i32_757
  let c0_i32_758 : BitVec 32 := 0#32
  let v2544 : BitVec 32 := Scalar.maxsi v2543 c0_i32_758
  let v2558 : Index := Scalar.indexCast v2544
  let c0_761 : Index := 0#32
  ![v2556.toNat, v2557.toNat, v2558.toNat, 0]

def k0_chk38 (v2535 : BitVec 32) (v2537 : BitVec 32) (v2539 : BitVec 32) : Prop :=
  (∀ a, (k0_off113 v2535 v2537 v2539) a + S3x8x8x64.size a ≤ S9x51x51x64.size a)
theorem k0_off113_inb : ∀ (v2535 : BitVec 32) (v2537 : BitVec 32) (v2539 : BitVec 32) (k0_hw38 : k0_chk38 v2535 v2537 v2539), ∀ a, (k0_off113 v2535 v2537 v2539) a + S3x8x8x64.size a ≤ S9x51x51x64.size a := fun v2535 v2537 v2539 k0_hw38 => k0_hw38

def k0_off114 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_753 : BitVec 32 := 32#32
  let v2532 : BitVec 32 := Scalar.muli arg35 c32_i32_753
  let c21_i32 : BitVec 32 := 21#32
  let v2533 : BitVec 32 := Scalar.addi v2532 c21_i32
  let v2620 : Index := Scalar.indexCast v2533
  let c0_780 : Index := 0#32
  ![v2620.toNat, 0]
def k0_off115 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_786 : BitVec 32 := 32#32
  let v2649 : BitVec 32 := Scalar.muli arg35 c32_i32_786
  let c22_i32 : BitVec 32 := 22#32
  let v2650 : BitVec 32 := Scalar.addi v2649 c22_i32
  let v2651 : Index := Scalar.indexCast v2650
  ![v2651.toNat]
def k0_off116 (v2652 : BitVec 32) (v2654 : BitVec 32) (v2656 : BitVec 32) : Fin 4 → Nat :=
  let c0_i32_787 : BitVec 32 := 0#32
  let v2657 : BitVec 32 := Scalar.maxsi v2652 c0_i32_787
  let v2673 : Index := Scalar.indexCast v2657
  let c3_i32_788 : BitVec 32 := 3#32
  let v2658 : BitVec 32 := Scalar.subi v2654 c3_i32_788
  let c0_i32_789 : BitVec 32 := 0#32
  let v2659 : BitVec 32 := Scalar.maxsi v2658 c0_i32_789
  let v2674 : Index := Scalar.indexCast v2659
  let c3_i32_790 : BitVec 32 := 3#32
  let v2660 : BitVec 32 := Scalar.subi v2656 c3_i32_790
  let c0_i32_791 : BitVec 32 := 0#32
  let v2661 : BitVec 32 := Scalar.maxsi v2660 c0_i32_791
  let v2675 : Index := Scalar.indexCast v2661
  let c0_794 : Index := 0#32
  ![v2673.toNat, v2674.toNat, v2675.toNat, 0]

def k0_chk39 (v2652 : BitVec 32) (v2654 : BitVec 32) (v2656 : BitVec 32) : Prop :=
  (∀ a, (k0_off116 v2652 v2654 v2656) a + S3x8x8x64.size a ≤ S9x51x51x64.size a)
theorem k0_off116_inb : ∀ (v2652 : BitVec 32) (v2654 : BitVec 32) (v2656 : BitVec 32) (k0_hw39 : k0_chk39 v2652 v2654 v2656), ∀ a, (k0_off116 v2652 v2654 v2656) a + S3x8x8x64.size a ≤ S9x51x51x64.size a := fun v2652 v2654 v2656 k0_hw39 => k0_hw39

def k0_off117 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_786 : BitVec 32 := 32#32
  let v2649 : BitVec 32 := Scalar.muli arg35 c32_i32_786
  let c22_i32 : BitVec 32 := 22#32
  let v2650 : BitVec 32 := Scalar.addi v2649 c22_i32
  let v2737 : Index := Scalar.indexCast v2650
  let c0_813 : Index := 0#32
  ![v2737.toNat, 0]
def k0_off118 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_819 : BitVec 32 := 32#32
  let v2766 : BitVec 32 := Scalar.muli arg35 c32_i32_819
  let c23_i32 : BitVec 32 := 23#32
  let v2767 : BitVec 32 := Scalar.addi v2766 c23_i32
  let v2768 : Index := Scalar.indexCast v2767
  ![v2768.toNat]
def k0_off119 (v2769 : BitVec 32) (v2771 : BitVec 32) (v2773 : BitVec 32) : Fin 4 → Nat :=
  let c0_i32_820 : BitVec 32 := 0#32
  let v2774 : BitVec 32 := Scalar.maxsi v2769 c0_i32_820
  let v2790 : Index := Scalar.indexCast v2774
  let c3_i32_821 : BitVec 32 := 3#32
  let v2775 : BitVec 32 := Scalar.subi v2771 c3_i32_821
  let c0_i32_822 : BitVec 32 := 0#32
  let v2776 : BitVec 32 := Scalar.maxsi v2775 c0_i32_822
  let v2791 : Index := Scalar.indexCast v2776
  let c3_i32_823 : BitVec 32 := 3#32
  let v2777 : BitVec 32 := Scalar.subi v2773 c3_i32_823
  let c0_i32_824 : BitVec 32 := 0#32
  let v2778 : BitVec 32 := Scalar.maxsi v2777 c0_i32_824
  let v2792 : Index := Scalar.indexCast v2778
  let c0_827 : Index := 0#32
  ![v2790.toNat, v2791.toNat, v2792.toNat, 0]

def k0_chk40 (v2769 : BitVec 32) (v2771 : BitVec 32) (v2773 : BitVec 32) : Prop :=
  (∀ a, (k0_off119 v2769 v2771 v2773) a + S3x8x8x64.size a ≤ S9x51x51x64.size a)
theorem k0_off119_inb : ∀ (v2769 : BitVec 32) (v2771 : BitVec 32) (v2773 : BitVec 32) (k0_hw40 : k0_chk40 v2769 v2771 v2773), ∀ a, (k0_off119 v2769 v2771 v2773) a + S3x8x8x64.size a ≤ S9x51x51x64.size a := fun v2769 v2771 v2773 k0_hw40 => k0_hw40

def k0_off120 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_819 : BitVec 32 := 32#32
  let v2766 : BitVec 32 := Scalar.muli arg35 c32_i32_819
  let c23_i32 : BitVec 32 := 23#32
  let v2767 : BitVec 32 := Scalar.addi v2766 c23_i32
  let v2854 : Index := Scalar.indexCast v2767
  let c0_846 : Index := 0#32
  ![v2854.toNat, 0]
def k0_off121 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_852 : BitVec 32 := 32#32
  let v2883 : BitVec 32 := Scalar.muli arg35 c32_i32_852
  let c24_i32 : BitVec 32 := 24#32
  let v2884 : BitVec 32 := Scalar.addi v2883 c24_i32
  let v2885 : Index := Scalar.indexCast v2884
  ![v2885.toNat]
def k0_off122 (v2886 : BitVec 32) (v2888 : BitVec 32) (v2890 : BitVec 32) : Fin 4 → Nat :=
  let c0_i32_853 : BitVec 32 := 0#32
  let v2891 : BitVec 32 := Scalar.maxsi v2886 c0_i32_853
  let v2907 : Index := Scalar.indexCast v2891
  let c3_i32_854 : BitVec 32 := 3#32
  let v2892 : BitVec 32 := Scalar.subi v2888 c3_i32_854
  let c0_i32_855 : BitVec 32 := 0#32
  let v2893 : BitVec 32 := Scalar.maxsi v2892 c0_i32_855
  let v2908 : Index := Scalar.indexCast v2893
  let c3_i32_856 : BitVec 32 := 3#32
  let v2894 : BitVec 32 := Scalar.subi v2890 c3_i32_856
  let c0_i32_857 : BitVec 32 := 0#32
  let v2895 : BitVec 32 := Scalar.maxsi v2894 c0_i32_857
  let v2909 : Index := Scalar.indexCast v2895
  let c0_860 : Index := 0#32
  ![v2907.toNat, v2908.toNat, v2909.toNat, 0]

def k0_chk41 (v2886 : BitVec 32) (v2888 : BitVec 32) (v2890 : BitVec 32) : Prop :=
  (∀ a, (k0_off122 v2886 v2888 v2890) a + S3x8x8x64.size a ≤ S9x51x51x64.size a)
theorem k0_off122_inb : ∀ (v2886 : BitVec 32) (v2888 : BitVec 32) (v2890 : BitVec 32) (k0_hw41 : k0_chk41 v2886 v2888 v2890), ∀ a, (k0_off122 v2886 v2888 v2890) a + S3x8x8x64.size a ≤ S9x51x51x64.size a := fun v2886 v2888 v2890 k0_hw41 => k0_hw41

def k0_off123 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_852 : BitVec 32 := 32#32
  let v2883 : BitVec 32 := Scalar.muli arg35 c32_i32_852
  let c24_i32 : BitVec 32 := 24#32
  let v2884 : BitVec 32 := Scalar.addi v2883 c24_i32
  let v2971 : Index := Scalar.indexCast v2884
  let c0_879 : Index := 0#32
  ![v2971.toNat, 0]
def k0_off124 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_885 : BitVec 32 := 32#32
  let v3000 : BitVec 32 := Scalar.muli arg35 c32_i32_885
  let c25_i32 : BitVec 32 := 25#32
  let v3001 : BitVec 32 := Scalar.addi v3000 c25_i32
  let v3002 : Index := Scalar.indexCast v3001
  ![v3002.toNat]
def k0_off125 (v3003 : BitVec 32) (v3005 : BitVec 32) (v3007 : BitVec 32) : Fin 4 → Nat :=
  let c0_i32_886 : BitVec 32 := 0#32
  let v3008 : BitVec 32 := Scalar.maxsi v3003 c0_i32_886
  let v3024 : Index := Scalar.indexCast v3008
  let c3_i32_887 : BitVec 32 := 3#32
  let v3009 : BitVec 32 := Scalar.subi v3005 c3_i32_887
  let c0_i32_888 : BitVec 32 := 0#32
  let v3010 : BitVec 32 := Scalar.maxsi v3009 c0_i32_888
  let v3025 : Index := Scalar.indexCast v3010
  let c3_i32_889 : BitVec 32 := 3#32
  let v3011 : BitVec 32 := Scalar.subi v3007 c3_i32_889
  let c0_i32_890 : BitVec 32 := 0#32
  let v3012 : BitVec 32 := Scalar.maxsi v3011 c0_i32_890
  let v3026 : Index := Scalar.indexCast v3012
  let c0_893 : Index := 0#32
  ![v3024.toNat, v3025.toNat, v3026.toNat, 0]

def k0_chk42 (v3003 : BitVec 32) (v3005 : BitVec 32) (v3007 : BitVec 32) : Prop :=
  (∀ a, (k0_off125 v3003 v3005 v3007) a + S3x8x8x64.size a ≤ S9x51x51x64.size a)
theorem k0_off125_inb : ∀ (v3003 : BitVec 32) (v3005 : BitVec 32) (v3007 : BitVec 32) (k0_hw42 : k0_chk42 v3003 v3005 v3007), ∀ a, (k0_off125 v3003 v3005 v3007) a + S3x8x8x64.size a ≤ S9x51x51x64.size a := fun v3003 v3005 v3007 k0_hw42 => k0_hw42

def k0_off126 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_885 : BitVec 32 := 32#32
  let v3000 : BitVec 32 := Scalar.muli arg35 c32_i32_885
  let c25_i32 : BitVec 32 := 25#32
  let v3001 : BitVec 32 := Scalar.addi v3000 c25_i32
  let v3088 : Index := Scalar.indexCast v3001
  let c0_912 : Index := 0#32
  ![v3088.toNat, 0]
def k0_off127 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_918 : BitVec 32 := 32#32
  let v3117 : BitVec 32 := Scalar.muli arg35 c32_i32_918
  let c26_i32 : BitVec 32 := 26#32
  let v3118 : BitVec 32 := Scalar.addi v3117 c26_i32
  let v3119 : Index := Scalar.indexCast v3118
  ![v3119.toNat]
def k0_off128 (v3120 : BitVec 32) (v3122 : BitVec 32) (v3124 : BitVec 32) : Fin 4 → Nat :=
  let c0_i32_919 : BitVec 32 := 0#32
  let v3125 : BitVec 32 := Scalar.maxsi v3120 c0_i32_919
  let v3141 : Index := Scalar.indexCast v3125
  let c3_i32_920 : BitVec 32 := 3#32
  let v3126 : BitVec 32 := Scalar.subi v3122 c3_i32_920
  let c0_i32_921 : BitVec 32 := 0#32
  let v3127 : BitVec 32 := Scalar.maxsi v3126 c0_i32_921
  let v3142 : Index := Scalar.indexCast v3127
  let c3_i32_922 : BitVec 32 := 3#32
  let v3128 : BitVec 32 := Scalar.subi v3124 c3_i32_922
  let c0_i32_923 : BitVec 32 := 0#32
  let v3129 : BitVec 32 := Scalar.maxsi v3128 c0_i32_923
  let v3143 : Index := Scalar.indexCast v3129
  let c0_926 : Index := 0#32
  ![v3141.toNat, v3142.toNat, v3143.toNat, 0]

def k0_chk43 (v3120 : BitVec 32) (v3122 : BitVec 32) (v3124 : BitVec 32) : Prop :=
  (∀ a, (k0_off128 v3120 v3122 v3124) a + S3x8x8x64.size a ≤ S9x51x51x64.size a)
theorem k0_off128_inb : ∀ (v3120 : BitVec 32) (v3122 : BitVec 32) (v3124 : BitVec 32) (k0_hw43 : k0_chk43 v3120 v3122 v3124), ∀ a, (k0_off128 v3120 v3122 v3124) a + S3x8x8x64.size a ≤ S9x51x51x64.size a := fun v3120 v3122 v3124 k0_hw43 => k0_hw43

def k0_off129 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_918 : BitVec 32 := 32#32
  let v3117 : BitVec 32 := Scalar.muli arg35 c32_i32_918
  let c26_i32 : BitVec 32 := 26#32
  let v3118 : BitVec 32 := Scalar.addi v3117 c26_i32
  let v3205 : Index := Scalar.indexCast v3118
  let c0_945 : Index := 0#32
  ![v3205.toNat, 0]
def k0_off130 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_951 : BitVec 32 := 32#32
  let v3234 : BitVec 32 := Scalar.muli arg35 c32_i32_951
  let c27_i32 : BitVec 32 := 27#32
  let v3235 : BitVec 32 := Scalar.addi v3234 c27_i32
  let v3236 : Index := Scalar.indexCast v3235
  ![v3236.toNat]
def k0_off131 (v3237 : BitVec 32) (v3239 : BitVec 32) (v3241 : BitVec 32) : Fin 4 → Nat :=
  let c0_i32_952 : BitVec 32 := 0#32
  let v3242 : BitVec 32 := Scalar.maxsi v3237 c0_i32_952
  let v3258 : Index := Scalar.indexCast v3242
  let c3_i32_953 : BitVec 32 := 3#32
  let v3243 : BitVec 32 := Scalar.subi v3239 c3_i32_953
  let c0_i32_954 : BitVec 32 := 0#32
  let v3244 : BitVec 32 := Scalar.maxsi v3243 c0_i32_954
  let v3259 : Index := Scalar.indexCast v3244
  let c3_i32_955 : BitVec 32 := 3#32
  let v3245 : BitVec 32 := Scalar.subi v3241 c3_i32_955
  let c0_i32_956 : BitVec 32 := 0#32
  let v3246 : BitVec 32 := Scalar.maxsi v3245 c0_i32_956
  let v3260 : Index := Scalar.indexCast v3246
  let c0_959 : Index := 0#32
  ![v3258.toNat, v3259.toNat, v3260.toNat, 0]

def k0_chk44 (v3237 : BitVec 32) (v3239 : BitVec 32) (v3241 : BitVec 32) : Prop :=
  (∀ a, (k0_off131 v3237 v3239 v3241) a + S3x8x8x64.size a ≤ S9x51x51x64.size a)
theorem k0_off131_inb : ∀ (v3237 : BitVec 32) (v3239 : BitVec 32) (v3241 : BitVec 32) (k0_hw44 : k0_chk44 v3237 v3239 v3241), ∀ a, (k0_off131 v3237 v3239 v3241) a + S3x8x8x64.size a ≤ S9x51x51x64.size a := fun v3237 v3239 v3241 k0_hw44 => k0_hw44

def k0_off132 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_951 : BitVec 32 := 32#32
  let v3234 : BitVec 32 := Scalar.muli arg35 c32_i32_951
  let c27_i32 : BitVec 32 := 27#32
  let v3235 : BitVec 32 := Scalar.addi v3234 c27_i32
  let v3322 : Index := Scalar.indexCast v3235
  let c0_978 : Index := 0#32
  ![v3322.toNat, 0]
def k0_off133 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_984 : BitVec 32 := 32#32
  let v3351 : BitVec 32 := Scalar.muli arg35 c32_i32_984
  let c28_i32 : BitVec 32 := 28#32
  let v3352 : BitVec 32 := Scalar.addi v3351 c28_i32
  let v3353 : Index := Scalar.indexCast v3352
  ![v3353.toNat]
def k0_off134 (v3354 : BitVec 32) (v3356 : BitVec 32) (v3358 : BitVec 32) : Fin 4 → Nat :=
  let c0_i32_985 : BitVec 32 := 0#32
  let v3359 : BitVec 32 := Scalar.maxsi v3354 c0_i32_985
  let v3375 : Index := Scalar.indexCast v3359
  let c3_i32_986 : BitVec 32 := 3#32
  let v3360 : BitVec 32 := Scalar.subi v3356 c3_i32_986
  let c0_i32_987 : BitVec 32 := 0#32
  let v3361 : BitVec 32 := Scalar.maxsi v3360 c0_i32_987
  let v3376 : Index := Scalar.indexCast v3361
  let c3_i32_988 : BitVec 32 := 3#32
  let v3362 : BitVec 32 := Scalar.subi v3358 c3_i32_988
  let c0_i32_989 : BitVec 32 := 0#32
  let v3363 : BitVec 32 := Scalar.maxsi v3362 c0_i32_989
  let v3377 : Index := Scalar.indexCast v3363
  let c0_992 : Index := 0#32
  ![v3375.toNat, v3376.toNat, v3377.toNat, 0]

def k0_chk45 (v3354 : BitVec 32) (v3356 : BitVec 32) (v3358 : BitVec 32) : Prop :=
  (∀ a, (k0_off134 v3354 v3356 v3358) a + S3x8x8x64.size a ≤ S9x51x51x64.size a)
theorem k0_off134_inb : ∀ (v3354 : BitVec 32) (v3356 : BitVec 32) (v3358 : BitVec 32) (k0_hw45 : k0_chk45 v3354 v3356 v3358), ∀ a, (k0_off134 v3354 v3356 v3358) a + S3x8x8x64.size a ≤ S9x51x51x64.size a := fun v3354 v3356 v3358 k0_hw45 => k0_hw45

def k0_off135 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_984 : BitVec 32 := 32#32
  let v3351 : BitVec 32 := Scalar.muli arg35 c32_i32_984
  let c28_i32 : BitVec 32 := 28#32
  let v3352 : BitVec 32 := Scalar.addi v3351 c28_i32
  let v3439 : Index := Scalar.indexCast v3352
  let c0_1011 : Index := 0#32
  ![v3439.toNat, 0]
def k0_off136 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_1017 : BitVec 32 := 32#32
  let v3468 : BitVec 32 := Scalar.muli arg35 c32_i32_1017
  let c29_i32 : BitVec 32 := 29#32
  let v3469 : BitVec 32 := Scalar.addi v3468 c29_i32
  let v3470 : Index := Scalar.indexCast v3469
  ![v3470.toNat]
def k0_off137 (v3471 : BitVec 32) (v3473 : BitVec 32) (v3475 : BitVec 32) : Fin 4 → Nat :=
  let c0_i32_1018 : BitVec 32 := 0#32
  let v3476 : BitVec 32 := Scalar.maxsi v3471 c0_i32_1018
  let v3492 : Index := Scalar.indexCast v3476
  let c3_i32_1019 : BitVec 32 := 3#32
  let v3477 : BitVec 32 := Scalar.subi v3473 c3_i32_1019
  let c0_i32_1020 : BitVec 32 := 0#32
  let v3478 : BitVec 32 := Scalar.maxsi v3477 c0_i32_1020
  let v3493 : Index := Scalar.indexCast v3478
  let c3_i32_1021 : BitVec 32 := 3#32
  let v3479 : BitVec 32 := Scalar.subi v3475 c3_i32_1021
  let c0_i32_1022 : BitVec 32 := 0#32
  let v3480 : BitVec 32 := Scalar.maxsi v3479 c0_i32_1022
  let v3494 : Index := Scalar.indexCast v3480
  let c0_1025 : Index := 0#32
  ![v3492.toNat, v3493.toNat, v3494.toNat, 0]

def k0_chk46 (v3471 : BitVec 32) (v3473 : BitVec 32) (v3475 : BitVec 32) : Prop :=
  (∀ a, (k0_off137 v3471 v3473 v3475) a + S3x8x8x64.size a ≤ S9x51x51x64.size a)
theorem k0_off137_inb : ∀ (v3471 : BitVec 32) (v3473 : BitVec 32) (v3475 : BitVec 32) (k0_hw46 : k0_chk46 v3471 v3473 v3475), ∀ a, (k0_off137 v3471 v3473 v3475) a + S3x8x8x64.size a ≤ S9x51x51x64.size a := fun v3471 v3473 v3475 k0_hw46 => k0_hw46

def k0_off138 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_1017 : BitVec 32 := 32#32
  let v3468 : BitVec 32 := Scalar.muli arg35 c32_i32_1017
  let c29_i32 : BitVec 32 := 29#32
  let v3469 : BitVec 32 := Scalar.addi v3468 c29_i32
  let v3556 : Index := Scalar.indexCast v3469
  let c0_1044 : Index := 0#32
  ![v3556.toNat, 0]
def k0_off139 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_1050 : BitVec 32 := 32#32
  let v3585 : BitVec 32 := Scalar.muli arg35 c32_i32_1050
  let c30_i32 : BitVec 32 := 30#32
  let v3586 : BitVec 32 := Scalar.addi v3585 c30_i32
  let v3587 : Index := Scalar.indexCast v3586
  ![v3587.toNat]
def k0_off140 (v3588 : BitVec 32) (v3590 : BitVec 32) (v3592 : BitVec 32) : Fin 4 → Nat :=
  let c0_i32_1051 : BitVec 32 := 0#32
  let v3593 : BitVec 32 := Scalar.maxsi v3588 c0_i32_1051
  let v3609 : Index := Scalar.indexCast v3593
  let c3_i32_1052 : BitVec 32 := 3#32
  let v3594 : BitVec 32 := Scalar.subi v3590 c3_i32_1052
  let c0_i32_1053 : BitVec 32 := 0#32
  let v3595 : BitVec 32 := Scalar.maxsi v3594 c0_i32_1053
  let v3610 : Index := Scalar.indexCast v3595
  let c3_i32_1054 : BitVec 32 := 3#32
  let v3596 : BitVec 32 := Scalar.subi v3592 c3_i32_1054
  let c0_i32_1055 : BitVec 32 := 0#32
  let v3597 : BitVec 32 := Scalar.maxsi v3596 c0_i32_1055
  let v3611 : Index := Scalar.indexCast v3597
  let c0_1058 : Index := 0#32
  ![v3609.toNat, v3610.toNat, v3611.toNat, 0]

def k0_chk47 (v3588 : BitVec 32) (v3590 : BitVec 32) (v3592 : BitVec 32) : Prop :=
  (∀ a, (k0_off140 v3588 v3590 v3592) a + S3x8x8x64.size a ≤ S9x51x51x64.size a)
theorem k0_off140_inb : ∀ (v3588 : BitVec 32) (v3590 : BitVec 32) (v3592 : BitVec 32) (k0_hw47 : k0_chk47 v3588 v3590 v3592), ∀ a, (k0_off140 v3588 v3590 v3592) a + S3x8x8x64.size a ≤ S9x51x51x64.size a := fun v3588 v3590 v3592 k0_hw47 => k0_hw47

def k0_off141 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_1050 : BitVec 32 := 32#32
  let v3585 : BitVec 32 := Scalar.muli arg35 c32_i32_1050
  let c30_i32 : BitVec 32 := 30#32
  let v3586 : BitVec 32 := Scalar.addi v3585 c30_i32
  let v3673 : Index := Scalar.indexCast v3586
  let c0_1077 : Index := 0#32
  ![v3673.toNat, 0]
def k0_off142 (k0_t2 : Fin k0_t2_loop.trips) : Fin 1 → Nat :=
  let c0_i32_13 : BitVec 32 := 0#32
  let c1_i32_14 : BitVec 32 := 1#32
  let arg35 : BitVec 32 := Scf.iv c0_i32_13 c1_i32_14 k0_t2
  let c32_i32_1083 : BitVec 32 := 32#32
  let v3702 : BitVec 32 := Scalar.muli arg35 c32_i32_1083
  let c31_i32 : BitVec 32 := 31#32
  let v3703 : BitVec 32 := Scalar.addi v3702 c31_i32
  let v3704 : Index := Scalar.indexCast v3703
  ![v3704.toNat]
def k0_off143 (v3705 : BitVec 32) (v3707 : BitVec 32) (v3709 : BitVec 32) : Fin 4 → Nat :=
  let c0_i32_1084 : BitVec 32 := 0#32
  let v3710 : BitVec 32 := Scalar.maxsi v3705 c0_i32_1084
  let v3726 : Index := Scalar.indexCast v3710
  let c3_i32_1085 : BitVec 32 := 3#32
  let v3711 : BitVec 32 := Scalar.subi v3707 c3_i32_1085
  let c0_i32_1086 : BitVec 32 := 0#32
  let v3712 : BitVec 32 := Scalar.maxsi v3711 c0_i32_1086
  let v3727 : Index := Scalar.indexCast v3712
  let c3_i32_1087 : BitVec 32 := 3#32
  let v3713 : BitVec 32 := Scalar.subi v3709 c3_i32_1087
  let c0_i32_1088 : BitVec 32 := 0#32
  let v3714 : BitVec 32 := Scalar.maxsi v3713 c0_i32_1088
  let v3728 : Index := Scalar.indexCast v3714
  let c0_1091 : Index := 0#32
  ![v3726.toNat, v3727.toNat, v3728.toNat, 0]

def k0_chk48 (v3705 : BitVec 32) (v3707 : BitVec 32) (v3709 : BitVec 32) : Prop :=
  (∀ a, (k0_off143 v3705 v3707 v3709) a + S3x8x8x64.size a ≤ S9x51x51x64.size a)
theorem k0_off143_inb : ∀ (v3705 : BitVec 32) (v3707 : BitVec 32) (v3709 : BitVec 32) (k0_hw48 : k0_chk48 v3705 v3707 v3709), ∀ a, (k0_off143 v3705 v3707 v3709) a + S3x8x8x64.size a ≤ S9x51x51x64.size a := fun v3705 v3707 v3709 k0_hw48 => k0_hw48

def k0_off144 (k0_t2 : Fin k0_t2_loop.trips) : Fin 2 → Nat :=
  let c0_i32_13 : BitVec 32 := 0#32
  let c1_i32_14 : BitVec 32 := 1#32
  let arg35 : BitVec 32 := Scf.iv c0_i32_13 c1_i32_14 k0_t2
  let c32_i32_1083 : BitVec 32 := 32#32
  let v3702 : BitVec 32 := Scalar.muli arg35 c32_i32_1083
  let c31_i32 : BitVec 32 := 31#32
  let v3703 : BitVec 32 := Scalar.addi v3702 c31_i32
  let v3790 : Index := Scalar.indexCast v3703
  let c0_1110 : Index := 0#32
  ![v3790.toNat, 0]
abbrev stage0_0 : Fin 1 → Memref sig .tc .vmem S9x51x51x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S4096 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .smem S4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S64x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S256x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S256x1 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S4096x1 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
-- ==== Proof.RefOps.lean ====
/-
  The reference as a line of host operations, cut after each of its six convolutions.

  `seg0` is the first convolution; `seg1` … `seg4` are the two residual blocks, two convolutions each (the first of a
  block ends with the maximum with zero, the second with the residual sum); `seg5` is the last convolution, the skip
  sum and the change of layout. `main_isSeq` says that the program is the six segments one after the other.
-/
module

public import proofs.«01_k».proof.Proof.Gen.ReferenceIdeal
public import Idealize.ShloMosaic.Lib.StableHlo.RunHlo

@[expose] public section

set_option Elab.async false

noncomputable section

namespace Cert.RefLine

open Cert.ReferenceIdeal Cert.ReferenceIdeal.Gen Idealize.ShloMosaic Idealize.ShloMosaic.TcCoe Idealize.SL.Sem Idealize.ShloMosaic.StableHlo

variable {F : FTy → Type} [FloatOps F]

/-- The three shifted copies along the depth axis put one after the other on a new first axis (one channel). -/
def joinD1 (u0 u1 u2 : Vec F S1x1x8x50x50 .f32) : Vec F S3x1x8x50x50 .f32 :=
  concatenate S3x1x8x50x50 0 [⟨S1x1x8x50x50, u0⟩, ⟨S1x1x8x50x50, u1⟩, ⟨S1x1x8x50x50, u2⟩] concatenates_S1x1x8x50x50_S1x1x8x50x50_S1x1x8x50x50_S3x1x8x50x50_d0

/-- The three shifted copies along the height axis put one after the other on a new first axis (one channel). -/
def joinH1 (u0 u1 u2 : Vec F S1x3x1x8x48x50 .f32) : Vec F S3x3x1x8x48x50 .f32 :=
  concatenate S3x3x1x8x48x50 0 [⟨S1x3x1x8x48x50, u0⟩, ⟨S1x3x1x8x48x50, u1⟩, ⟨S1x3x1x8x48x50, u2⟩] concatenates_S1x3x1x8x48x50_S1x3x1x8x48x50_S1x3x1x8x48x50_S3x3x1x8x48x50_d0

/-- The three shifted copies along the width axis put one after the other on a new first axis (one channel). -/
def joinW1 (u0 u1 u2 : Vec F S1x3x3x1x8x48x48 .f32) : Vec F S3x3x3x1x8x48x48 .f32 :=
  concatenate S3x3x3x1x8x48x48 0 [⟨S1x3x3x1x8x48x48, u0⟩, ⟨S1x3x3x1x8x48x48, u1⟩, ⟨S1x3x3x1x8x48x48, u2⟩] concatenates_S1x3x3x1x8x48x48_S1x3x3x1x8x48x48_S1x3x3x1x8x48x48_S3x3x3x1x8x48x48_d0

/-- The three shifted copies along the depth axis put one after the other on a new first axis (64 channels). -/
def joinD (u0 u1 u2 : Vec F S1x64x8x50x50 .f32) : Vec F S3x64x8x50x50 .f32 :=
  concatenate S3x64x8x50x50 0 [⟨S1x64x8x50x50, u0⟩, ⟨S1x64x8x50x50, u1⟩, ⟨S1x64x8x50x50, u2⟩] concatenates_S1x64x8x50x50_S1x64x8x50x50_S1x64x8x50x50_S3x64x8x50x50_d0

/-- The three shifted copies along the height axis put one after the other on a new first axis (64 channels). -/
def joinH (u0 u1 u2 : Vec F S1x3x64x8x48x50 .f32) : Vec F S3x3x64x8x48x50 .f32 :=
  concatenate S3x3x64x8x48x50 0 [⟨S1x3x64x8x48x50, u0⟩, ⟨S1x3x64x8x48x50, u1⟩, ⟨S1x3x64x8x48x50, u2⟩] concatenates_S1x3x64x8x48x50_S1x3x64x8x48x50_S1x3x64x8x48x50_S3x3x64x8x48x50_d0

/-- The three shifted copies along the width axis put one after the other on a new first axis (64 channels). -/
def joinW (u0 u1 u2 : Vec F S1x3x3x64x8x48x48 .f32) : Vec F S3x3x3x64x8x48x48 .f32 :=
  concatenate S3x3x3x64x8x48x48 0 [⟨S1x3x3x64x8x48x48, u0⟩, ⟨S1x3x3x64x8x48x48, u1⟩, ⟨S1x3x3x64x8x48x48, u2⟩] concatenates_S1x3x3x64x8x48x48_S1x3x3x64x8x48x48_S1x3x3x64x8x48x48_S3x3x3x64x8x48x48_d0

/-- Segment 0: the first convolution. -/
def seg0 : List (HloOp τ sig (Elt F)) :=
  [reshape main_arg0 main_v0 (rfl : (.f32 : EltTy) = .f32) shapeCasts_S1x1x8x48x48_S1x8x48x48,
   nullary main_cst (constant S_ .f32 0x00000000#32),
   binary main_v0 main_cst main_v1 ((fun x v => pad S1x10x50x50 ![0, 1, 1, 1] ![0, 1, 1, 1] ![0, 0, 0, 0] x v pads_S1x8x48x48_S1x10x50x50_000_110_110_110 h_S_) : (⟨S1x8x48x48, .f32⟩ : BufTy).Contents (Elt F) → (⟨S_, .f32⟩ : BufTy).Contents (Elt F) → (⟨S1x10x50x50, .f32⟩ : BufTy).Contents (Elt F)),
   unary main_v1 main_v2 ((extractStridedSlice S1x8x50x50 ![0, 0, 0, 0] · slices_S1x10x50x50_S1x8x50x50_0_0_0_0) : (⟨S1x10x50x50, .f32⟩ : BufTy).Contents (Elt F) → (⟨S1x8x50x50, .f32⟩ : BufTy).Contents (Elt F)),
   unary main_v1 main_v3 ((extractStridedSlice S1x8x50x50 ![0, 1, 0, 0] · slices_S1x10x50x50_S1x8x50x50_0_1_0_0) : (⟨S1x10x50x50, .f32⟩ : BufTy).Contents (Elt F) → (⟨S1x8x50x50, .f32⟩ : BufTy).Contents (Elt F)),
   unary main_v1 main_v4 ((extractStridedSlice S1x8x50x50 ![0, 2, 0, 0] · slices_S1x10x50x50_S1x8x50x50_0_2_0_0) : (⟨S1x10x50x50, .f32⟩ : BufTy).Contents (Elt F) → (⟨S1x8x50x50, .f32⟩ : BufTy).Contents (Elt F)),
   unary main_v2 main_v5 (broadcastInDim S1x1x8x50x50 ![1, 2, 3, 4] bcast_S1x8x50x50_S1x1x8x50x50_1_2_3_4 : (⟨S1x8x50x50, .f32⟩ : BufTy).Contents (Elt F) → (⟨S1x1x8x50x50, .f32⟩ : BufTy).Contents (Elt F)),
   unary main_v3 main_v6 (broadcastInDim S1x1x8x50x50 ![1, 2, 3, 4] bcast_S1x8x50x50_S1x1x8x50x50_1_2_3_4 : (⟨S1x8x50x50, .f32⟩ : BufTy).Contents (Elt F) → (⟨S1x1x8x50x50, .f32⟩ : BufTy).Contents (Elt F)),
   unary main_v4 main_v7 (broadcastInDim S1x1x8x50x50 ![1, 2, 3, 4] bcast_S1x8x50x50_S1x1x8x50x50_1_2_3_4 : (⟨S1x8x50x50, .f32⟩ : BufTy).Contents (Elt F) → (⟨S1x1x8x50x50, .f32⟩ : BufTy).Contents (Elt F)),
   nary ![main_v5, main_v6, main_v7] main_v8 (fun u => joinD1 (u 0) (u 1) (u 2)),
   unary main_v8 main_v9 ((extractStridedSlice S3x1x8x48x50 ![0, 0, 0, 0, 0] · slices_S3x1x8x50x50_S3x1x8x48x50_0_0_0_0_0) : (⟨S3x1x8x50x50, .f32⟩ : BufTy).Contents (Elt F) → (⟨S3x1x8x48x50, .f32⟩ : BufTy).Contents (Elt F)),
   unary main_v8 main_v10 ((extractStridedSlice S3x1x8x48x50 ![0, 0, 0, 1, 0] · slices_S3x1x8x50x50_S3x1x8x48x50_0_0_0_1_0) : (⟨S3x1x8x50x50, .f32⟩ : BufTy).Contents (Elt F) → (⟨S3x1x8x48x50, .f32⟩ : BufTy).Contents (Elt F)),
   unary main_v8 main_v11 ((extractStridedSlice S3x1x8x48x50 ![0, 0, 0, 2, 0] · slices_S3x1x8x50x50_S3x1x8x48x50_0_0_0_2_0) : (⟨S3x1x8x50x50, .f32⟩ : BufTy).Contents (Elt F) → (⟨S3x1x8x48x50, .f32⟩ : BufTy).Contents (Elt F)),
   unary main_v9 main_v12 (broadcastInDim S1x3x1x8x48x50 ![1, 2, 3, 4, 5] bcast_S3x1x8x48x50_S1x3x1x8x48x50_1_2_3_4_5 : (⟨S3x1x8x48x50, .f32⟩ : BufTy).Contents (Elt F) → (⟨S1x3x1x8x48x50, .f32⟩ : BufTy).Contents (Elt F)),
   unary main_v10 main_v13 (broadcastInDim S1x3x1x8x48x50 ![1, 2, 3, 4, 5] bcast_S3x1x8x48x50_S1x3x1x8x48x50_1_2_3_4_5 : (⟨S3x1x8x48x50, .f32⟩ : BufTy).Contents (Elt F) → (⟨S1x3x1x8x48x50, .f32⟩ : BufTy).Contents (Elt F)),
   unary main_v11 main_v14 (broadcastInDim S1x3x1x8x48x50 ![1, 2, 3, 4, 5] bcast_S3x1x8x48x50_S1x3x1x8x48x50_1_2_3_4_5 : (⟨S3x1x8x48x50, .f32⟩ : BufTy).Contents (Elt F) → (⟨S1x3x1x8x48x50, .f32⟩ : BufTy).Contents (Elt F)),
   nary ![main_v12, main_v13, main_v14] main_v15 (fun u => joinH1 (u 0) (u 1) (u 2)),
   unary main_v15 main_v16 ((extractStridedSlice S3x3x1x8x48x48 ![0, 0, 0, 0, 0, 0] · slices_S3x3x1x8x48x50_S3x3x1x8x48x48_0_0_0_0_0_0) : (⟨S3x3x1x8x48x50, .f32⟩ : BufTy).Contents (Elt F) → (⟨S3x3x1x8x48x48, .f32⟩ : BufTy).Contents (Elt F)),
   unary main_v15 main_v17 ((extractStridedSlice S3x3x1x8x48x48 ![0, 0, 0, 0, 0, 1] · slices_S3x3x1x8x48x50_S3x3x1x8x48x48_0_0_0_0_0_1) : (⟨S3x3x1x8x48x50, .f32⟩ : BufTy).Contents (Elt F) → (⟨S3x3x1x8x48x48, .f32⟩ : BufTy).Contents (Elt F)),
   unary main_v15 main_v18 ((extractStridedSlice S3x3x1x8x48x48 ![0, 0, 0, 0, 0, 2] · slices_S3x3x1x8x48x50_S3x3x1x8x48x48_0_0_0_0_0_2) : (⟨S3x3x1x8x48x50, .f32⟩ : BufTy).Contents (Elt F) → (⟨S3x3x1x8x48x48, .f32⟩ : BufTy).Contents (Elt F)),
   unary main_v16 main_v19 (broadcastInDim S1x3x3x1x8x48x48 ![1, 2, 3, 4, 5, 6] bcast_S3x3x1x8x48x48_S1x3x3x1x8x48x48_1_2_3_4_5_6 : (⟨S3x3x1x8x48x48, .f32⟩ : BufTy).Contents (Elt F) → (⟨S1x3x3x1x8x48x48, .f32⟩ : BufTy).Contents (Elt F)),
   unary main_v17 main_v20 (broadcastInDim S1x3x3x1x8x48x48 ![1, 2, 3, 4, 5, 6] bcast_S3x3x1x8x48x48_S1x3x3x1x8x48x48_1_2_3_4_5_6 : (⟨S3x3x1x8x48x48, .f32⟩ : BufTy).Contents (Elt F) → (⟨S1x3x3x1x8x48x48, .f32⟩ : BufTy).Contents (Elt F)),
   unary main_v18 main_v21 (broadcastInDim S1x3x3x1x8x48x48 ![1, 2, 3, 4, 5, 6] bcast_S3x3x1x8x48x48_S1x3x3x1x8x48x48_1_2_3_4_5_6 : (⟨S3x3x1x8x48x48, .f32⟩ : BufTy).Contents (Elt F) → (⟨S1x3x3x1x8x48x48, .f32⟩ : BufTy).Contents (Elt F)),
   nary ![main_v19, main_v20, main_v21] main_v22 (fun u => joinW1 (u 0) (u 1) (u 2)),
   binary main_arg1 main_v22 main_v23 ((fun l r => Host.dotGeneral dot_S64x1x3x3x3_S3x3x3x1x8x48x48_S64x8x48x48_2341_2103_0_456_n_n none l r) : (⟨S64x1x3x3x3, .f32⟩ : BufTy).Contents (Elt F) → (⟨S3x3x3x1x8x48x48, .f32⟩ : BufTy).Contents (Elt F) → (⟨S64x8x48x48, .f32⟩ : BufTy).Contents (Elt F)),
   unary main_arg2 main_v24 (broadcastInDim S64x1x1x1 ![0] bcast_S64_S64x1x1x1_0 : (⟨S64, .f32⟩ : BufTy).Contents (Elt F) → (⟨S64x1x1x1, .f32⟩ : BufTy).Contents (Elt F)),
   unary main_v24 main_v25 (broadcastInDim S64x8x48x48 ![0, 1, 2, 3] bcast_S64x1x1x1_S64x8x48x48_0_1_2_3 : (⟨S64x1x1x1, .f32⟩ : BufTy).Contents (Elt F) → (⟨S64x8x48x48, .f32⟩ : BufTy).Contents (Elt F)),
   binary main_v23 main_v25 main_v26 (addf : (⟨S64x8x48x48, .f32⟩ : BufTy).Contents (Elt F) → (⟨S64x8x48x48, .f32⟩ : BufTy).Contents (Elt F) → (⟨S64x8x48x48, .f32⟩ : BufTy).Contents (Elt F))]

/-- Segment 1: first block, first convolution and the maximum with zero. -/
def seg1 : List (HloOp τ sig (Elt F)) :=
  [unary main_arg3 main_v27 ((extractStridedSlice S1x64x64x3x3x3 ![0, 0, 0, 0, 0, 0] · slices_S2x64x64x3x3x3_S1x64x64x3x3x3_0_0_0_0_0_0) : (⟨S2x64x64x3x3x3, .f32⟩ : BufTy).Contents (Elt F) → (⟨S1x64x64x3x3x3, .f32⟩ : BufTy).Contents (Elt F)),
   reshape main_v27 main_v28 (rfl : (.f32 : EltTy) = .f32) shapeCasts_S1x64x64x3x3x3_S64x64x3x3x3,
   unary main_arg4 main_v29 ((extractStridedSlice S1x64 ![0, 0] · slices_S2x64_S1x64_0_0) : (⟨S2x64, .f32⟩ : BufTy).Contents (Elt F) → (⟨S1x64, .f32⟩ : BufTy).Contents (Elt F)),
   reshape main_v29 main_v30 (rfl : (.f32 : EltTy) = .f32) shapeCasts_S1x64_S64,
   nullary main_cst_0 (constant S_ .f32 0x00000000#32),
   binary main_v26 main_cst_0 main_v31 ((fun x v => pad S64x10x50x50 ![0, 1, 1, 1] ![0, 1, 1, 1] ![0, 0, 0, 0] x v pads_S64x8x48x48_S64x10x50x50_000_110_110_110 h_S_) : (⟨S64x8x48x48, .f32⟩ : BufTy).Contents (Elt F) → (⟨S_, .f32⟩ : BufTy).Contents (Elt F) → (⟨S64x10x50x50, .f32⟩ : BufTy).Contents (Elt F)),
   unary main_v31 main_v32 ((extractStridedSlice S64x8x50x50 ![0, 0, 0, 0] · slices_S64x10x50x50_S64x8x50x50_0_0_0_0) : (⟨S64x10x50x50, .f32⟩ : BufTy).Contents (Elt F) → (⟨S64x8x50x50, .f32⟩ : BufTy).Contents (Elt F)),
   unary main_v31 main_v33 ((extractStridedSlice S64x8x50x50 ![0, 1, 0, 0] · slices_S64x10x50x50_S64x8x50x50_0_1_0_0) : (⟨S64x10x50x50, .f32⟩ : BufTy).Contents (Elt F) → (⟨S64x8x50x50, .f32⟩ : BufTy).Contents (Elt F)),
   unary main_v31 main_v34 ((extractStridedSlice S64x8x50x50 ![0, 2, 0, 0] · slices_S64x10x50x50_S64x8x50x50_0_2_0_0) : (⟨S64x10x50x50, .f32⟩ : BufTy).Contents (Elt F) → (⟨S64x8x50x50, .f32⟩ : BufTy).Contents (Elt F)),
   unary main_v32 main_v35 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   unary main_v33 main_v36 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   unary main_v34 main_v37 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   nary ![main_v35, main_v36, main_v37] main_v38 (fun u => joinD (u 0) (u 1) (u 2)),
   unary main_v38 main_v39 ((extractStridedSlice S3x64x8x48x50 ![0, 0, 0, 0, 0] · slices_S3x64x8x50x50_S3x64x8x48x50_0_0_0_0_0) : (⟨S3x64x8x50x50, .f32⟩ : BufTy).Contents (Elt F) → (⟨S3x64x8x48x50, .f32⟩ : BufTy).Contents (Elt F)),
   unary main_v38 main_v40 ((extractStridedSlice S3x64x8x48x50 ![0, 0, 0, 1, 0] · slices_S3x64x8x50x50_S3x64x8x48x50_0_0_0_1_0) : (⟨S3x64x8x50x50, .f32⟩ : BufTy).Contents (Elt F) → (⟨S3x64x8x48x50, .f32⟩ : BufTy).Contents (Elt F)),
   unary main_v38 main_v41 ((extractStridedSlice S3x64x8x48x50 ![0, 0, 0, 2, 0] · slices_S3x64x8x50x50_S3x64x8x48x50_0_0_0_2_0) : (⟨S3x64x8x50x50, .f32⟩ : BufTy).Contents (Elt F) → (⟨S3x64x8x48x50, .f32⟩ : BufTy).Contents (Elt F)),
   unary main_v39 main_v42 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   unary main_v40 main_v43 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   unary main_v41 main_v44 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   nary ![main_v42, main_v43, main_v44] main_v45 (fun u => joinH (u 0) (u 1) (u 2)),
   unary main_v45 main_v46 ((extractStridedSlice S3x3x64x8x48x48 ![0, 0, 0, 0, 0, 0] · slices_S3x3x64x8x48x50_S3x3x64x8x48x48_0_0_0_0_0_0) : (⟨S3x3x64x8x48x50, .f32⟩ : BufTy).Contents (Elt F) → (⟨S3x3x64x8x48x48, .f32⟩ : BufTy).Contents (Elt F)),
   unary main_v45 main_v47 ((extractStridedSlice S3x3x64x8x48x48 ![0, 0, 0, 0, 0, 1] · slices_S3x3x64x8x48x50_S3x3x64x8x48x48_0_0_0_0_0_1) : (⟨S3x3x64x8x48x50, .f32⟩ : BufTy).Contents (Elt F) → (⟨S3x3x64x8x48x48, .f32⟩ : BufTy).Contents (Elt F)),
   unary main_v45 main_v48 ((extractStridedSlice S3x3x64x8x48x48 ![0, 0, 0, 0, 0, 2] · slices_S3x3x64x8x48x50_S3x3x64x8x48x48_0_0_0_0_0_2) : (⟨S3x3x64x8x48x50, .f32⟩ : BufTy).Contents (Elt F) → (⟨S3x3x64x8x48x48, .f32⟩ : BufTy).Contents (Elt F)),
   unary main_v46 main_v49 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   unary main_v47 main_v50 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   unary main_v48 main_v51 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   nary ![main_v49, main_v50, main_v51] main_v52 (fun u => joinW (u 0) (u 1) (u 2)),
   binary main_v28 main_v52 main_v53 ((fun l r => Host.dotGeneral dot_S64x64x3x3x3_S3x3x3x64x8x48x48_S64x8x48x48_2341_2103_0_456_n_n none l r) : (⟨S64x64x3x3x3, .f32⟩ : BufTy).Contents (Elt F) → (⟨S3x3x3x64x8x48x48, .f32⟩ : BufTy).Contents (Elt F) → (⟨S64x8x48x48, .f32⟩ : BufTy).Contents (Elt F)),
   unary main_v30 main_v54 (broadcastInDim S64x1x1x1 ![0] bcast_S64_S64x1x1x1_0 : (⟨S64, .f32⟩ : BufTy).Contents (Elt F) → (⟨S64x1x1x1, .f32⟩ : BufTy).Contents (Elt F)),
   unary main_v54 main_v55 (broadcastInDim S64x8x48x48 ![0, 1, 2, 3] bcast_S64x1x1x1_S64x8x48x48_0_1_2_3 : (⟨S64x1x1x1, .f32⟩ : BufTy).Contents (Elt F) → (⟨S64x8x48x48, .f32⟩ : BufTy).Contents (Elt F)),
   binary main_v53 main_v55 main_v56 (addf : (⟨S64x8x48x48, .f32⟩ : BufTy).Contents (Elt F) → (⟨S64x8x48x48, .f32⟩ : BufTy).Contents (Elt F) → (⟨S64x8x48x48, .f32⟩ : BufTy).Contents (Elt F)),
   nullary main_cst_1 (constant S_ .f32 0x00000000#32),
   unary main_cst_1 main_v57 (broadcastInDim S64x8x48x48 ![] bcast_S_S64x8x48x48 : (⟨S_, .f32⟩ : BufTy).Contents (Elt F) → (⟨S64x8x48x48, .f32⟩ : BufTy).Contents (Elt F)),
   binary main_v56 main_v57 main_v58 (maximumf : (⟨S64x8x48x48, .f32⟩ : BufTy).Contents (Elt F) → (⟨S64x8x48x48, .f32⟩ : BufTy).Contents (Elt F) → (⟨S64x8x48x48, .f32⟩ : BufTy).Contents (Elt F))]

/-- Segment 2: first block, second convolution and the residual sum. -/
def seg2 : List (HloOp τ sig (Elt F)) :=
  [unary main_arg5 main_v59 ((extractStridedSlice S1x64x64x3x3x3 ![0, 0, 0, 0, 0, 0] · slices_S2x64x64x3x3x3_S1x64x64x3x3x3_0_0_0_0_0_0) : (⟨S2x64x64x3x3x3, .f32⟩ : BufTy).Contents (Elt F) → (⟨S1x64x64x3x3x3, .f32⟩ : BufTy).Contents (Elt F)),
   reshape main_v59 main_v60 (rfl : (.f32 : EltTy) = .f32) shapeCasts_S1x64x64x3x3x3_S64x64x3x3x3,
   unary main_arg6 main_v61 ((extractStridedSlice S1x64 ![0, 0] · slices_S2x64_S1x64_0_0) : (⟨S2x64, .f32⟩ : BufTy).Contents (Elt F) → (⟨S1x64, .f32⟩ : BufTy).Contents (Elt F)),
   reshape main_v61 main_v62 (rfl : (.f32 : EltTy) = .f32) shapeCasts_S1x64_S64,
   nullary main_cst_2 (constant S_ .f32 0x00000000#32),
   binary main_v58 main_cst_2 main_v63 ((fun x v => pad S64x10x50x50 ![0, 1, 1, 1] ![0, 1, 1, 1] ![0, 0, 0, 0] x v pads_S64x8x48x48_S64x10x50x50_000_110_110_110 h_S_) : (⟨S64x8x48x48, .f32⟩ : BufTy).Contents (Elt F) → (⟨S_, .f32⟩ : BufTy).Contents (Elt F) → (⟨S64x10x50x50, .f32⟩ : BufTy).Contents (Elt F)),
   unary main_v63 main_v64 ((extractStridedSlice S64x8x50x50 ![0, 0, 0, 0] · slices_S64x10x50x50_S64x8x50x50_0_0_0_0) : (⟨S64x10x50x50, .f32⟩ : BufTy).Contents (Elt F) → (⟨S64x8x50x50, .f32⟩ : BufTy).Contents (Elt F)),
   unary main_v63 main_v65 ((extractStridedSlice S64x8x50x50 ![0, 1, 0, 0] · slices_S64x10x50x50_S64x8x50x50_0_1_0_0) : (⟨S64x10x50x50, .f32⟩ : BufTy).Contents (Elt F) → (⟨S64x8x50x50, .f32⟩ : BufTy).Contents (Elt F)),
   unary main_v63 main_v66 ((extractStridedSlice S64x8x50x50 ![0, 2, 0, 0] · slices_S64x10x50x50_S64x8x50x50_0_2_0_0) : (⟨S64x10x50x50, .f32⟩ : BufTy).Contents (Elt F) → (⟨S64x8x50x50, .f32⟩ : BufTy).Contents (Elt F)),
   unary main_v64 main_v67 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   unary main_v65 main_v68 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   unary main_v66 main_v69 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   nary ![main_v67, main_v68, main_v69] main_v70 (fun u => joinD (u 0) (u 1) (u 2)),
   unary main_v70 main_v71 ((extractStridedSlice S3x64x8x48x50 ![0, 0, 0, 0, 0] · slices_S3x64x8x50x50_S3x64x8x48x50_0_0_0_0_0) : (⟨S3x64x8x50x50, .f32⟩ : BufTy).Contents (Elt F) → (⟨S3x64x8x48x50, .f32⟩ : BufTy).Contents (Elt F)),
   unary main_v70 main_v72 ((extractStridedSlice S3x64x8x48x50 ![0, 0, 0, 1, 0] · slices_S3x64x8x50x50_S3x64x8x48x50_0_0_0_1_0) : (⟨S3x64x8x50x50, .f32⟩ : BufTy).Contents (Elt F) → (⟨S3x64x8x48x50, .f32⟩ : BufTy).Contents (Elt F)),
   unary main_v70 main_v73 ((extractStridedSlice S3x64x8x48x50 ![0, 0, 0, 2, 0] · slices_S3x64x8x50x50_S3x64x8x48x50_0_0_0_2_0) : (⟨S3x64x8x50x50, .f32⟩ : BufTy).Contents (Elt F) → (⟨S3x64x8x48x50, .f32⟩ : BufTy).Contents (Elt F)),
   unary main_v71 main_v74 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   unary main_v72 main_v75 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   unary main_v73 main_v76 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   nary ![main_v74, main_v75, main_v76] main_v77 (fun u => joinH (u 0) (u 1) (u 2)),
   unary main_v77 main_v78 ((extractStridedSlice S3x3x64x8x48x48 ![0, 0, 0, 0, 0, 0] · slices_S3x3x64x8x48x50_S3x3x64x8x48x48_0_0_0_0_0_0) : (⟨S3x3x64x8x48x50, .f32⟩ : BufTy).Contents (Elt F) → (⟨S3x3x64x8x48x48, .f32⟩ : BufTy).Contents (Elt F)),
   unary main_v77 main_v79 ((extractStridedSlice S3x3x64x8x48x48 ![0, 0, 0, 0, 0, 1] · slices_S3x3x64x8x48x50_S3x3x64x8x48x48_0_0_0_0_0_1) : (⟨S3x3x64x8x48x50, .f32⟩ : BufTy).Contents (Elt F) → (⟨S3x3x64x8x48x48, .f32⟩ : BufTy).Contents (Elt F)),
   unary main_v77 main_v80 ((extractStridedSlice S3x3x64x8x48x48 ![0, 0, 0, 0, 0, 2] · slices_S3x3x64x8x48x50_S3x3x64x8x48x48_0_0_0_0_0_2) : (⟨S3x3x64x8x48x50, .f32⟩ : BufTy).Contents (Elt F) → (⟨S3x3x64x8x48x48, .f32⟩ : BufTy).Contents (Elt F)),
   unary main_v78 main_v81 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   unary main_v79 main_v82 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   unary main_v80 main_v83 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   nary ![main_v81, main_v82, main_v83] main_v84 (fun u => joinW (u 0) (u 1) (u 2)),
   binary main_v60 main_v84 main_v85 ((fun l r => Host.dotGeneral dot_S64x64x3x3x3_S3x3x3x64x8x48x48_S64x8x48x48_2341_2103_0_456_n_n none l r) : (⟨S64x64x3x3x3, .f32⟩ : BufTy).Contents (Elt F) → (⟨S3x3x3x64x8x48x48, .f32⟩ : BufTy).Contents (Elt F) → (⟨S64x8x48x48, .f32⟩ : BufTy).Contents (Elt F)),
   unary main_v62 main_v86 (broadcastInDim S64x1x1x1 ![0] bcast_S64_S64x1x1x1_0 : (⟨S64, .f32⟩ : BufTy).Contents (Elt F) → (⟨S64x1x1x1, .f32⟩ : BufTy).Contents (Elt F)),
   unary main_v86 main_v87 (broadcastInDim S64x8x48x48 ![0, 1, 2, 3] bcast_S64x1x1x1_S64x8x48x48_0_1_2_3 : (⟨S64x1x1x1, .f32⟩ : BufTy).Contents (Elt F) → (⟨S64x8x48x48, .f32⟩ : BufTy).Contents (Elt F)),
   binary main_v85 main_v87 main_v88 (addf : (⟨S64x8x48x48, .f32⟩ : BufTy).Contents (Elt F) → (⟨S64x8x48x48, .f32⟩ : BufTy).Contents (Elt F) → (⟨S64x8x48x48, .f32⟩ : BufTy).Contents (Elt F)),
   binary main_v26 main_v88 main_v89 (addf : (⟨S64x8x48x48, .f32⟩ : BufTy).Contents (Elt F) → (⟨S64x8x48x48, .f32⟩ : BufTy).Contents (Elt F) → (⟨S64x8x48x48, .f32⟩ : BufTy).Contents (Elt F))]

/-- Segment 3: second block, first convolution and the maximum with zero. -/
def seg3 : List (HloOp τ sig (Elt F)) :=
  [unary main_arg3 main_v90 ((extractStridedSlice S1x64x64x3x3x3 ![1, 0, 0, 0, 0, 0] · slices_S2x64x64x3x3x3_S1x64x64x3x3x3_1_0_0_0_0_0) : (⟨S2x64x64x3x3x3, .f32⟩ : BufTy).Contents (Elt F) → (⟨S1x64x64x3x3x3, .f32⟩ : BufTy).Contents (Elt F)),
   reshape main_v90 main_v91 (rfl : (.f32 : EltTy) = .f32) shapeCasts_S1x64x64x3x3x3_S64x64x3x3x3,
   unary main_arg4 main_v92 ((extractStridedSlice S1x64 ![1, 0] · slices_S2x64_S1x64_1_0) : (⟨S2x64, .f32⟩ : BufTy).Contents (Elt F) → (⟨S1x64, .f32⟩ : BufTy).Contents (Elt F)),
   reshape main_v92 main_v93 (rfl : (.f32 : EltTy) = .f32) shapeCasts_S1x64_S64,
   nullary main_cst_3 (constant S_ .f32 0x00000000#32),
   binary main_v89 main_cst_3 main_v94 ((fun x v => pad S64x10x50x50 ![0, 1, 1, 1] ![0, 1, 1, 1] ![0, 0, 0, 0] x v pads_S64x8x48x48_S64x10x50x50_000_110_110_110 h_S_) : (⟨S64x8x48x48, .f32⟩ : BufTy).Contents (Elt F) → (⟨S_, .f32⟩ : BufTy).Contents (Elt F) → (⟨S64x10x50x50, .f32⟩ : BufTy).Contents (Elt F)),
   unary main_v94 main_v95 ((extractStridedSlice S64x8x50x50 ![0, 0, 0, 0] · slices_S64x10x50x50_S64x8x50x50_0_0_0_0) : (⟨S64x10x50x50, .f32⟩ : BufTy).Contents (Elt F) → (⟨S64x8x50x50, .f32⟩ : BufTy).Contents (Elt F)),
   unary main_v94 main_v96 ((extractStridedSlice S64x8x50x50 ![0, 1, 0, 0] · slices_S64x10x50x50_S64x8x50x50_0_1_0_0) : (⟨S64x10x50x50, .f32⟩ : BufTy).Contents (Elt F) → (⟨S64x8x50x50, .f32⟩ : BufTy).Contents (Elt F)),
   unary main_v94 main_v97 ((extractStridedSlice S64x8x50x50 ![0, 2, 0, 0] · slices_S64x10x50x50_S64x8x50x50_0_2_0_0) : (⟨S64x10x50x50, .f32⟩ : BufTy).Contents (Elt F) → (⟨S64x8x50x50, .f32⟩ : BufTy).Contents (Elt F)),
   unary main_v95 main_v98 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   unary main_v96 main_v99 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   unary main_v97 main_v100 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   nary ![main_v98, main_v99, main_v100] main_v101 (fun u => joinD (u 0) (u 1) (u 2)),
   unary main_v101 main_v102 ((extractStridedSlice S3x64x8x48x50 ![0, 0, 0, 0, 0] · slices_S3x64x8x50x50_S3x64x8x48x50_0_0_0_0_0) : (⟨S3x64x8x50x50, .f32⟩ : BufTy).Contents (Elt F) → (⟨S3x64x8x48x50, .f32⟩ : BufTy).Contents (Elt F)),
   unary main_v101 main_v103 ((extractStridedSlice S3x64x8x48x50 ![0, 0, 0, 1, 0] · slices_S3x64x8x50x50_S3x64x8x48x50_0_0_0_1_0) : (⟨S3x64x8x50x50, .f32⟩ : BufTy).Contents (Elt F) → (⟨S3x64x8x48x50, .f32⟩ : BufTy).Contents (Elt F)),
   unary main_v101 main_v104 ((extractStridedSlice S3x64x8x48x50 ![0, 0, 0, 2, 0] · slices_S3x64x8x50x50_S3x64x8x48x50_0_0_0_2_0) : (⟨S3x64x8x50x50, .f32⟩ : BufTy).Contents (Elt F) → (⟨S3x64x8x48x50, .f32⟩ : BufTy).Contents (Elt F)),
   unary main_v102 main_v105 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   unary main_v103 main_v106 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   unary main_v104 main_v107 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   nary ![main_v105, main_v106, main_v107] main_v108 (fun u => joinH (u 0) (u 1) (u 2)),
   unary main_v108 main_v109 ((extractStridedSlice S3x3x64x8x48x48 ![0, 0, 0, 0, 0, 0] · slices_S3x3x64x8x48x50_S3x3x64x8x48x48_0_0_0_0_0_0) : (⟨S3x3x64x8x48x50, .f32⟩ : BufTy).Contents (Elt F) → (⟨S3x3x64x8x48x48, .f32⟩ : BufTy).Contents (Elt F)),
   unary main_v108 main_v110 ((extractStridedSlice S3x3x64x8x48x48 ![0, 0, 0, 0, 0, 1] · slices_S3x3x64x8x48x50_S3x3x64x8x48x48_0_0_0_0_0_1) : (⟨S3x3x64x8x48x50, .f32⟩ : BufTy).Contents (Elt F) → (⟨S3x3x64x8x48x48, .f32⟩ : BufTy).Contents (Elt F)),
   unary main_v108 main_v111 ((extractStridedSlice S3x3x64x8x48x48 ![0, 0, 0, 0, 0, 2] · slices_S3x3x64x8x48x50_S3x3x64x8x48x48_0_0_0_0_0_2) : (⟨S3x3x64x8x48x50, .f32⟩ : BufTy).Contents (Elt F) → (⟨S3x3x64x8x48x48, .f32⟩ : BufTy).Contents (Elt F)),
   unary main_v109 main_v112 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   unary main_v110 main_v113 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   unary main_v111 main_v114 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   nary ![main_v112, main_v113, main_v114] main_v115 (fun u => joinW (u 0) (u 1) (u 2)),
   binary main_v91 main_v115 main_v116 ((fun l r => Host.dotGeneral dot_S64x64x3x3x3_S3x3x3x64x8x48x48_S64x8x48x48_2341_2103_0_456_n_n none l r) : (⟨S64x64x3x3x3, .f32⟩ : BufTy).Contents (Elt F) → (⟨S3x3x3x64x8x48x48, .f32⟩ : BufTy).Contents (Elt F) → (⟨S64x8x48x48, .f32⟩ : BufTy).Contents (Elt F)),
   unary main_v93 main_v117 (broadcastInDim S64x1x1x1 ![0] bcast_S64_S64x1x1x1_0 : (⟨S64, .f32⟩ : BufTy).Contents (Elt F) → (⟨S64x1x1x1, .f32⟩ : BufTy).Contents (Elt F)),
   unary main_v117 main_v118 (broadcastInDim S64x8x48x48 ![0, 1, 2, 3] bcast_S64x1x1x1_S64x8x48x48_0_1_2_3 : (⟨S64x1x1x1, .f32⟩ : BufTy).Contents (Elt F) → (⟨S64x8x48x48, .f32⟩ : BufTy).Contents (Elt F)),
   binary main_v116 main_v118 main_v119 (addf : (⟨S64x8x48x48, .f32⟩ : BufTy).Contents (Elt F) → (⟨S64x8x48x48, .f32⟩ : BufTy).Contents (Elt F) → (⟨S64x8x48x48, .f32⟩ : BufTy).Contents (Elt F)),
   nullary main_cst_4 (constant S_ .f32 0x00000000#32),
   unary main_cst_4 main_v120 (broadcastInDim S64x8x48x48 ![] bcast_S_S64x8x48x48 : (⟨S_, .f32⟩ : BufTy).Contents (Elt F) → (⟨S64x8x48x48, .f32⟩ : BufTy).Contents (Elt F)),
   binary main_v119 main_v120 main_v121 (maximumf : (⟨S64x8x48x48, .f32⟩ : BufTy).Contents (Elt F) → (⟨S64x8x48x48, .f32⟩ : BufTy).Contents (Elt F) → (⟨S64x8x48x48, .f32⟩ : BufTy).Contents (Elt F))]

/-- Segment 4: second block, second convolution and the residual sum. -/
def seg4 : List (HloOp τ sig (Elt F)) :=
  [unary main_arg5 main_v122 ((extractStridedSlice S1x64x64x3x3x3 ![1, 0, 0, 0, 0, 0] · slices_S2x64x64x3x3x3_S1x64x64x3x3x3_1_0_0_0_0_0) : (⟨S2x64x64x3x3x3, .f32⟩ : BufTy).Contents (Elt F) → (⟨S1x64x64x3x3x3, .f32⟩ : BufTy).Contents (Elt F)),
   reshape main_v122 main_v123 (rfl : (.f32 : EltTy) = .f32) shapeCasts_S1x64x64x3x3x3_S64x64x3x3x3,
   unary main_arg6 main_v124 ((extractStridedSlice S1x64 ![1, 0] · slices_S2x64_S1x64_1_0) : (⟨S2x64, .f32⟩ : BufTy).Contents (Elt F) → (⟨S1x64, .f32⟩ : BufTy).Contents (Elt F)),
   reshape main_v124 main_v125 (rfl : (.f32 : EltTy) = .f32) shapeCasts_S1x64_S64,
   nullary main_cst_5 (constant S_ .f32 0x00000000#32),
   binary main_v121 main_cst_5 main_v126 ((fun x v => pad S64x10x50x50 ![0, 1, 1, 1] ![0, 1, 1, 1] ![0, 0, 0, 0] x v pads_S64x8x48x48_S64x10x50x50_000_110_110_110 h_S_) : (⟨S64x8x48x48, .f32⟩ : BufTy).Contents (Elt F) → (⟨S_, .f32⟩ : BufTy).Contents (Elt F) → (⟨S64x10x50x50, .f32⟩ : BufTy).Contents (Elt F)),
   unary main_v126 main_v127 ((extractStridedSlice S64x8x50x50 ![0, 0, 0, 0] · slices_S64x10x50x50_S64x8x50x50_0_0_0_0) : (⟨S64x10x50x50, .f32⟩ : BufTy).Contents (Elt F) → (⟨S64x8x50x50, .f32⟩ : BufTy).Contents (Elt F)),
   unary main_v126 main_v128 ((extractStridedSlice S64x8x50x50 ![0, 1, 0, 0] · slices_S64x10x50x50_S64x8x50x50_0_1_0_0) : (⟨S64x10x50x50, .f32⟩ : BufTy).Contents (Elt F) → (⟨S64x8x50x50, .f32⟩ : BufTy).Contents (Elt F)),
   unary main_v126 main_v129 ((extractStridedSlice S64x8x50x50 ![0, 2, 0, 0] · slices_S64x10x50x50_S64x8x50x50_0_2_0_0) : (⟨S64x10x50x50, .f32⟩ : BufTy).Contents (Elt F) → (⟨S64x8x50x50, .f32⟩ : BufTy).Contents (Elt F)),
   unary main_v127 main_v130 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   unary main_v128 main_v131 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   unary main_v129 main_v132 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   nary ![main_v130, main_v131, main_v132] main_v133 (fun u => joinD (u 0) (u 1) (u 2)),
   unary main_v133 main_v134 ((extractStridedSlice S3x64x8x48x50 ![0, 0, 0, 0, 0] · slices_S3x64x8x50x50_S3x64x8x48x50_0_0_0_0_0) : (⟨S3x64x8x50x50, .f32⟩ : BufTy).Contents (Elt F) → (⟨S3x64x8x48x50, .f32⟩ : BufTy).Contents (Elt F)),
   unary main_v133 main_v135 ((extractStridedSlice S3x64x8x48x50 ![0, 0, 0, 1, 0] · slices_S3x64x8x50x50_S3x64x8x48x50_0_0_0_1_0) : (⟨S3x64x8x50x50, .f32⟩ : BufTy).Contents (Elt F) → (⟨S3x64x8x48x50, .f32⟩ : BufTy).Contents (Elt F)),
   unary main_v133 main_v136 ((extractStridedSlice S3x64x8x48x50 ![0, 0, 0, 2, 0] · slices_S3x64x8x50x50_S3x64x8x48x50_0_0_0_2_0) : (⟨S3x64x8x50x50, .f32⟩ : BufTy).Contents (Elt F) → (⟨S3x64x8x48x50, .f32⟩ : BufTy).Contents (Elt F)),
   unary main_v134 main_v137 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   unary main_v135 main_v138 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   unary main_v136 main_v139 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   nary ![main_v137, main_v138, main_v139] main_v140 (fun u => joinH (u 0) (u 1) (u 2)),
   unary main_v140 main_v141 ((extractStridedSlice S3x3x64x8x48x48 ![0, 0, 0, 0, 0, 0] · slices_S3x3x64x8x48x50_S3x3x64x8x48x48_0_0_0_0_0_0) : (⟨S3x3x64x8x48x50, .f32⟩ : BufTy).Contents (Elt F) → (⟨S3x3x64x8x48x48, .f32⟩ : BufTy).Contents (Elt F)),
   unary main_v140 main_v142 ((extractStridedSlice S3x3x64x8x48x48 ![0, 0, 0, 0, 0, 1] · slices_S3x3x64x8x48x50_S3x3x64x8x48x48_0_0_0_0_0_1) : (⟨S3x3x64x8x48x50, .f32⟩ : BufTy).Contents (Elt F) → (⟨S3x3x64x8x48x48, .f32⟩ : BufTy).Contents (Elt F)),
   unary main_v140 main_v143 ((extractStridedSlice S3x3x64x8x48x48 ![0, 0, 0, 0, 0, 2] · slices_S3x3x64x8x48x50_S3x3x64x8x48x48_0_0_0_0_0_2) : (⟨S3x3x64x8x48x50, .f32⟩ : BufTy).Contents (Elt F) → (⟨S3x3x64x8x48x48, .f32⟩ : BufTy).Contents (Elt F)),
   unary main_v141 main_v144 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   unary main_v142 main_v145 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   unary main_v143 main_v146 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   nary ![main_v144, main_v145, main_v146] main_v147 (fun u => joinW (u 0) (u 1) (u 2)),
   binary main_v123 main_v147 main_v148 ((fun l r => Host.dotGeneral dot_S64x64x3x3x3_S3x3x3x64x8x48x48_S64x8x48x48_2341_2103_0_456_n_n none l r) : (⟨S64x64x3x3x3, .f32⟩ : BufTy).Contents (Elt F) → (⟨S3x3x3x64x8x48x48, .f32⟩ : BufTy).Contents (Elt F) → (⟨S64x8x48x48, .f32⟩ : BufTy).Contents (Elt F)),
   unary main_v125 main_v149 (broadcastInDim S64x1x1x1 ![0] bcast_S64_S64x1x1x1_0 : (⟨S64, .f32⟩ : BufTy).Contents (Elt F) → (⟨S64x1x1x1, .f32⟩ : BufTy).Contents (Elt F)),
   unary main_v149 main_v150 (broadcastInDim S64x8x48x48 ![0, 1, 2, 3] bcast_S64x1x1x1_S64x8x48x48_0_1_2_3 : (⟨S64x1x1x1, .f32⟩ : BufTy).Contents (Elt F) → (⟨S64x8x48x48, .f32⟩ : BufTy).Contents (Elt F)),
   binary main_v148 main_v150 main_v151 (addf : (⟨S64x8x48x48, .f32⟩ : BufTy).Contents (Elt F) → (⟨S64x8x48x48, .f32⟩ : BufTy).Contents (Elt F) → (⟨S64x8x48x48, .f32⟩ : BufTy).Contents (Elt F)),
   binary main_v89 main_v151 main_v152 (addf : (⟨S64x8x48x48, .f32⟩ : BufTy).Contents (Elt F) → (⟨S64x8x48x48, .f32⟩ : BufTy).Contents (Elt F) → (⟨S64x8x48x48, .f32⟩ : BufTy).Contents (Elt F))]

/-- Segment 5: the last convolution, the skip sum and the change of layout. -/
def seg5 : List (HloOp τ sig (Elt F)) :=
  [nullary main_cst_6 (constant S_ .f32 0x00000000#32),
   binary main_v152 main_cst_6 main_v153 ((fun x v => pad S64x10x50x50 ![0, 1, 1, 1] ![0, 1, 1, 1] ![0, 0, 0, 0] x v pads_S64x8x48x48_S64x10x50x50_000_110_110_110 h_S_) : (⟨S64x8x48x48, .f32⟩ : BufTy).Contents (Elt F) → (⟨S_, .f32⟩ : BufTy).Contents (Elt F) → (⟨S64x10x50x50, .f32⟩ : BufTy).Contents (Elt F)),
   unary main_v153 main_v154 ((extractStridedSlice S64x8x50x50 ![0, 0, 0, 0] · slices_S64x10x50x50_S64x8x50x50_0_0_0_0) : (⟨S64x10x50x50, .f32⟩ : BufTy).Contents (Elt F) → (⟨S64x8x50x50, .f32⟩ : BufTy).Contents (Elt F)),
   unary main_v153 main_v155 ((extractStridedSlice S64x8x50x50 ![0, 1, 0, 0] · slices_S64x10x50x50_S64x8x50x50_0_1_0_0) : (⟨S64x10x50x50, .f32⟩ : BufTy).Contents (Elt F) → (⟨S64x8x50x50, .f32⟩ : BufTy).Contents (Elt F)),
   unary main_v153 main_v156 ((extractStridedSlice S64x8x50x50 ![0, 2, 0, 0] · slices_S64x10x50x50_S64x8x50x50_0_2_0_0) : (⟨S64x10x50x50, .f32⟩ : BufTy).Contents (Elt F) → (⟨S64x8x50x50, .f32⟩ : BufTy).Contents (Elt F)),
   unary main_v154 main_v157 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   unary main_v155 main_v158 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   unary main_v156 main_v159 (broadcastInDim S1x64x8x50x50 ![1, 2, 3, 4] bcast_S64x8x50x50_S1x64x8x50x50_1_2_3_4 : (⟨S64x8x50x50, .f32⟩ : BufTy).Contents (Elt F) → (⟨S1x64x8x50x50, .f32⟩ : BufTy).Contents (Elt F)),
   nary ![main_v157, main_v158, main_v159] main_v160 (fun u => joinD (u 0) (u 1) (u 2)),
   unary main_v160 main_v161 ((extractStridedSlice S3x64x8x48x50 ![0, 0, 0, 0, 0] · slices_S3x64x8x50x50_S3x64x8x48x50_0_0_0_0_0) : (⟨S3x64x8x50x50, .f32⟩ : BufTy).Contents (Elt F) → (⟨S3x64x8x48x50, .f32⟩ : BufTy).Contents (Elt F)),
   unary main_v160 main_v162 ((extractStridedSlice S3x64x8x48x50 ![0, 0, 0, 1, 0] · slices_S3x64x8x50x50_S3x64x8x48x50_0_0_0_1_0) : (⟨S3x64x8x50x50, .f32⟩ : BufTy).Contents (Elt F) → (⟨S3x64x8x48x50, .f32⟩ : BufTy).Contents (Elt F)),
   unary main_v160 main_v163 ((extractStridedSlice S3x64x8x48x50 ![0, 0, 0, 2, 0] · slices_S3x64x8x50x50_S3x64x8x48x50_0_0_0_2_0) : (⟨S3x64x8x50x50, .f32⟩ : BufTy).Contents (Elt F) → (⟨S3x64x8x48x50, .f32⟩ : BufTy).Contents (Elt F)),
   unary main_v161 main_v164 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   unary main_v162 main_v165 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   unary main_v163 main_v166 (broadcastInDim S1x3x64x8x48x50 ![1, 2, 3, 4, 5] bcast_S3x64x8x48x50_S1x3x64x8x48x50_1_2_3_4_5 : (⟨S3x64x8x48x50, .f32⟩ : BufTy).Contents (Elt F) → (⟨S1x3x64x8x48x50, .f32⟩ : BufTy).Contents (Elt F)),
   nary ![main_v164, main_v165, main_v166] main_v167 (fun u => joinH (u 0) (u 1) (u 2)),
   unary main_v167 main_v168 ((extractStridedSlice S3x3x64x8x48x48 ![0, 0, 0, 0, 0, 0] · slices_S3x3x64x8x48x50_S3x3x64x8x48x48_0_0_0_0_0_0) : (⟨S3x3x64x8x48x50, .f32⟩ : BufTy).Contents (Elt F) → (⟨S3x3x64x8x48x48, .f32⟩ : BufTy).Contents (Elt F)),
   unary main_v167 main_v169 ((extractStridedSlice S3x3x64x8x48x48 ![0, 0, 0, 0, 0, 1] · slices_S3x3x64x8x48x50_S3x3x64x8x48x48_0_0_0_0_0_1) : (⟨S3x3x64x8x48x50, .f32⟩ : BufTy).Contents (Elt F) → (⟨S3x3x64x8x48x48, .f32⟩ : BufTy).Contents (Elt F)),
   unary main_v167 main_v170 ((extractStridedSlice S3x3x64x8x48x48 ![0, 0, 0, 0, 0, 2] · slices_S3x3x64x8x48x50_S3x3x64x8x48x48_0_0_0_0_0_2) : (⟨S3x3x64x8x48x50, .f32⟩ : BufTy).Contents (Elt F) → (⟨S3x3x64x8x48x48, .f32⟩ : BufTy).Contents (Elt F)),
   unary main_v168 main_v171 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   unary main_v169 main_v172 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   unary main_v170 main_v173 (broadcastInDim S1x3x3x64x8x48x48 ![1, 2, 3, 4, 5, 6] bcast_S3x3x64x8x48x48_S1x3x3x64x8x48x48_1_2_3_4_5_6 : (⟨S3x3x64x8x48x48, .f32⟩ : BufTy).Contents (Elt F) → (⟨S1x3x3x64x8x48x48, .f32⟩ : BufTy).Contents (Elt F)),
   nary ![main_v171, main_v172, main_v173] main_v174 (fun u => joinW (u 0) (u 1) (u 2)),
   binary main_arg7 main_v174 main_v175 ((fun l r => Host.dotGeneral dot_S64x64x3x3x3_S3x3x3x64x8x48x48_S64x8x48x48_2341_2103_0_456_n_n none l r) : (⟨S64x64x3x3x3, .f32⟩ : BufTy).Contents (Elt F) → (⟨S3x3x3x64x8x48x48, .f32⟩ : BufTy).Contents (Elt F) → (⟨S64x8x48x48, .f32⟩ : BufTy).Contents (Elt F)),
   unary main_arg8 main_v176 (broadcastInDim S64x1x1x1 ![0] bcast_S64_S64x1x1x1_0 : (⟨S64, .f32⟩ : BufTy).Contents (Elt F) → (⟨S64x1x1x1, .f32⟩ : BufTy).Contents (Elt F)),
   unary main_v176 main_v177 (broadcastInDim S64x8x48x48 ![0, 1, 2, 3] bcast_S64x1x1x1_S64x8x48x48_0_1_2_3 : (⟨S64x1x1x1, .f32⟩ : BufTy).Contents (Elt F) → (⟨S64x8x48x48, .f32⟩ : BufTy).Contents (Elt F)),
   binary main_v175 main_v177 main_v178 (addf : (⟨S64x8x48x48, .f32⟩ : BufTy).Contents (Elt F) → (⟨S64x8x48x48, .f32⟩ : BufTy).Contents (Elt F) → (⟨S64x8x48x48, .f32⟩ : BufTy).Contents (Elt F)),
   binary main_v26 main_v178 main_v179 (addf : (⟨S64x8x48x48, .f32⟩ : BufTy).Contents (Elt F) → (⟨S64x8x48x48, .f32⟩ : BufTy).Contents (Elt F) → (⟨S64x8x48x48, .f32⟩ : BufTy).Contents (Elt F)),
   unary main_v179 main_v180 ((transpose S8x48x48x64 [1, 2, 3, 0] · transposes_S64x8x48x48_S8x48x48x64_1_2_3_0) : (⟨S64x8x48x48, .f32⟩ : BufTy).Contents (Elt F) → (⟨S8x48x48x64, .f32⟩ : BufTy).Contents (Elt F)),
   reshape main_v180 main_v181 (rfl : (.f32 : EltTy) = .f32) shapeCasts_S8x48x48x64_S18432x64,
  nullary main_cst_7 (constant S_ .f32 0x3F800000#32),
  unary main_cst_7 main_v182 (broadcastInDim S1x4096 ![] bcast_S_S1x4096 : (⟨S_, .f32⟩ : BufTy).Contents (Elt F) → (⟨S1x4096, .f32⟩ : BufTy).Contents (Elt F))]

/-- The whole line. -/
def ops : List (HloOp τ sig (Elt F)) := seg0 ++ (seg1 ++ (seg2 ++ (seg3 ++ (seg4 ++ seg5))))

set_option maxRecDepth 16384 in
set_option maxHeartbeats 4000000 in
/-- The reference is that line. -/
theorem main_isSeq : ∀ c : Dev nD, IsSeq (main (F := F) c) ops := by
  hlo_seq

/-- The reference declares no scoped buffer. -/
theorem scopedRefs_eq : (Finset.univ.filter fun b : Ref sig .tc => b.isScoped) = ∅ := by decide
/-- The reference declares no scoped semaphore. -/
theorem scopedSems_eq : (Finset.univ.filter fun sm : SemLoc sig => sm.isScoped .tc) = ∅ := by decide

/-- The buffers that segment 0 writes. -/
abbrev seg0W : List (Ref sig .tc) := [main_v0, main_cst, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26]

theorem seg0_writes : (seg0 : List (HloOp τ sig (Elt F))).Forall fun op => op.writes ⊆ (seg0W.map (Proc.devRef (τ := τ) .tc)).toFinset :=
  forall_writes_sub_of_map rfl

theorem seg0_fresh : (seg0 : List (HloOp τ sig (Elt F))).Forall fun op => op.fresh = ∅ :=
  forall_fresh_of_map rfl

/-- The buffers that segment 1 writes. -/
abbrev seg1W : List (Ref sig .tc) := [main_v27, main_v28, main_v29, main_v30, main_cst_0, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_cst_1, main_v57, main_v58]

theorem seg1_writes : (seg1 : List (HloOp τ sig (Elt F))).Forall fun op => op.writes ⊆ (seg1W.map (Proc.devRef (τ := τ) .tc)).toFinset :=
  forall_writes_sub_of_map rfl

theorem seg1_fresh : (seg1 : List (HloOp τ sig (Elt F))).Forall fun op => op.fresh = ∅ :=
  forall_fresh_of_map rfl

/-- The buffers that segment 2 writes. -/
abbrev seg2W : List (Ref sig .tc) := [main_v59, main_v60, main_v61, main_v62, main_cst_2, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89]

theorem seg2_writes : (seg2 : List (HloOp τ sig (Elt F))).Forall fun op => op.writes ⊆ (seg2W.map (Proc.devRef (τ := τ) .tc)).toFinset :=
  forall_writes_sub_of_map rfl

theorem seg2_fresh : (seg2 : List (HloOp τ sig (Elt F))).Forall fun op => op.fresh = ∅ :=
  forall_fresh_of_map rfl

/-- The buffers that segment 3 writes. -/
abbrev seg3W : List (Ref sig .tc) := [main_v90, main_v91, main_v92, main_v93, main_cst_3, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_cst_4, main_v120, main_v121]

theorem seg3_writes : (seg3 : List (HloOp τ sig (Elt F))).Forall fun op => op.writes ⊆ (seg3W.map (Proc.devRef (τ := τ) .tc)).toFinset :=
  forall_writes_sub_of_map rfl

theorem seg3_fresh : (seg3 : List (HloOp τ sig (Elt F))).Forall fun op => op.fresh = ∅ :=
  forall_fresh_of_map rfl

/-- The buffers that segment 4 writes. -/
abbrev seg4W : List (Ref sig .tc) := [main_v122, main_v123, main_v124, main_v125, main_cst_5, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152]

theorem seg4_writes : (seg4 : List (HloOp τ sig (Elt F))).Forall fun op => op.writes ⊆ (seg4W.map (Proc.devRef (τ := τ) .tc)).toFinset :=
  forall_writes_sub_of_map rfl

theorem seg4_fresh : (seg4 : List (HloOp τ sig (Elt F))).Forall fun op => op.fresh = ∅ :=
  forall_fresh_of_map rfl

/-- The buffers that segment 5 writes. -/
abbrev seg5W : List (Ref sig .tc) := [main_cst_6, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_cst_7, main_v182]

theorem seg5_writes : (seg5 : List (HloOp τ sig (Elt F))).Forall fun op => op.writes ⊆ (seg5W.map (Proc.devRef (τ := τ) .tc)).toFinset :=
  forall_writes_sub_of_map rfl

theorem seg5_fresh : (seg5 : List (HloOp τ sig (Elt F))).Forall fun op => op.fresh = ∅ :=
  forall_fresh_of_map rfl

theorem seg0_sub : (seg0 : List (HloOp τ sig (Elt F))).Forall fun op => op.bufs ⊆ tcRefs τ sig :=
  ⟨reshape_bufs_sub .., nullary_bufs_sub .., binary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., binary_bufs_sub .., unary_bufs_sub .., unary_bufs_sub .., binary_bufs_sub ..⟩

theorem seg1_sub : (seg1 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., binary_bufs_sub .., unary_bufs_sub .., unary_bufs_sub .., binary_bufs_sub .., nullary_bufs_sub .., unary_bufs_sub .., binary_bufs_sub ..⟩

theorem seg2_sub : (seg2 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., binary_bufs_sub .., unary_bufs_sub .., unary_bufs_sub .., binary_bufs_sub .., binary_bufs_sub ..⟩

theorem seg3_sub : (seg3 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., binary_bufs_sub .., unary_bufs_sub .., unary_bufs_sub .., binary_bufs_sub .., nullary_bufs_sub .., unary_bufs_sub .., binary_bufs_sub ..⟩

theorem seg4_sub : (seg4 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., binary_bufs_sub .., unary_bufs_sub .., unary_bufs_sub .., binary_bufs_sub .., binary_bufs_sub ..⟩

theorem seg5_sub : (seg5 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., binary_bufs_sub .., unary_bufs_sub .., unary_bufs_sub .., binary_bufs_sub .., binary_bufs_sub .., unary_bufs_sub .., reshape_bufs_sub .., nullary_bufs_sub .., unary_bufs_sub ..⟩

/-- Every operation of the line reads and writes buffers of the TensorCore. -/
theorem ops_sub : (ops : List (HloOp τ sig (Elt F))).Forall fun op => op.bufs ⊆ tcRefs τ sig := by
  refine List.forall_iff_forall_mem.mpr fun op h => ?_
  simp only [ops, List.mem_append] at h
  rcases h with h | h | h | h | h | h
  exacts [List.forall_iff_forall_mem.mp seg0_sub op h, List.forall_iff_forall_mem.mp seg1_sub op h, List.forall_iff_forall_mem.mp seg2_sub op h, List.forall_iff_forall_mem.mp seg3_sub op h, List.forall_iff_forall_mem.mp seg4_sub op h, List.forall_iff_forall_mem.mp seg5_sub op h]

/-- No operation of the line makes a fresh buffer. -/
theorem ops_fresh : ∀ op ∈ (ops : List (HloOp τ sig (Elt F))), op.fresh = ∅ := fun op h => by
  simp only [ops, List.mem_append] at h
  rcases h with h | h | h | h | h | h
  exacts [List.forall_iff_forall_mem.mp seg0_fresh op h, List.forall_iff_forall_mem.mp seg1_fresh op h, List.forall_iff_forall_mem.mp seg2_fresh op h, List.forall_iff_forall_mem.mp seg3_fresh op h, List.forall_iff_forall_mem.mp seg4_fresh op h, List.forall_iff_forall_mem.mp seg5_fresh op h]

end Cert.RefLine

end
-- ==== Proof.RefRun.lean ====
/-
  What the reference leaves in its result, as one term of the arguments.

  `conv1` and `conv` are the reference's convolution of one channel and of 64 channels, as it computes them: the
  zero-padded input, its shifted copies along depth, height and width, one product, the bias. Each segment of the line
  leaves that convolution of what it finds (`seg0_value` … `seg5_value`); `feat` composes them and `run` is the run.
-/
module

public import proofs.«01_k».proof.Proof.RefOps
public import Idealize.ShloMosaic.Lib.StableHlo.RunRead

@[expose] public section

set_option Elab.async false
set_option maxRecDepth 16384

noncomputable section

namespace Cert.RefLine

open Cert.ReferenceIdeal Cert.ReferenceIdeal.Gen Idealize.ShloMosaic Idealize.ShloMosaic.TcCoe Idealize.SL.Sem Idealize.ShloMosaic.StableHlo

variable {F : FTy → Type} [FloatOps F]

/-- Two lines one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The input of one channel with one zero on either side of each of the three spatial axes. -/
def padded1 (x : Vec F S1x8x48x48 .f32) : Vec F S1x10x50x50 .f32 :=
  (fun x v => pad S1x10x50x50 ![0, 1, 1, 1] ![0, 1, 1, 1] ![0, 0, 0, 0] x v pads_S1x8x48x48_S1x10x50x50_000_110_110_110 h_S_) x (constant S_ .f32 0x00000000#32)

/-- The three shifted copies along depth (one channel). -/
def shiftD1 (x : Vec F S1x10x50x50 .f32) : Vec F S3x1x8x50x50 .f32 :=
  joinD1
    (broadcastInDim S1x1x8x50x50 ![1, 2, 3, 4] bcast_S1x8x50x50_S1x1x8x50x50_1_2_3_4 (extractStridedSlice S1x8x50x50 ![0, 0, 0, 0] x slices_S1x10x50x50_S1x8x50x50_0_0_0_0))
    (broadcastInDim S1x1x8x50x50 ![1, 2, 3, 4] bcast_S1x8x50x50_S1x1x8x50x50_1_2_3_4 (extractStridedSlice S1x8x50x50 ![0, 1, 0, 0] x slices_S1x10x50x50_S1x8x50x50_0_1_0_0))
    (broadcastInDim S1x1x8x50x50 ![1, 2, 3, 4] bcast_S1x8x50x50_S1x1x8x50x50_1_2_3_4 (extractStridedSlice S1x8x50x50 ![0, 2, 0, 0] x slices_S1x10x50x50_S1x8x50x50_0_2_0_0))

/-- The three shifted copies along height (one channel). -/
def shiftH1 (x : Vec F S3x1x8x50x50 .f32) : Vec F S3x3x1x8x48x50 .f32 :=
  joinH1
    (broadcastInDim S1x3x1x8x48x50 ![1, 2, 3, 4, 5] bcast_S3x1x8x48x50_S1x3x1x8x48x50_1_2_3_4_5 (extractStridedSlice S3x1x8x48x50 ![0, 0, 0, 0, 0] x slices_S3x1x8x50x50_S3x1x8x48x50_0_0_0_0_0))
    (broadcastInDim S1x3x1x8x48x50 ![1, 2, 3, 4, 5] bcast_S3x1x8x48x50_S1x3x1x8x48x50_1_2_3_4_5 (extractStridedSlice S3x1x8x48x50 ![0, 0, 0, 1, 0] x slices_S3x1x8x50x50_S3x1x8x48x50_0_0_0_1_0))
    (broadcastInDim S1x3x1x8x48x50 ![1, 2, 3, 4, 5] bcast_S3x1x8x48x50_S1x3x1x8x48x50_1_2_3_4_5 (extractStridedSlice S3x1x8x48x50 ![0, 0, 0, 2, 0] x slices_S3x1x8x50x50_S3x1x8x48x50_0_0_0_2_0))

/-- The three shifted copies along width (one channel). -/
def shiftW1 (x : Vec F S3x3x1x8x48x50 .f32) : Vec F S3x3x3x1x8x48x48 .f32 :=
  joinW1
    (broadcastInDim S1x3x3x1x8x48x48 ![1, 2, 3, 4, 5, 6] bcast_S3x3x1x8x48x48_S1x3x3x1x8x48x48_1_2_3_4_5_6 (extractStridedSlice S3x3x1x8x48x48 ![0, 0, 0, 0, 0, 0] x slices_S3x3x1x8x48x50_S3x3x1x8x48x48_0_0_0_0_0_0))
    (broadcastInDim S1x3x3x1x8x48x48 ![1, 2, 3, 4, 5, 6] bcast_S3x3x1x8x48x48_S1x3x3x1x8x48x48_1_2_3_4_5_6 (extractStridedSlice S3x3x1x8x48x48 ![0, 0, 0, 0, 0, 1] x slices_S3x3x1x8x48x50_S3x3x1x8x48x48_0_0_0_0_0_1))
    (broadcastInDim S1x3x3x1x8x48x48 ![1, 2, 3, 4, 5, 6] bcast_S3x3x1x8x48x48_S1x3x3x1x8x48x48_1_2_3_4_5_6 (extractStridedSlice S3x3x1x8x48x48 ![0, 0, 0, 0, 0, 2] x slices_S3x3x1x8x48x50_S3x3x1x8x48x48_0_0_0_0_0_2))

/-- The convolution of one channel, as the reference computes it. -/
def conv1 (x : Vec F S1x8x48x48 .f32) (w : Vec F S64x1x3x3x3 .f32) (b : Vec F S64 .f32) : Vec F S64x8x48x48 .f32 :=
  addf (Host.dotGeneral dot_S64x1x3x3x3_S3x3x3x1x8x48x48_S64x8x48x48_2341_2103_0_456_n_n none w (shiftW1 (shiftH1 (shiftD1 (padded1 x)))))
    (broadcastInDim S64x8x48x48 ![0, 1, 2, 3] bcast_S64x1x1x1_S64x8x48x48_0_1_2_3 (broadcastInDim S64x1x1x1 ![0] bcast_S64_S64x1x1x1_0 b))

/-- The input of 64 channels with one zero on either side of each of the three spatial axes. -/
def padded (x : Vec F S64x8x48x48 .f32) : Vec F S64x10x50x50 .f32 :=
  (fun x v => pad S64x10x50x50 ![0, 1, 1, 1] ![0, 1, 1, 1] ![0, 0, 0, 0] x v pads_S64x8x48x48_S64x10x50x50_000_110_110_110 h_S_) x (constant S_ .f32 0x00000000#32)

/-- The three shifted copies along depth (64 channels). -/
def shiftD (x : Vec F S64x10x50x50 .f32) : Vec F S3x64x8x50x50 .f32 :=
  joinD
    (broadcastInDim S1x64x8x50x50 ![1, 2, 3, 4] bcast_S64x8x50x50_S1x64x8x50x50_1_2_3_4 (extractStridedSlice S64x8x50x50 ![0, 0, 0, 0] x slices_S64x10x50x50_S64x8x50x50_0_0_0_0))
    (broadcastInDim S1x64x8x50x50 ![1, 2, 3, 4] bcast_S64x8x50x50_S1x64x8x50x50_1_2_3_4 (extractStridedSlice S64x8x50x50 ![0, 1, 0, 0] x slices_S64x10x50x50_S64x8x50x50_0_1_0_0))
    (broadcastInDim S1x64x8x50x50 ![1, 2, 3, 4] bcast_S64x8x50x50_S1x64x8x50x50_1_2_3_4 (extractStridedSlice S64x8x50x50 ![0, 2, 0, 0] x slices_S64x10x50x50_S64x8x50x50_0_2_0_0))

/-- The three shifted copies along height (64 channels). -/
def shiftH (x : Vec F S3x64x8x50x50 .f32) : Vec F S3x3x64x8x48x50 .f32 :=
  joinH
    (broadcastInDim S1x3x64x8x48x50 ![1, 2, 3, 4, 5] bcast_S3x64x8x48x50_S1x3x64x8x48x50_1_2_3_4_5 (extractStridedSlice S3x64x8x48x50 ![0, 0, 0, 0, 0] x slices_S3x64x8x50x50_S3x64x8x48x50_0_0_0_0_0))
    (broadcastInDim S1x3x64x8x48x50 ![1, 2, 3, 4, 5] bcast_S3x64x8x48x50_S1x3x64x8x48x50_1_2_3_4_5 (extractStridedSlice S3x64x8x48x50 ![0, 0, 0, 1, 0] x slices_S3x64x8x50x50_S3x64x8x48x50_0_0_0_1_0))
    (broadcastInDim S1x3x64x8x48x50 ![1, 2, 3, 4, 5] bcast_S3x64x8x48x50_S1x3x64x8x48x50_1_2_3_4_5 (extractStridedSlice S3x64x8x48x50 ![0, 0, 0, 2, 0] x slices_S3x64x8x50x50_S3x64x8x48x50_0_0_0_2_0))

/-- The three shifted copies along width (64 channels). -/
def shiftW (x : Vec F S3x3x64x8x48x50 .f32) : Vec F S3x3x3x64x8x48x48 .f32 :=
  joinW
    (broadcastInDim S1x3x3x64x8x48x48 ![1, 2, 3, 4, 5, 6] bcast_S3x3x64x8x48x48_S1x3x3x64x8x48x48_1_2_3_4_5_6 (extractStridedSlice S3x3x64x8x48x48 ![0, 0, 0, 0, 0, 0] x slices_S3x3x64x8x48x50_S3x3x64x8x48x48_0_0_0_0_0_0))
    (broadcastInDim S1x3x3x64x8x48x48 ![1, 2, 3, 4, 5, 6] bcast_S3x3x64x8x48x48_S1x3x3x64x8x48x48_1_2_3_4_5_6 (extractStridedSlice S3x3x64x8x48x48 ![0, 0, 0, 0, 0, 1] x slices_S3x3x64x8x48x50_S3x3x64x8x48x48_0_0_0_0_0_1))
    (broadcastInDim S1x3x3x64x8x48x48 ![1, 2, 3, 4, 5, 6] bcast_S3x3x64x8x48x48_S1x3x3x64x8x48x48_1_2_3_4_5_6 (extractStridedSlice S3x3x64x8x48x48 ![0, 0, 0, 0, 0, 2] x slices_S3x3x64x8x48x50_S3x3x64x8x48x48_0_0_0_0_0_2))

/-- The convolution of 64 channels, as the reference computes it. -/
def conv (x : Vec F S64x8x48x48 .f32) (w : Vec F S64x64x3x3x3 .f32) (b : Vec F S64 .f32) : Vec F S64x8x48x48 .f32 :=
  addf (Host.dotGeneral dot_S64x64x3x3x3_S3x3x3x64x8x48x48_S64x8x48x48_2341_2103_0_456_n_n none w (shiftW (shiftH (shiftD (padded x)))))
    (broadcastInDim S64x8x48x48 ![0, 1, 2, 3] bcast_S64x1x1x1_S64x8x48x48_0_1_2_3 (broadcastInDim S64x1x1x1 ![0] bcast_S64_S64x1x1x1_0 b))

/-- The weights of block 0. -/
def blockW0 (w : Vec F S2x64x64x3x3x3 .f32) : Vec F S64x64x3x3x3 .f32 :=
  shapeCast _ (extractStridedSlice S1x64x64x3x3x3 ![0, 0, 0, 0, 0, 0] w slices_S2x64x64x3x3x3_S1x64x64x3x3x3_0_0_0_0_0_0) shapeCasts_S1x64x64x3x3x3_S64x64x3x3x3

/-- The bias of block 0. -/
def blockB0 (b : Vec F S2x64 .f32) : Vec F S64 .f32 :=
  shapeCast _ (extractStridedSlice S1x64 ![0, 0] b slices_S2x64_S1x64_0_0) shapeCasts_S1x64_S64

/-- The weights of block 1. -/
def blockW1 (w : Vec F S2x64x64x3x3x3 .f32) : Vec F S64x64x3x3x3 .f32 :=
  shapeCast _ (extractStridedSlice S1x64x64x3x3x3 ![1, 0, 0, 0, 0, 0] w slices_S2x64x64x3x3x3_S1x64x64x3x3x3_1_0_0_0_0_0) shapeCasts_S1x64x64x3x3x3_S64x64x3x3x3

/-- The bias of block 1. -/
def blockB1 (b : Vec F S2x64 .f32) : Vec F S64 .f32 :=
  shapeCast _ (extractStridedSlice S1x64 ![1, 0] b slices_S2x64_S1x64_1_0) shapeCasts_S1x64_S64

/-- The array of zeros that the maximum is taken with. -/
def zeros : Vec F S64x8x48x48 .f32 :=
  broadcastInDim S64x8x48x48 ![] bcast_S_S64x8x48x48 (constant S_ .f32 0x00000000#32)

/-- One row for each place: the channels moved to the last axis and the places laid out in one axis. -/
def rows (x : Vec F S64x8x48x48 .f32) : Vec F S18432x64 .f32 :=
  shapeCast _ ((transpose S8x48x48x64 [1, 2, 3, 0] · transposes_S64x8x48x48_S8x48x48x64_1_2_3_0) x) shapeCasts_S8x48x48x64_S18432x64

/-- The one input volume, without its batch axis. -/
def volume (x : Vec F S1x1x8x48x48 .f32) : Vec F S1x8x48x48 .f32 :=
  shapeCast _ x shapeCasts_S1x1x8x48x48_S1x8x48x48

theorem seg0_value (V : Valuation τ sig (Elt F)) :
    after seg0 V (Proc.devRef .tc main_v26) = conv1 (volume (V (Proc.devRef .tc main_arg0))) (V (Proc.devRef .tc main_arg1)) (V (Proc.devRef .tc main_arg2)) := by
  unfold seg0
  after_reads_simp
  repeat (dsimp only [Matrix.cons_val]; after_reads_simp)
  rfl

theorem seg1_value (V : Valuation τ sig (Elt F)) :
    after seg1 V (Proc.devRef .tc main_v58) = maximumf (conv (V (Proc.devRef .tc main_v26)) (blockW0 (V (Proc.devRef .tc main_arg3))) (blockB0 (V (Proc.devRef .tc main_arg4)))) zeros := by
  unfold seg1
  after_reads_simp
  repeat (dsimp only [Matrix.cons_val]; after_reads_simp)
  rfl

theorem seg2_value (V : Valuation τ sig (Elt F)) :
    after seg2 V (Proc.devRef .tc main_v89) = addf (V (Proc.devRef .tc main_v26)) (conv (V (Proc.devRef .tc main_v58)) (blockW0 (V (Proc.devRef .tc main_arg5))) (blockB0 (V (Proc.devRef .tc main_arg6)))) := by
  unfold seg2
  after_reads_simp
  repeat (dsimp only [Matrix.cons_val]; after_reads_simp)
  rfl

theorem seg3_value (V : Valuation τ sig (Elt F)) :
    after seg3 V (Proc.devRef .tc main_v121) = maximumf (conv (V (Proc.devRef .tc main_v89)) (blockW1 (V (Proc.devRef .tc main_arg3))) (blockB1 (V (Proc.devRef .tc main_arg4)))) zeros := by
  unfold seg3
  after_reads_simp
  repeat (dsimp only [Matrix.cons_val]; after_reads_simp)
  rfl

theorem seg4_value (V : Valuation τ sig (Elt F)) :
    after seg4 V (Proc.devRef .tc main_v152) = addf (V (Proc.devRef .tc main_v89)) (conv (V (Proc.devRef .tc main_v121)) (blockW1 (V (Proc.devRef .tc main_arg5))) (blockB1 (V (Proc.devRef .tc main_arg6)))) := by
  unfold seg4
  after_reads_simp
  repeat (dsimp only [Matrix.cons_val]; after_reads_simp)
  rfl

theorem seg5_value (V : Valuation τ sig (Elt F)) :
    after seg5 V (Proc.devRef .tc main_v181) = rows (addf (V (Proc.devRef .tc main_v26)) (conv (V (Proc.devRef .tc main_v152)) (V (Proc.devRef .tc main_arg7)) (V (Proc.devRef .tc main_arg8)))) := by
  unfold seg5
  after_reads_simp
  repeat (dsimp only [Matrix.cons_val]; after_reads_simp)
  rfl

/-- The reference's mask: ones. -/
def mask : Vec F S1x4096 .f32 := broadcastInDim S1x4096 ![] bcast_S_S1x4096 (constant S_ .f32 0x3F800000#32)

theorem seg5_mask (V : Valuation τ sig (Elt F)) : after seg5 V (Proc.devRef .tc main_v182) = mask := by
  unfold seg5
  after_reads_simp
  rfl

/-- What the whole line leaves in the second result. -/
theorem mask_value (V : Valuation τ sig (Elt F)) : after ops V (Proc.devRef .tc main_v182) = mask := by
  simp only [ops, after_append]
  exact seg5_mask _

/-- A buffer that no operation of the line writes keeps its contents. -/
theorem kept (V : Valuation τ sig (Elt F)) (r : Ref sig .tc) (h0 : r ∉ seg0W) (h1 : r ∉ seg1W) (h2 : r ∉ seg2W)
    (h3 : r ∉ seg3W) (h4 : r ∉ seg4W) (h5 : r ∉ seg5W) : after ops V (Proc.devRef .tc r) = V (Proc.devRef .tc r) := by
  simp only [ops, after_append]
  rw [after_of_writes_sub seg5 _ seg5_writes h5, after_of_writes_sub seg4 _ seg4_writes h4,
    after_of_writes_sub seg3 _ seg3_writes h3, after_of_writes_sub seg2 _ seg2_writes h2,
    after_of_writes_sub seg1 _ seg1_writes h1, after_of_writes_sub seg0 _ seg0_writes h0]

/-- One residual block: the convolution, the maximum with zero, the second convolution, the sum. -/
def block (x : Vec F S64x8x48x48 .f32) (w1 : Vec F S64x64x3x3x3 .f32) (b1 : Vec F S64 .f32)
    (w2 : Vec F S64x64x3x3x3 .f32) (b2 : Vec F S64 .f32) : Vec F S64x8x48x48 .f32 :=
  addf x (conv (maximumf (conv x w1 b1) zeros) w2 b2)

/-- The reference's features: the first convolution, two residual blocks, the last convolution, the skip sum, the
    layout. -/
def feat (x : Vec F S1x1x8x48x48 .f32) (hw : Vec F S64x1x3x3x3 .f32) (hb : Vec F S64 .f32)
    (w1 : Vec F S2x64x64x3x3x3 .f32) (b1 : Vec F S2x64 .f32) (w2 : Vec F S2x64x64x3x3x3 .f32) (b2 : Vec F S2x64 .f32)
    (tw : Vec F S64x64x3x3x3 .f32) (tb : Vec F S64 .f32) : Vec F S18432x64 .f32 :=
  rows (addf (conv1 (volume x) hw hb)
    (conv (block (block (conv1 (volume x) hw hb) (blockW0 w1) (blockB0 b1) (blockW0 w2) (blockB0 b2))
      (blockW1 w1) (blockB1 b1) (blockW1 w2) (blockB1 b2)) tw tb))

/-- What the whole line leaves in the result. -/
theorem result_value (V : Valuation τ sig (Elt F)) :
    after ops V (Proc.devRef .tc main_v181) = feat (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have k0 := fun (r : Ref sig .tc) h W => after_of_writes_sub (r := r) (seg0 (F := F)) W seg0_writes h
  have k1 := fun (r : Ref sig .tc) h W => after_of_writes_sub (r := r) (seg1 (F := F)) W seg1_writes h
  have k2 := fun (r : Ref sig .tc) h W => after_of_writes_sub (r := r) (seg2 (F := F)) W seg2_writes h
  have k3 := fun (r : Ref sig .tc) h W => after_of_writes_sub (r := r) (seg3 (F := F)) W seg3_writes h
  have k4 := fun (r : Ref sig .tc) h W => after_of_writes_sub (r := r) (seg4 (F := F)) W seg4_writes h
  simp only [ops, after_append]
  rw [seg5_value, seg4_value]
  rw [k4 main_v26 (by decide), k3 main_v26 (by decide), k2 main_v26 (by decide), k1 main_v26 (by decide), k4 main_arg7 (by decide), k3 main_arg7 (by decide), k2 main_arg7 (by decide), k1 main_arg7 (by decide), k0 main_arg7 (by decide), k4 main_arg8 (by decide), k3 main_arg8 (by decide), k2 main_arg8 (by decide), k1 main_arg8 (by decide), k0 main_arg8 (by decide)]
  rw [k3 main_v89 (by decide), k3 main_arg5 (by decide), k2 main_arg5 (by decide), k1 main_arg5 (by decide), k0 main_arg5 (by decide), k3 main_arg6 (by decide), k2 main_arg6 (by decide), k1 main_arg6 (by decide), k0 main_arg6 (by decide), seg3_value, seg2_value]
  rw [k2 main_arg3 (by decide), k1 main_arg3 (by decide), k0 main_arg3 (by decide), k2 main_arg4 (by decide), k1 main_arg4 (by decide), k0 main_arg4 (by decide), k1 main_v26 (by decide), k1 main_arg5 (by decide), k0 main_arg5 (by decide), k1 main_arg6 (by decide), k0 main_arg6 (by decide), seg1_value, k0 main_arg3 (by decide), k0 main_arg4 (by decide), seg0_value]
  rfl

/-- The run: on every device, from any memory with zero counters, the reference ends with its features and its
    mask in the results and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v181) = feat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v182) = mask
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v181).trans (result_value (launchContents m c)),
      (h c main_v182).trans (mask_value (launchContents m c)),
      (h c main_arg0).trans (kept (launchContents m c) main_arg0 (by decide) (by decide) (by decide) (by decide) (by decide) (by decide)),
      (h c main_arg1).trans (kept (launchContents m c) main_arg1 (by decide) (by decide) (by decide) (by decide) (by decide) (by decide)),
      (h c main_arg2).trans (kept (launchContents m c) main_arg2 (by decide) (by decide) (by decide) (by decide) (by decide) (by decide)),
      (h c main_arg3).trans (kept (launchContents m c) main_arg3 (by decide) (by decide) (by decide) (by decide) (by decide) (by decide)),
      (h c main_arg4).trans (kept (launchContents m c) main_arg4 (by decide) (by decide) (by decide) (by decide) (by decide) (by decide)),
      (h c main_arg5).trans (kept (launchContents m c) main_arg5 (by decide) (by decide) (by decide) (by decide) (by decide) (by decide)),
      (h c main_arg6).trans (kept (launchContents m c) main_arg6 (by decide) (by decide) (by decide) (by decide) (by decide) (by decide)),
      (h c main_arg7).trans (kept (launchContents m c) main_arg7 (by decide) (by decide) (by decide) (by decide) (by decide) (by decide)),
      (h c main_arg8).trans (kept (launchContents m c) main_arg8 (by decide) (by decide) (by decide) (by decide) (by decide) (by decide)),
      (h c main_arg9).trans (kept (launchContents m c) main_arg9 (by decide) (by decide) (by decide) (by decide) (by decide) (by decide))⟩)
    (run_hlo defs main main_isSeq scopedRefs_eq scopedSems_eq ops_sub ops_fresh m ρ)

end Cert.RefLine

end
-- ==== Proof.Shift.lean ====
/-
  Reading the reference's shifted copies at one place.

  `stack3_apply`: three slices of one array, each given a new first axis of extent one and put one after the other on
  it, read at `j` is the array at the place that slice number `j 0` starts from. `shiftD_apply` … `shiftW1_apply` are the
  six uses of it.
-/
module

public import proofs.«01_k».proof.Proof.RefRun
public import Idealize.ShloMosaic.Lib.Pipeline.ValueKit.Tiles
public import Idealize.ShloMosaic.Lib.Pointwise

@[expose] public section

set_option maxRecDepth 16384

noncomputable section

namespace Cert.RefLine

open Cert.ReferenceIdeal Cert.ReferenceIdeal.Gen Idealize.ShloMosaic Idealize.ShloMosaic.TcCoe Idealize.SL.Sem

/-- One of the three pieces: a slice given a new axis, read at the index `i` of that piece. -/
theorem piece_apply {α : Type} {s v u : Shape} (x : s.Idx → α) (o : Fin s.rank → ℕ) (h : s.Slices o v)
    (dims : Fin v.rank → Fin u.rank) (hb : v.BroadcastsInDim u dims) (hw : ∀ e, v.size e = u.size (dims e))
    (i : u.Idx) (p : s.Idx) (hp : ∀ e : Fin s.rank, (p e).val = o e + (i (dims (e.cast h.1.symm))).val) :
    broadcastInDim u dims hb (extractStridedSlice v o x h) i = x p := by
  unfold broadcastInDim extractStridedSlice
  refine congrArg x (funext fun e => Fin.ext ?_)
  rw [hp e]
  dsimp only
  congr 1
  split
  · next h1 =>
    have h2 := (i (dims (e.cast h.1.symm))).isLt
    have h3 := hw (e.cast h.1.symm)
    show 0 = (i (dims (e.cast h.1.symm))).val
    rw [h1] at h3
    exact (Nat.lt_one_iff.mp (Nat.lt_of_lt_of_eq h2 h3.symm)).symm
  · rfl

/-- Three slices of `x` that start at 0, 1 and 2 on the axis `ax`, stacked on a new axis `a`, read at `j`: `x` at the
    place `j a` further on along `ax`. -/
theorem stack3_apply {α : Type} {s v u t : Shape} (x : s.Idx → α) (o0 o1 o2 : Fin s.rank → ℕ)
    (h0 : s.Slices o0 v) (h1 : s.Slices o1 v) (h2 : s.Slices o2 v)
    (dims : Fin v.rank → Fin u.rank) (hb : v.BroadcastsInDim u dims) (a : Fin t.rank)
    (hc : Shape.Concatenates [u, u, u] t a) (j : t.Idx) (p : s.Idx) (ax : Fin s.rank)
    (hw : ∀ e, v.size e = u.size (dims e)) (hu : Shape.unitAlong [u, u, u] t a = true)
    (hr : u.rank = t.rank) (hd : ∀ e, (dims e).cast hr ≠ a)
    (e0 : ∀ e, o0 e = if e = ax then 0 else 0) (e1 : ∀ e, o1 e = if e = ax then 1 else 0)
    (e2 : ∀ e, o2 e = if e = ax then 2 else 0)
    (hp : ∀ e : Fin s.rank, (p e).val = (if e = ax then (j a).val else 0) + (j ((dims (e.cast h0.1.symm)).cast hr)).val) :
    concatenate t a [⟨u, broadcastInDim u dims hb (extractStridedSlice v o0 x h0)⟩,
      ⟨u, broadcastInDim u dims hb (extractStridedSlice v o1 x h1)⟩,
      ⟨u, broadcastInDim u dims hb (extractStridedSlice v o2 x h2)⟩] hc j = x p := by
  refine concatenate_unit_eq a [⟨u, broadcastInDim u dims hb (extractStridedSlice v o0 x h0)⟩,
      ⟨u, broadcastInDim u dims hb (extractStridedSlice v o1 x h1)⟩,
      ⟨u, broadcastInDim u dims hb (extractStridedSlice v o2 x h2)⟩] hc j _ hu
    (concatAt_cons _ _ _ _ ?_ (concatAt_cons _ _ _ _ ?_ (concatAt_cons _ _ _ _ ?_ (concatAt_nil _ _ _ _))))
  all_goals
    intro hk hr' i hi0 hi
    refine piece_apply x _ _ dims hb hw i p fun e => ?_
    rw [hp e, hk]
    have := hi _ (hd (e.cast h0.1.symm))
    rw [← this]
    first | rw [e0] | rw [e1] | rw [e2]
    rfl

variable {F : FTy → Type} [FloatOps F]

theorem shiftD_apply (x : Vec F S64x10x50x50 .f32) (j : S3x64x8x50x50.Idx) (p : S64x10x50x50.Idx)
    (h0 : (p 0).val = (j 1).val)
    (h1 : (p 1).val = (j 0).val + (j 2).val)
    (h2 : (p 2).val = (j 3).val)
    (h3 : (p 3).val = (j 4).val) :
    shiftD x j = x p := by
  refine stack3_apply x _ _ _ _ _ _ _ _ 0 concatenates_S1x64x8x50x50_S1x64x8x50x50_S1x64x8x50x50_S3x64x8x50x50_d0 j p 1 (by decide) rfl rfl (by decide) (by decide) (by decide) (by decide) ?_
  intro e
  match e with
  | ⟨0, _⟩ => exact h0.trans (Nat.zero_add _).symm
  | ⟨1, _⟩ => exact h1
  | ⟨2, _⟩ => exact h2.trans (Nat.zero_add _).symm
  | ⟨3, _⟩ => exact h3.trans (Nat.zero_add _).symm

theorem shiftH_apply (x : Vec F S3x64x8x50x50 .f32) (j : S3x3x64x8x48x50.Idx) (p : S3x64x8x50x50.Idx)
    (h0 : (p 0).val = (j 1).val)
    (h1 : (p 1).val = (j 2).val)
    (h2 : (p 2).val = (j 3).val)
    (h3 : (p 3).val = (j 0).val + (j 4).val)
    (h4 : (p 4).val = (j 5).val) :
    shiftH x j = x p := by
  refine stack3_apply x _ _ _ _ _ _ _ _ 0 concatenates_S1x3x64x8x48x50_S1x3x64x8x48x50_S1x3x64x8x48x50_S3x3x64x8x48x50_d0 j p 3 (by decide) rfl rfl (by decide) (by decide) (by decide) (by decide) ?_
  intro e
  match e with
  | ⟨0, _⟩ => exact h0.trans (Nat.zero_add _).symm
  | ⟨1, _⟩ => exact h1.trans (Nat.zero_add _).symm
  | ⟨2, _⟩ => exact h2.trans (Nat.zero_add _).symm
  | ⟨3, _⟩ => exact h3
  | ⟨4, _⟩ => exact h4.trans (Nat.zero_add _).symm

theorem shiftW_apply (x : Vec F S3x3x64x8x48x50 .f32) (j : S3x3x3x64x8x48x48.Idx) (p : S3x3x64x8x48x50.Idx)
    (h0 : (p 0).val = (j 1).val)
    (h1 : (p 1).val = (j 2).val)
    (h2 : (p 2).val = (j 3).val)
    (h3 : (p 3).val = (j 4).val)
    (h4 : (p 4).val = (j 5).val)
    (h5 : (p 5).val = (j 0).val + (j 6).val) :
    shiftW x j = x p := by
  refine stack3_apply x _ _ _ _ _ _ _ _ 0 concatenates_S1x3x3x64x8x48x48_S1x3x3x64x8x48x48_S1x3x3x64x8x48x48_S3x3x3x64x8x48x48_d0 j p 5 (by decide) rfl rfl (by decide) (by decide) (by decide) (by decide) ?_
  intro e
  match e with
  | ⟨0, _⟩ => exact h0.trans (Nat.zero_add _).symm
  | ⟨1, _⟩ => exact h1.trans (Nat.zero_add _).symm
  | ⟨2, _⟩ => exact h2.trans (Nat.zero_add _).symm
  | ⟨3, _⟩ => exact h3.trans (Nat.zero_add _).symm
  | ⟨4, _⟩ => exact h4.trans (Nat.zero_add _).symm
  | ⟨5, _⟩ => exact h5

theorem shiftD1_apply (x : Vec F S1x10x50x50 .f32) (j : S3x1x8x50x50.Idx) (p : S1x10x50x50.Idx)
    (h0 : (p 0).val = (j 1).val)
    (h1 : (p 1).val = (j 0).val + (j 2).val)
    (h2 : (p 2).val = (j 3).val)
    (h3 : (p 3).val = (j 4).val) :
    shiftD1 x j = x p := by
  refine stack3_apply x _ _ _ _ _ _ _ _ 0 concatenates_S1x1x8x50x50_S1x1x8x50x50_S1x1x8x50x50_S3x1x8x50x50_d0 j p 1 (by decide) rfl rfl (by decide) (by decide) (by decide) (by decide) ?_
  intro e
  match e with
  | ⟨0, _⟩ => exact h0.trans (Nat.zero_add _).symm
  | ⟨1, _⟩ => exact h1
  | ⟨2, _⟩ => exact h2.trans (Nat.zero_add _).symm
  | ⟨3, _⟩ => exact h3.trans (Nat.zero_add _).symm

theorem shiftH1_apply (x : Vec F S3x1x8x50x50 .f32) (j : S3x3x1x8x48x50.Idx) (p : S3x1x8x50x50.Idx)
    (h0 : (p 0).val = (j 1).val)
    (h1 : (p 1).val = (j 2).val)
    (h2 : (p 2).val = (j 3).val)
    (h3 : (p 3).val = (j 0).val + (j 4).val)
    (h4 : (p 4).val = (j 5).val) :
    shiftH1 x j = x p := by
  refine stack3_apply x _ _ _ _ _ _ _ _ 0 concatenates_S1x3x1x8x48x50_S1x3x1x8x48x50_S1x3x1x8x48x50_S3x3x1x8x48x50_d0 j p 3 (by decide) rfl rfl (by decide) (by decide) (by decide) (by decide) ?_
  intro e
  match e with
  | ⟨0, _⟩ => exact h0.trans (Nat.zero_add _).symm
  | ⟨1, _⟩ => exact h1.trans (Nat.zero_add _).symm
  | ⟨2, _⟩ => exact h2.trans (Nat.zero_add _).symm
  | ⟨3, _⟩ => exact h3
  | ⟨4, _⟩ => exact h4.trans (Nat.zero_add _).symm

theorem shiftW1_apply (x : Vec F S3x3x1x8x48x50 .f32) (j : S3x3x3x1x8x48x48.Idx) (p : S3x3x1x8x48x50.Idx)
    (h0 : (p 0).val = (j 1).val)
    (h1 : (p 1).val = (j 2).val)
    (h2 : (p 2).val = (j 3).val)
    (h3 : (p 3).val = (j 4).val)
    (h4 : (p 4).val = (j 5).val)
    (h5 : (p 5).val = (j 0).val + (j 6).val) :
    shiftW1 x j = x p := by
  refine stack3_apply x _ _ _ _ _ _ _ _ 0 concatenates_S1x3x3x1x8x48x48_S1x3x3x1x8x48x48_S1x3x3x1x8x48x48_S3x3x3x1x8x48x48_d0 j p 5 (by decide) rfl rfl (by decide) (by decide) (by decide) (by decide) ?_
  intro e
  match e with
  | ⟨0, _⟩ => exact h0.trans (Nat.zero_add _).symm
  | ⟨1, _⟩ => exact h1.trans (Nat.zero_add _).symm
  | ⟨2, _⟩ => exact h2.trans (Nat.zero_add _).symm
  | ⟨3, _⟩ => exact h3.trans (Nat.zero_add _).symm
  | ⟨4, _⟩ => exact h4.trans (Nat.zero_add _).symm
  | ⟨5, _⟩ => exact h5

end Cert.RefLine

end
-- ==== Proof.ConvSpec.lean ====
/-
  The convolution as a formula.

  `at0 f d h w` is a volume `f` of 8 × 48 × 48 places read one place beyond each of its faces: `(d, h, w)` counts from
  the zero border, so place `(d, h, w)` of the bordered volume is place `(d - 1, h - 1, w - 1)` of `f`, and zero outside.
  `convAt f wt d h w` is the 3 × 3 × 3 convolution at the place `(d, h, w)`: over the taps and the channels, the bordered
  input times the weight.
-/
module

public import Mathlib.Data.EReal.Operations
public import Mathlib.Algebra.BigOperators.Fin

@[expose] public section

noncomputable section

namespace Cert.Conv

open scoped BigOperators

/-- The volume with a zero border, read at `(d, h, w)`. -/
def at0 (f : Fin 8 → Fin 48 → Fin 48 → EReal) (d h w : ℕ) : EReal :=
  if H : (1 ≤ d ∧ d - 1 < 8) ∧ (1 ≤ h ∧ h - 1 < 48) ∧ (1 ≤ w ∧ w - 1 < 48) then
    f ⟨d - 1, H.1.2⟩ ⟨h - 1, H.2.1.2⟩ ⟨w - 1, H.2.2.2⟩
  else 0

/-- The convolution of `f`, one volume for each of `C` channels, with the weights `wt`, at the place `(d, h, w)`. -/
def convAt {C : ℕ} (f : Fin C → Fin 8 → Fin 48 → Fin 48 → EReal) (wt : Fin C → Fin 3 → Fin 3 → Fin 3 → EReal)
    (d h w : ℕ) : EReal :=
  ∑ a : Fin 3, ∑ b : Fin 3, ∑ c : Fin 3, ∑ i : Fin C, at0 (f i) (d + a.val) (h + b.val) (w + c.val) * wt i a b c

/-- A sum over 27 taps is the sum over the three axes of the window. -/
theorem sum_taps (g : Fin 3 → Fin 3 → Fin 3 → EReal) (G : ℕ → EReal)
    (hG : ∀ a b c : Fin 3, G (9 * a.val + 3 * b.val + c.val) = g a b c) :
    ∑ t ∈ Finset.range 27, G t = ∑ a : Fin 3, ∑ b : Fin 3, ∑ c : Fin 3, g a b c := by
  simp only [Fin.sum_univ_three, ← hG]
  simp only [Finset.sum_range_succ, Finset.sum_range_zero, zero_add]
  norm_num [add_assoc]

end Cert.Conv

end
-- ==== Proof.ConvRef.lean ====
/-
  The reference's convolution is the formula of `ConvSpec.lean`.
-/
module

public import proofs.«01_k».proof.Proof.Shift
public import proofs.«01_k».proof.Proof.ConvSpec
public import Idealize.ShloMosaic.PureOps.Ideal.Laws
public import Idealize.ShloMosaic.Lib.KernelVsHost
public import Idealize.ShloMosaic.Lib.Pipeline.Value

@[expose] public section

set_option maxRecDepth 16384

noncomputable section

namespace Cert.RefLine

open Cert.ReferenceIdeal Cert.ReferenceIdeal.Gen Idealize.ShloMosaic Idealize.ShloMosaic.TcCoe Idealize.SL.Sem
open Cert.Conv
open scoped BigOperators

/-- A volume of `C` channels padded by one zero on either side of its three spatial axes, at an index. -/
theorem pad_at0 {C : ℕ} (x : (⟨4, ![C, 8, 48, 48]⟩ : Shape).Idx → EReal) {u : Shape} (v : u.Idx → EReal)
    (hp : (⟨4, ![C, 8, 48, 48]⟩ : Shape).Pads ![0, 1, 1, 1] ![0, 1, 1, 1] ![0, 0, 0, 0] ⟨4, ![C, 10, 50, 50]⟩)
    (hu : 0 < u.numel) (hv : ∀ j, v j = 0) (i : Fin C) (d : Fin 10) (h w : Fin 50) :
    pad ⟨4, ![C, 10, 50, 50]⟩ ![0, 1, 1, 1] ![0, 1, 1, 1] ![0, 0, 0, 0] x v hp hu (ix4 i d h w)
      = at0 (fun d h w => x (ix4 i d h w)) d.val h.val w.val := by
  unfold at0
  split_ifs with H
  · refine pad_apply_of_inside _ _ _ x v hp hu _ _ fun a => ?_
    obtain ⟨⟨h1, _⟩, ⟨h2, _⟩, ⟨h3, _⟩⟩ := H
    match a with
    | ⟨0, _⟩ => show i.val = 0 + i.val * (0 + 1); omega
    | ⟨1, _⟩ => show d.val = 1 + (d.val - 1) * (0 + 1); omega
    | ⟨2, _⟩ => show h.val = 1 + (h.val - 1) * (0 + 1); omega
    | ⟨3, _⟩ => show w.val = 1 + (w.val - 1) * (0 + 1); omega
  · rw [← hv (Shape.Idx.first hu)]
    by_cases h1 : 1 ≤ d.val ∧ d.val - 1 < 8
    · by_cases h2 : 1 ≤ h.val ∧ h.val - 1 < 48
      · refine pad_apply_of_not_inside _ _ _ x v hp hu _ (⟨3, by show 3 < 4; decide⟩ : Fin 4) ?_
        rintro ⟨q1, -, q2⟩
        change 1 ≤ w.val at q1
        change (w.val - 1) / (0 + 1) < 48 at q2
        rw [zero_add, Nat.div_one] at q2
        exact H ⟨h1, h2, q1, q2⟩
      · refine pad_apply_of_not_inside _ _ _ x v hp hu _ (⟨2, by show 2 < 4; decide⟩ : Fin 4) ?_
        rintro ⟨q1, -, q2⟩
        change 1 ≤ h.val at q1
        change (h.val - 1) / (0 + 1) < 48 at q2
        rw [zero_add, Nat.div_one] at q2
        exact h2 ⟨q1, q2⟩
    · refine pad_apply_of_not_inside _ _ _ x v hp hu _ (⟨1, by show 1 < 4; decide⟩ : Fin 4) ?_
      rintro ⟨q1, -, q2⟩
      change 1 ≤ d.val at q1
      change (d.val - 1) / (0 + 1) < 8 at q2
      rw [zero_add, Nat.div_one] at q2
      exact h1 ⟨q1, q2⟩

/-- The zero constant reads as zero. -/
theorem zero_word (j : S_.Idx) : (constant (F := Ideal) S_ .f32 0x00000000#32 j : EReal) = 0 :=
  Ideal.ofBits_zero_f32

/-- The bias repeated over the places. -/
theorem bias_apply (b : Vec Ideal S64 .f32) (o : Fin 64) (d : Fin 8) (h w : Fin 48) :
    broadcastInDim S64x8x48x48 ![0, 1, 2, 3] bcast_S64x1x1x1_S64x8x48x48_0_1_2_3 (broadcastInDim S64x1x1x1 ![0] bcast_S64_S64x1x1x1_0 b)
      (ix4 o d h w) = b (ix1 o) := by
  rw [broadcastInDim_apply _ _ _ _ (ix4 o (0 : Fin 1) (0 : Fin 1) (0 : Fin 1)) fun a =>
      match a with | ⟨0, _⟩ => rfl | ⟨1, _⟩ => rfl | ⟨2, _⟩ => rfl | ⟨3, _⟩ => rfl,
    broadcastInDim_apply _ _ _ _ (ix1 o) fun a => match a with | ⟨0, _⟩ => rfl]

/-- The contraction index with the given coordinates: the tap and the channel. -/
def tapIdx (a b c : Fin 3) (i : Fin 64) : (dot_S64x64x3x3x3_S3x3x3x64x8x48x48_S64x8x48x48_2341_2103_0_456_n_n).contr.Idx :=
  fun e => match e with | ⟨0, _⟩ => a | ⟨1, _⟩ => b | ⟨2, _⟩ => c | ⟨3, _⟩ => i

/-- A sum over the contraction index is a sum over the tap and the channel. -/
theorem sum_tapIdx (f : (dot_S64x64x3x3x3_S3x3x3x64x8x48x48_S64x8x48x48_2341_2103_0_456_n_n).contr.Idx → EReal) :
    ∑ k, f k = ∑ a : Fin 3, ∑ b : Fin 3, ∑ c : Fin 3, ∑ i : Fin 64, f (tapIdx a b c i) := by
  rw [← Fintype.sum_equiv ⟨fun p : Fin 3 × Fin 3 × Fin 3 × Fin 64 => tapIdx p.1 p.2.1 p.2.2.1 p.2.2.2,
    fun k => (k ⟨0, by decide⟩, k ⟨1, by decide⟩, k ⟨2, by decide⟩, k ⟨3, by decide⟩), fun _ => rfl,
    fun k => by funext e; match e with | ⟨0, _⟩ => rfl | ⟨1, _⟩ => rfl | ⟨2, _⟩ => rfl | ⟨3, _⟩ => rfl⟩
    (fun p => f (tapIdx p.1 p.2.1 p.2.2.1 p.2.2.2)) f fun _ => rfl]
  simp only [Fintype.sum_prod_type]

theorem lhs_tapIdx (o : Fin 64) (d : Fin 8) (h w : Fin 48) (a b c : Fin 3) (i : Fin 64) :
    (dot_S64x64x3x3x3_S3x3x3x64x8x48x48_S64x8x48x48_2341_2103_0_456_n_n).lhsIdx (ix4 o d h w) (tapIdx a b c i) = ix5 o i a b c := by
  funext e; match e with | ⟨0, _⟩ => rfl | ⟨1, _⟩ => rfl | ⟨2, _⟩ => rfl | ⟨3, _⟩ => rfl | ⟨4, _⟩ => rfl

theorem rhs_tapIdx (o : Fin 64) (d : Fin 8) (h w : Fin 48) (a b c : Fin 3) (i : Fin 64) :
    (dot_S64x64x3x3x3_S3x3x3x64x8x48x48_S64x8x48x48_2341_2103_0_456_n_n).rhsIdx (ix4 o d h w) (tapIdx a b c i) = ix7 c b a i d h w := by
  funext e; match e with | ⟨0, _⟩ => rfl | ⟨1, _⟩ => rfl | ⟨2, _⟩ => rfl | ⟨3, _⟩ => rfl | ⟨4, _⟩ => rfl | ⟨5, _⟩ => rfl | ⟨6, _⟩ => rfl

/-- The three shifts composed: the input `(a, b, c)` places further on. -/
theorem window_apply (y : Vec Ideal S64x10x50x50 .f32) (a b c : Fin 3) (i : Fin 64) (d : Fin 8) (h w : Fin 48) :
    shiftW (shiftH (shiftD y)) (ix7 c b a i d h w)
      = y (ix4 i (⟨d.val + a.val, by omega⟩ : Fin 10) (⟨h.val + b.val, by omega⟩ : Fin 50) (⟨w.val + c.val, by omega⟩ : Fin 50)) := by
  rw [shiftW_apply _ (ix7 c b a i d h w) (ix6 b a i d h (⟨w.val + c.val, by omega⟩ : Fin 50)) rfl rfl rfl rfl rfl (Nat.add_comm w.val c.val),
    shiftH_apply _ (ix6 b a i d h (⟨w.val + c.val, by omega⟩ : Fin 50)) (ix5 a i d (⟨h.val + b.val, by omega⟩ : Fin 50) (⟨w.val + c.val, by omega⟩ : Fin 50)) rfl rfl rfl
      (Nat.add_comm h.val b.val) rfl,
    shiftD_apply _ (ix5 a i d (⟨h.val + b.val, by omega⟩ : Fin 50) (⟨w.val + c.val, by omega⟩ : Fin 50)) (ix4 i (⟨d.val + a.val, by omega⟩ : Fin 10) (⟨h.val + b.val, by omega⟩ : Fin 50)
      (⟨w.val + c.val, by omega⟩ : Fin 50)) rfl (Nat.add_comm d.val a.val) rfl rfl]

/-- The convolution of 64 channels at one place. -/
theorem conv_apply (x : Vec Ideal S64x8x48x48 .f32) (wt : Vec Ideal S64x64x3x3x3 .f32) (bs : Vec Ideal S64 .f32)
    (o : Fin 64) (d : Fin 8) (h w : Fin 48) :
    conv x wt bs (ix4 o d h w) = convAt (fun (i : Fin 64) d h w => x (ix4 i d h w)) (fun i a b c => wt (ix5 o i a b c)) d.val h.val w.val
      + bs (ix1 o) := by
  unfold conv
  refine congrArg₂ (fun p q : EReal => p + q) ?_ (bias_apply bs o d h w)
  unfold Host.dotGeneral
  rw [Ideal.dotGeneral_apply, sum_tapIdx]
  unfold convAt
  refine Finset.sum_congr rfl fun a _ => Finset.sum_congr rfl fun b _ => Finset.sum_congr rfl fun c _ =>
    Finset.sum_congr rfl fun i _ => ?_
  rw [lhs_tapIdx, rhs_tapIdx, window_apply, mul_comm]
  exact congrArg (fun q : EReal => q * _) (pad_at0 x _ pads_S64x8x48x48_S64x10x50x50_000_110_110_110 h_S_ zero_word i _ _ _)

/-- The contraction index with the given coordinates: the tap and the channel. -/
def tapIdx1 (a b c : Fin 3) (i : Fin 1) : (dot_S64x1x3x3x3_S3x3x3x1x8x48x48_S64x8x48x48_2341_2103_0_456_n_n).contr.Idx :=
  fun e => match e with | ⟨0, _⟩ => a | ⟨1, _⟩ => b | ⟨2, _⟩ => c | ⟨3, _⟩ => i

/-- A sum over the contraction index is a sum over the tap and the channel. -/
theorem sum_tapIdx1 (f : (dot_S64x1x3x3x3_S3x3x3x1x8x48x48_S64x8x48x48_2341_2103_0_456_n_n).contr.Idx → EReal) :
    ∑ k, f k = ∑ a : Fin 3, ∑ b : Fin 3, ∑ c : Fin 3, ∑ i : Fin 1, f (tapIdx1 a b c i) := by
  rw [← Fintype.sum_equiv ⟨fun p : Fin 3 × Fin 3 × Fin 3 × Fin 1 => tapIdx1 p.1 p.2.1 p.2.2.1 p.2.2.2,
    fun k => (k ⟨0, by decide⟩, k ⟨1, by decide⟩, k ⟨2, by decide⟩, k ⟨3, by decide⟩), fun _ => rfl,
    fun k => by funext e; match e with | ⟨0, _⟩ => rfl | ⟨1, _⟩ => rfl | ⟨2, _⟩ => rfl | ⟨3, _⟩ => rfl⟩
    (fun p => f (tapIdx1 p.1 p.2.1 p.2.2.1 p.2.2.2)) f fun _ => rfl]
  simp only [Fintype.sum_prod_type]

theorem lhs_tapIdx1 (o : Fin 64) (d : Fin 8) (h w : Fin 48) (a b c : Fin 3) (i : Fin 1) :
    (dot_S64x1x3x3x3_S3x3x3x1x8x48x48_S64x8x48x48_2341_2103_0_456_n_n).lhsIdx (ix4 o d h w) (tapIdx1 a b c i) = ix5 o i a b c := by
  funext e; match e with | ⟨0, _⟩ => rfl | ⟨1, _⟩ => rfl | ⟨2, _⟩ => rfl | ⟨3, _⟩ => rfl | ⟨4, _⟩ => rfl

theorem rhs_tapIdx1 (o : Fin 64) (d : Fin 8) (h w : Fin 48) (a b c : Fin 3) (i : Fin 1) :
    (dot_S64x1x3x3x3_S3x3x3x1x8x48x48_S64x8x48x48_2341_2103_0_456_n_n).rhsIdx (ix4 o d h w) (tapIdx1 a b c i) = ix7 c b a i d h w := by
  funext e; match e with | ⟨0, _⟩ => rfl | ⟨1, _⟩ => rfl | ⟨2, _⟩ => rfl | ⟨3, _⟩ => rfl | ⟨4, _⟩ => rfl | ⟨5, _⟩ => rfl | ⟨6, _⟩ => rfl

/-- The three shifts composed: the input `(a, b, c)` places further on. -/
theorem window1_apply (y : Vec Ideal S1x10x50x50 .f32) (a b c : Fin 3) (i : Fin 1) (d : Fin 8) (h w : Fin 48) :
    shiftW1 (shiftH1 (shiftD1 y)) (ix7 c b a i d h w)
      = y (ix4 i (⟨d.val + a.val, by omega⟩ : Fin 10) (⟨h.val + b.val, by omega⟩ : Fin 50) (⟨w.val + c.val, by omega⟩ : Fin 50)) := by
  rw [shiftW1_apply _ (ix7 c b a i d h w) (ix6 b a i d h (⟨w.val + c.val, by omega⟩ : Fin 50)) rfl rfl rfl rfl rfl (Nat.add_comm w.val c.val),
    shiftH1_apply _ (ix6 b a i d h (⟨w.val + c.val, by omega⟩ : Fin 50)) (ix5 a i d (⟨h.val + b.val, by omega⟩ : Fin 50) (⟨w.val + c.val, by omega⟩ : Fin 50)) rfl rfl rfl
      (Nat.add_comm h.val b.val) rfl,
    shiftD1_apply _ (ix5 a i d (⟨h.val + b.val, by omega⟩ : Fin 50) (⟨w.val + c.val, by omega⟩ : Fin 50)) (ix4 i (⟨d.val + a.val, by omega⟩ : Fin 10) (⟨h.val + b.val, by omega⟩ : Fin 50)
      (⟨w.val + c.val, by omega⟩ : Fin 50)) rfl (Nat.add_comm d.val a.val) rfl rfl]

/-- The convolution of the one input channel at one place. -/
theorem conv1_apply (x : Vec Ideal S1x8x48x48 .f32) (wt : Vec Ideal S64x1x3x3x3 .f32) (bs : Vec Ideal S64 .f32)
    (o : Fin 64) (d : Fin 8) (h w : Fin 48) :
    conv1 x wt bs (ix4 o d h w) = convAt (fun (i : Fin 1) d h w => x (ix4 i d h w)) (fun i a b c => wt (ix5 o i a b c)) d.val h.val w.val
      + bs (ix1 o) := by
  unfold conv1
  refine congrArg₂ (fun p q : EReal => p + q) ?_ (bias_apply bs o d h w)
  unfold Host.dotGeneral
  rw [Ideal.dotGeneral_apply, sum_tapIdx1]
  unfold convAt
  refine Finset.sum_congr rfl fun a _ => Finset.sum_congr rfl fun b _ => Finset.sum_congr rfl fun c _ =>
    Finset.sum_congr rfl fun i _ => ?_
  rw [lhs_tapIdx1, rhs_tapIdx1, window1_apply, mul_comm]
  exact congrArg (fun q : EReal => q * _) (pad_at0 x _ pads_S1x8x48x48_S1x10x50x50_000_110_110_110 h_S_ zero_word i _ _ _)

end Cert.RefLine

end
-- ==== Proof.Stages.lean ====
/-
  The encoder in formulas: `layer` is a convolution with its bias, `resid` a residual block, `encoder` the head, two
  residual blocks and the tail, with the head's output added at the end. All of them are volumes for 64 channels.
-/
module

public import proofs.«01_k».proof.Proof.ConvSpec

@[expose] public section

noncomputable section

namespace Cert.Conv

/-- One volume for each channel. -/
abbrev Vol (C : ℕ) := Fin C → Fin 8 → Fin 48 → Fin 48 → EReal

/-- The weights of a convolution from `C` channels to 64. -/
abbrev Wts (C : ℕ) := Fin 64 → Fin C → Fin 3 → Fin 3 → Fin 3 → EReal

/-- A convolution and its bias. -/
def layer {C : ℕ} (wt : Wts C) (bs : Fin 64 → EReal) (f : Vol C) : Vol 64 :=
  fun o d h w => convAt f (wt o) d.val h.val w.val + bs o

/-- The larger of each value and zero. -/
def relu (f : Vol 64) : Vol 64 := fun o d h w => max (f o d h w) 0

/-- A residual block. -/
def resid (w1 : Wts 64) (b1 : Fin 64 → EReal) (w2 : Wts 64) (b2 : Fin 64 → EReal) (f : Vol 64) : Vol 64 :=
  fun o d h w => f o d h w + layer w2 b2 (relu (layer w1 b1 f)) o d h w

/-- Everything after the head's convolution `y`: two residual blocks, the tail, and the sum with `y`. -/
def body (w1 : Fin 2 → Wts 64) (b1 : Fin 2 → Fin 64 → EReal) (w2 : Fin 2 → Wts 64) (b2 : Fin 2 → Fin 64 → EReal)
    (tw : Wts 64) (tb : Fin 64 → EReal) (y : Vol 64) : Vol 64 :=
  fun o d h w => y o d h w
    + layer tw tb (resid (w1 1) (b1 1) (w2 1) (b2 1) (resid (w1 0) (b1 0) (w2 0) (b2 0) y)) o d h w

/-- Channels that are zero everywhere add nothing: the head's convolution over 64 channels, of which only the first is not
zero, is the convolution of that one channel. -/
theorem convAt_one (f : Vol 64) (g : Vol 1) (wt : Fin 64 → Fin 3 → Fin 3 → Fin 3 → EReal)
    (wt1 : Fin 1 → Fin 3 → Fin 3 → Fin 3 → EReal) (hf : ∀ d h w, f 0 d h w = g 0 d h w)
    (hf0 : ∀ i : Fin 64, i ≠ 0 → ∀ d h w, f i d h w = 0) (hw : ∀ a b c, wt 0 a b c = wt1 0 a b c) (d h w : ℕ) :
    convAt f wt d h w = convAt g wt1 d h w := by
  unfold convAt
  refine Finset.sum_congr rfl fun a _ => Finset.sum_congr rfl fun b _ => Finset.sum_congr rfl fun c _ => ?_
  rw [Finset.sum_eq_single (0 : Fin 64), Fin.sum_univ_one, hw]
  · have : f 0 = g 0 := funext fun d => funext fun h => funext fun w => hf d h w
    rw [this]
  · intro i _ hi
    have : f i = fun _ _ _ => 0 := funext fun d => funext fun h => funext fun w => hf0 i hi d h w
    rw [this]
    unfold at0
    split <;> exact zero_mul _
  · intro hn
    exact absurd (Finset.mem_univ _) hn

end Cert.Conv

end
-- ==== Proof.RefValue.lean ====
/-
  The reference as the formulas of `Stages.lean`: its features at a row and a channel are `Conv.body` of the head's
  convolution of the one input volume.
-/
module

public import proofs.«01_k».proof.Proof.ConvRef
public import proofs.«01_k».proof.Proof.Stages
public import Idealize.ShloMosaic.Lib.ValueIdxRank6

@[expose] public section

set_option maxRecDepth 16384

noncomputable section

namespace Cert.RefLine

open Cert.ReferenceIdeal Cert.ReferenceIdeal.Gen Idealize.ShloMosaic Idealize.ShloMosaic.TcCoe Idealize.SL.Sem
open Cert.Conv

/-- The volumes of an array with the channels first. -/
def vols (x : Vec Ideal S64x8x48x48 .f32) : Vol 64 := fun i d h w => x (ix4 i d h w)

/-- The one input volume. -/
def input (x : Vec Ideal S1x1x8x48x48 .f32) : Vol 1 := fun i d h w => x (ix5 (0 : Fin 1) i d h w)

/-- The weights of one convolution. -/
def wts (w : Vec Ideal S64x64x3x3x3 .f32) : Wts 64 := fun o i a b c => w (ix5 o i a b c)

/-- The weights of the head. -/
def wts1 (w : Vec Ideal S64x1x3x3x3 .f32) : Wts 1 := fun o i a b c => w (ix5 o i a b c)

/-- The weights of block `q`. -/
def wtsOf (w : Vec Ideal S2x64x64x3x3x3 .f32) (q : Fin 2) : Wts 64 := fun o i a b c => w (ix6 q o i a b c)

/-- The bias of block `q`. -/
def biasOf (b : Vec Ideal S2x64 .f32) (q : Fin 2) (o : Fin 64) : EReal := b (ix2 q o)

/-- One bias. -/
def bias (b : Vec Ideal S64 .f32) (o : Fin 64) : EReal := b (ix1 o)

/-- Block `q`'s weights cut out of the weights of both. -/
theorem cutW (w : Vec Ideal S2x64x64x3x3x3 .f32) (off : Fin 6 → ℕ) (q : Fin 2) (hoff : off = ![q.val, 0, 0, 0, 0, 0])
    (hs : S2x64x64x3x3x3.Slices off S1x64x64x3x3x3) (hc : S1x64x64x3x3x3.ShapeCasts S64x64x3x3x3) (o i : Fin 64) (a b c : Fin 3) :
    shapeCast S64x64x3x3x3 (extractStridedSlice S1x64x64x3x3x3 off w hs) hc (ix5 o i a b c) = wtsOf w q o i a b c := by
  subst hoff
  rw [shapeCast_apply _ _ _ (ix6 (0 : Fin 1) o i a b c) (by
    rw [Shape.rowMajor_val_five, Shape.rowMajor_val_six]
    show ((((0 * 64 + o.val) * 64 + i.val) * 3 + a.val) * 3 + b.val) * 3 + c.val = (((o.val * 64 + i.val) * 3 + a.val) * 3 + b.val) * 3 + c.val
    omega)]
  refine extractStridedSlice_apply _ _ _ _ (ix6 q o i a b c) fun e => ?_
  match e with
  | ⟨0, _⟩ => show q.val = q.val + 0; omega
  | ⟨1, _⟩ => show o.val = 0 + o.val; omega
  | ⟨2, _⟩ => show i.val = 0 + i.val; omega
  | ⟨3, _⟩ => show a.val = 0 + a.val; omega
  | ⟨4, _⟩ => show b.val = 0 + b.val; omega
  | ⟨5, _⟩ => show c.val = 0 + c.val; omega

/-- Block `q`'s bias cut out of the biases of both. -/
theorem cutB (w : Vec Ideal S2x64 .f32) (off : Fin 2 → ℕ) (q : Fin 2) (hoff : off = ![q.val, 0])
    (hs : S2x64.Slices off S1x64) (hc : S1x64.ShapeCasts S64) (o : Fin 64) :
    shapeCast S64 (extractStridedSlice S1x64 off w hs) hc (ix1 o) = biasOf w q o := by
  subst hoff
  rw [shapeCast_apply _ _ _ (ix2 (0 : Fin 1) o) (by
    rw [Shape.rowMajor_val_one, Shape.rowMajor_val_two]
    show 0 * 64 + o.val = o.val
    omega)]
  refine extractStridedSlice_apply _ _ _ _ (ix2 q o) fun e => ?_
  match e with
  | ⟨0, _⟩ => show q.val = q.val + 0; omega
  | ⟨1, _⟩ => show o.val = 0 + o.val; omega

/-- A convolution of 64 channels. -/
theorem conv_vols (x : Vec Ideal S64x8x48x48 .f32) (w : Vec Ideal S64x64x3x3x3 .f32) (b : Vec Ideal S64 .f32)
    (wt : Wts 64) (bs : Fin 64 → EReal) (hw : ∀ o i p q r, w (ix5 o i p q r) = wt o i p q r) (hb : ∀ o, b (ix1 o) = bs o) :
    vols (conv x w b) = layer wt bs (vols x) := by
  funext o d h w'
  refine (conv_apply x w b o d h w').trans ?_
  rw [hb]
  have : (fun (i : Fin 64) (p q r : Fin 3) => w (ix5 o i p q r)) = wt o :=
    funext fun i => funext fun p => funext fun q => funext fun r => hw o i p q r
  rw [this]
  rfl

/-- The maximum with the array of zeros. -/
theorem relu_vols (x : FVec Ideal S64x8x48x48 .f32) : vols (maximumf (F := Ideal) (φ := .f32) x (zeros (F := Ideal))) = relu (vols x) := by
  funext o d h w
  exact congrArg (max _) Ideal.ofBits_zero_f32

/-- A residual block. -/
theorem block_vols (x : Vec Ideal S64x8x48x48 .f32) (w1 : Vec Ideal S64x64x3x3x3 .f32) (b1 : Vec Ideal S64 .f32)
    (w2 : Vec Ideal S64x64x3x3x3 .f32) (b2 : Vec Ideal S64 .f32) (wt1 wt2 : Wts 64) (bs1 bs2 : Fin 64 → EReal)
    (h1 : ∀ o i p q r, w1 (ix5 o i p q r) = wt1 o i p q r) (g1 : ∀ o, b1 (ix1 o) = bs1 o)
    (h2 : ∀ o i p q r, w2 (ix5 o i p q r) = wt2 o i p q r) (g2 : ∀ o, b2 (ix1 o) = bs2 o) :
    vols (block x w1 b1 w2 b2) = resid wt1 bs1 wt2 bs2 (vols x) := by
  funext o d h w
  have e : vols (conv (maximumf (F := Ideal) (φ := .f32) (conv x w1 b1) (zeros (F := Ideal))) w2 b2) = layer wt2 bs2 (relu (layer wt1 bs1 (vols x))) := by
    rw [conv_vols _ _ _ wt2 bs2 h2 g2, relu_vols, conv_vols _ _ _ wt1 bs1 h1 g1]
  exact congrArg (fun f : Vol 64 => vols x o d h w + f o d h w) e

/-- The head's convolution. -/
theorem head_vols (x : Vec Ideal S1x1x8x48x48 .f32) (w : Vec Ideal S64x1x3x3x3 .f32) (b : Vec Ideal S64 .f32) :
    vols (conv1 (volume x) w b) = layer (wts1 w) (bias b) (input x) := by
  funext o d h w'
  refine (conv1_apply (volume x) w b o d h w').trans ?_
  have : (fun (i : Fin 1) d h w => volume x (ix4 i d h w)) = input x := by
    funext i d h w
    refine shapeCast_apply _ _ _ _ ?_
    rw [Shape.rowMajor_val_four, Shape.rowMajor_val_five]
    show (((0 * 1 + i.val) * 8 + d.val) * 48 + h.val) * 48 + w.val = ((i.val * 8 + d.val) * 48 + h.val) * 48 + w.val
    omega
  rw [this]
  rfl

/-- The rows of an array with the channels first. -/
theorem rows_vols (x : Vec Ideal S64x8x48x48 .f32) (r : Fin 18432) (o : Fin 64) (d : Fin 8) (h w : Fin 48)
    (hr : r.val = (d.val * 48 + h.val) * 48 + w.val) : rows x (ix2 r o) = vols x o d h w := by
  unfold rows
  rw [shapeCast_apply _ _ _ (ix4 d h w o) (by
    rw [Shape.rowMajor_val_two, Shape.rowMajor_val_four]
    show ((d.val * 48 + h.val) * 48 + w.val) * 64 + o.val = r.val * 64 + o.val
    omega)]
  refine transpose_apply _ _ _ _ (ix4 o d h w) fun e => ?_
  match e with
  | ⟨0, _⟩ => rfl
  | ⟨1, _⟩ => rfl
  | ⟨2, _⟩ => rfl
  | ⟨3, _⟩ => rfl

/-- The reference's features. -/
theorem feat_apply (x : Vec Ideal S1x1x8x48x48 .f32) (hw : Vec Ideal S64x1x3x3x3 .f32) (hb : Vec Ideal S64 .f32)
    (w1 : Vec Ideal S2x64x64x3x3x3 .f32) (b1 : Vec Ideal S2x64 .f32) (w2 : Vec Ideal S2x64x64x3x3x3 .f32) (b2 : Vec Ideal S2x64 .f32)
    (tw : Vec Ideal S64x64x3x3x3 .f32) (tb : Vec Ideal S64 .f32) (r : Fin 18432) (o : Fin 64) (d : Fin 8) (h w : Fin 48)
    (hr : r.val = (d.val * 48 + h.val) * 48 + w.val) :
    feat x hw hb w1 b1 w2 b2 tw tb (ix2 r o)
      = body (wtsOf w1) (biasOf b1) (wtsOf w2) (biasOf b2) (wts tw) (bias tb) (layer (wts1 hw) (bias hb) (input x)) o d h w := by
  unfold feat
  rw [rows_vols _ r o d h w hr]
  show vols (conv1 (volume x) hw hb) o d h w + vols (conv _ tw tb) o d h w = _
  rw [conv_vols _ tw tb (wts tw) (bias tb) (fun _ _ _ _ _ => rfl) (fun _ => rfl),
    block_vols _ (blockW1 w1) (blockB1 b1) (blockW1 w2) (blockB1 b2) (wtsOf w1 1) (wtsOf w2 1) (biasOf b1 1) (biasOf b2 1)
      (cutW w1 _ 1 rfl _ _) (cutB b1 _ 1 rfl _ _) (cutW w2 _ 1 rfl _ _) (cutB b2 _ 1 rfl _ _),
    block_vols _ (blockW0 w1) (blockB0 b1) (blockW0 w2) (blockB0 b2) (wtsOf w1 0) (wtsOf w2 0) (biasOf b1 0) (biasOf b2 0)
      (cutW w1 _ 0 rfl _ _) (cutB b1 _ 0 rfl _ _) (cutW w2 _ 0 rfl _ _) (cutB b2 _ 0 rfl _ _),
    head_vols]
  rfl

end Cert.RefLine

end
-- ==== Proof.Taps.lean ====
/-
  The kernel's convolution, as mathematics.

  The kernel keeps a volume as 18432 rows of 64 channels, row `(d * 48 + h) * 48 + w` for place `(d, h, w)` (`vol`). It
  stores the volume inside a zero-filled array of 10 × 50 × 50 places (`bordered_apply`) and adds, one tap after another,
  the product of the shifted rows with the tap's 64 × 64 weights (`tap_apply`). After the 27 taps the rows hold the
  convolution of `ConvSpec.lean` (`taps_value`).
-/
module

public import proofs.«01_k».proof.Proof.ConvSpec
public import proofs.«01_k».proof.Proof.Gen.KernelIdeal.Skeleton
public import Idealize.ShloMosaic.PureOps.Ideal.Laws
public import Idealize.ShloMosaic.Lib.Pointwise
public import Idealize.ShloMosaic.Lib.MatmulPlain
public import Idealize.ShloMosaic.Lib.Pipeline.Value
public import Idealize.ShloMosaic.Lib.Pipeline.FrameBody
public import Idealize.ShloMosaic.Lib.WritesUnit
public import Idealize.ShloMosaic.Lib.VecWindow

@[expose] public section

set_option maxRecDepth 16384

noncomputable section

namespace Cert.Taps

open Cert.KernelIdeal Cert.KernelIdeal.Gen Idealize.ShloMosaic Idealize.ShloMosaic.TcCoe Idealize.SL.Sem
open Cert.Conv
open scoped BigOperators

/-- The row of a place. -/
def row (d : Fin 8) (h w : Fin 48) : Fin 18432 := ⟨(d.val * 48 + h.val) * 48 + w.val, by omega⟩

/-- The rows as one volume for each channel. -/
def vol (A : Vec Ideal S18432x64 .f32) (i : Fin 64) (d : Fin 8) (h w : Fin 48) : EReal := A (ix2 (row d h w) i)

/-- The rows reshaped to places. -/
theorem places_apply (A : Vec Ideal S18432x64 .f32) (h : S18432x64.ShapeCasts S8x48x48x64) (d : Fin 8) (y x : Fin 48) (i : Fin 64) :
    shapeCast S8x48x48x64 A h (ix4 d y x i) = vol A i d y x := by
  refine shapeCast_apply _ _ _ _ ?_
  rw [Shape.rowMajor_val_two, Shape.rowMajor_val_four]
  show ((d.val * 48 + y.val) * 48 + x.val) * 64 + i.val = ((d.val * 48 + y.val) * 48 + x.val) * 64 + i.val
  rfl

/-- The places reshaped to rows. -/
theorem rows_apply (X : Vec Ideal S8x48x48x64 .f32) (hc : S8x48x48x64.ShapeCasts S18432x64) (d : Fin 8) (h w : Fin 48) (i : Fin 64) :
    shapeCast S18432x64 X hc (ix2 (row d h w) i) = X (ix4 d h w i) := by
  refine shapeCast_apply _ _ _ _ ?_
  rw [Shape.rowMajor_val_two, Shape.rowMajor_val_four]
  rfl

/-- What the bordered array holds after the zero fill and the store of the places inside it. -/
theorem bordered_apply {sig : RefSig} {κ : Kind} {sp : Space} (v : View sig κ sp S10x50x50x64 .f32) (f : v.ty.Contents (Elt Ideal))
    (y : Vec Ideal S8x48x48x64 .f32) (Z : Vec Ideal S10x50x50x64 .f32) (hZ : ∀ j, Z j = (0 : EReal))
    (inb : ∀ a, (![1, 1, 1, 0] : Fin 4 → ℕ) a + S8x48x48x64.size a ≤ S10x50x50x64.size a)
    (inb' : ∀ a, (![0, 0, 0, 0] : Fin 4 → ℕ) a + S10x50x50x64.size a ≤ S10x50x50x64.size a)
    (L : List (View.Piece (Elt Ideal) S10x50x50x64 .f32)) (p : S10x50x50x64.Idx) :
    v.read (Elt Ideal) (v.writes (Elt Ideal) f (⟨Rect.unit (s := S10x50x50x64) ![1, 1, 1, 0] S8x48x48x64.size inb, y⟩
        :: ⟨Rect.unit (s := S10x50x50x64) ![0, 0, 0, 0] S10x50x50x64.size inb', Z⟩ :: L)) p
      = at0 (fun d h w => y (ix4 d h w (p 3))) (p 0).val (p 1).val (p 2).val := by
  rw [View.read_writes_cons_unit v f inb y _ p rfl, View.read_writes_full]
  unfold at0
  have h3 : (p 3).val < 64 := (p 3).isLt
  split_ifs with h1 h2 h2
  · refine congrArg y (funext fun a => Fin.ext ?_)
    match a with
    | ⟨0, _⟩ => rfl
    | ⟨1, _⟩ => rfl
    | ⟨2, _⟩ => rfl
    | ⟨3, _⟩ => rfl
  · have e0 : 1 ≤ (p 0).val ∧ (p 0).val < 1 + 8 := h1 0
    have e1 : 1 ≤ (p 1).val ∧ (p 1).val < 1 + 48 := h1 1
    have e2 : 1 ≤ (p 2).val ∧ (p 2).val < 1 + 48 := h1 2
    exact absurd ⟨⟨e0.1, by omega⟩, ⟨e1.1, by omega⟩, e2.1, by omega⟩ h2
  · refine absurd (fun a => ?_) h1
    match a with
    | ⟨0, _⟩ => show 1 ≤ (p 0).val ∧ (p 0).val < 1 + 8; omega
    | ⟨1, _⟩ => show 1 ≤ (p 1).val ∧ (p 1).val < 1 + 48; omega
    | ⟨2, _⟩ => show 1 ≤ (p 2).val ∧ (p 2).val < 1 + 48; omega
    | ⟨3, _⟩ => show 0 ≤ (p 3).val ∧ (p 3).val < 0 + 64; omega
  · exact hZ p

/-- The two spellings of an index of rank two. -/
theorem ix2_eq {m n : ℕ} (r : Fin m) (c : Fin n) : ValueIdx.ix2 r c = (ix2 r c : (⟨2, ![m, n]⟩ : Shape).Idx) := by
  funext a
  match a with | ⟨0, _⟩ => rfl | ⟨1, _⟩ => rfl

/-- The product of the rows with 64 × 64 weights. -/
def product (P : FVec Ideal S18432x64 .f32) (Wt : FVec Ideal S64x64 .f32) : FVec Ideal S18432x64 .f32 :=
  matmul dot_S18432x64_S64x64_S18432x64_1_0_0_1_n_n none P Wt (constant S18432x64 .f32 0x00000000#32)

theorem product_apply (P : FVec Ideal S18432x64 .f32) (Wt : FVec Ideal S64x64 .f32) (r : Fin 18432) (o : Fin 64) :
    (product P Wt (ix2 r o) : EReal) = ∑ i : Fin 64, P (ix2 r i) * Wt (ix2 i o) := by
  have h := Ideal.matmul_plain_apply (M := 18432) (K := 64) (N := 64) none P Wt (constant S18432x64 .f32 0x00000000#32) r o
  rw [ix2_eq] at h
  refine Eq.trans h ?_
  refine Eq.trans (congrArg (fun z : EReal => z + _) Ideal.ofBits_zero_f32) ?_
  rw [zero_add]
  exact Finset.sum_congr rfl fun i _ => by rw [ix2_eq, ix2_eq]

/-- One tap: what the accumulator holds at a place after it. -/
def tapStep (X : Vec Ideal S10x50x50x64 .f32) (A : Vec Ideal S18432x64 .f32) (Wt : Vec Ideal S64x64 .f32) (off : Fin 4 → ℕ)
    (inb : ∀ a, off a + (![8, 48, 48, 64] : Fin 4 → ℕ) a ≤ S10x50x50x64.size a) : Vec Ideal S18432x64 .f32 :=
  addf (F := Ideal) A (product
    (shapeCast S18432x64 (View.ld (Val := Elt Ideal) (e' := .f32) X (Rect.unit (s := S10x50x50x64) off ![8, 48, 48, 64] inb) : Vec Ideal S8x48x48x64 .f32)
      shapeCasts_S8x48x48x64_S18432x64) Wt)

theorem tap_apply (X : Vec Ideal S10x50x50x64 .f32) (A : Vec Ideal S18432x64 .f32) (Wt : Vec Ideal S64x64 .f32) (off : Fin 4 → ℕ)
    (inb : ∀ a, off a + (![8, 48, 48, 64] : Fin 4 → ℕ) a ≤ S10x50x50x64.size a) (a b c : ℕ) (hoff : off = ![a, b, c, 0])
    (f : Fin 64 → Fin 8 → Fin 48 → Fin 48 → EReal) (hX : ∀ p, X p = at0 (f (p 3)) (p 0).val (p 1).val (p 2).val)
    (d : Fin 8) (h w : Fin 48) (o : Fin 64) :
    (tapStep X A Wt off inb (ix2 (row d h w) o) : EReal)
      = A (ix2 (row d h w) o) + ∑ i : Fin 64, at0 (f i) (d.val + a) (h.val + b) (w.val + c) * Wt (ix2 i o) := by
  subst hoff
  refine congrArg (fun z : EReal => _ + z) ((product_apply _ _ _ _).trans (Finset.sum_congr rfl fun i _ => ?_))
  refine congrArg (fun z : EReal => z * _) ?_
  rw [rows_apply]
  refine (hX _).trans ?_
  have e3 : ((Rect.unit (s := S10x50x50x64) ![a, b, c, 0] ![8, 48, 48, 64] inb).idx (ix4 d h w i) 3) = i :=
    Fin.ext (by show 0 + 1 * i.val = i.val; omega)
  rw [e3]
  have e0 : ((Rect.unit (s := S10x50x50x64) ![a, b, c, 0] ![8, 48, 48, 64] inb).idx (ix4 d h w i) 0).val = d.val + a := by
    show a + 1 * d.val = _; omega
  have e1 : ((Rect.unit (s := S10x50x50x64) ![a, b, c, 0] ![8, 48, 48, 64] inb).idx (ix4 d h w i) 1).val = h.val + b := by
    show b + 1 * h.val = _; omega
  have e2 : ((Rect.unit (s := S10x50x50x64) ![a, b, c, 0] ![8, 48, 48, 64] inb).idx (ix4 d h w i) 2).val = w.val + c := by
    show c + 1 * w.val = _; omega
  rw [e0, e1, e2]

/-- After the 27 taps the accumulator, zero at first, holds the convolution. -/
theorem taps_value {n : ℕ} (hn : n = 27) (acc : ℕ → Vec Ideal S18432x64 .f32) (X : Vec Ideal S10x50x50x64 .f32)
    (W : Fin n → Vec Ideal S64x64 .f32) (off : Fin n → Fin 4 → ℕ)
    (inb : ∀ k, ∀ a, off k a + (![8, 48, 48, 64] : Fin 4 → ℕ) a ≤ S10x50x50x64.size a)
    (hoff : ∀ k, off k = ![k.val / 9, k.val / 3 % 3, k.val % 3, 0]) (h0 : ∀ j, acc 0 j = (0 : EReal))
    (hs : ∀ k : Fin n, acc (k.val + 1) = tapStep X (acc k.val) (W k) (off k) (inb k))
    (f : Fin 64 → Fin 8 → Fin 48 → Fin 48 → EReal) (hX : ∀ p, X p = at0 (f (p 3)) (p 0).val (p 1).val (p 2).val)
    (wt : Fin 64 → Fin 64 → Fin 3 → Fin 3 → Fin 3 → EReal)
    (hW : ∀ (k : Fin n) (a b c : Fin 3) (i o : Fin 64), k.val = 9 * a.val + 3 * b.val + c.val → W k (ix2 i o) = wt o i a b c)
    (o : Fin 64) (d : Fin 8) (h w : Fin 48) :
    vol (acc n) o d h w = convAt f (wt o) d.val h.val w.val := by
  subst hn
  let T : ℕ → EReal := fun t => if H : t < 27 then
    ∑ i : Fin 64, at0 (f i) (d.val + t / 9) (h.val + t / 3 % 3) (w.val + t % 3) * W ⟨t, H⟩ (ix2 i o) else 0
  have key : ∀ k ≤ 27, vol (acc k) o d h w = ∑ t ∈ Finset.range k, T t := by
    intro k
    induction k with
    | zero => intro _; rw [Finset.sum_range_zero]; exact h0 _
    | succ k ih =>
      intro hk
      rw [Finset.sum_range_succ, ← ih (by omega)]
      have h1 := hs ⟨k, by omega⟩
      show acc (k + 1) (ix2 (row d h w) o) = _
      rw [h1, tap_apply X _ _ _ _ _ _ _ (hoff _) f hX]
      show _ = acc k (ix2 (row d h w) o) + T k
      have hT : T k = ∑ i : Fin 64, at0 (f i) (d.val + k / 9) (h.val + k / 3 % 3) (w.val + k % 3) * W ⟨k, by omega⟩ (ix2 i o) :=
        dif_pos (by omega)
      rw [hT]
  rw [key 27 le_rfl]
  unfold convAt
  refine sum_taps _ T fun a b c => ?_
  have hlt : 9 * a.val + 3 * b.val + c.val < 27 := by omega
  have hT : T (9 * a.val + 3 * b.val + c.val) = _ := dif_pos hlt
  rw [hT]
  refine Finset.sum_congr rfl fun i _ => ?_
  rw [hW ⟨_, hlt⟩ a b c i o rfl]
  have q1 : (9 * a.val + 3 * b.val + c.val) / 9 = a.val := by omega
  have q2 : (9 * a.val + 3 * b.val + c.val) / 3 % 3 = b.val := by omega
  have q3 : (9 * a.val + 3 * b.val + c.val) % 3 = c.val := by omega
  rw [q1, q2, q3]

end Cert.Taps

end
-- ==== Proof.Loops.lean ====
/-
  The six loops of the kernel: after its 27 trips the accumulator of a loop holds the convolution.

  Each trip reads a shifted box of the bordered array, the accumulator and one tap's weights, and stores the accumulator
  back whole; so what the accumulator holds after a trip is `Taps.tapStep` of what it held before, and `Taps.taps_value` sums
  the trips. The loops differ in the array they read the weights from: the head and the tail read a stack of 27 taps
  (`weight3_apply`), the residual blocks the stack of one of two blocks (`weight4_apply`).
-/
module

public import proofs.«01_k».proof.Proof.Taps
public import proofs.«01_k».proof.Proof.Gen.KernelIdeal.Loops

@[expose] public section

set_option maxRecDepth 16384

noncomputable section

namespace Cert.Taps

open Cert.KernelIdeal Cert.KernelIdeal.Gen Idealize.ShloMosaic Idealize.ShloMosaic.TcCoe Idealize.SL.Sem
open Cert.Conv

/-- A loop whose trips leave the stores `pb`: each stores the accumulator back whole, one tap added. It starts from the zero
fill `Z`; read back whole after all its trips, the accumulator is the convolution. -/
theorem accumulated {κ : Kind} {sp : Space} (v : View sig κ sp S18432x64 .f32) {n : ℕ} (hn : n = 27)
    (pb : v.ty.Contents (Elt Ideal) → ℕ → List (View.Piece (Elt Ideal) S18432x64 .f32))
    (hpb : ∀ G, pb G 0 = []) (X : Vec Ideal S10x50x50x64 .f32) (W : Fin n → Vec Ideal S64x64 .f32) (off : Fin n → Fin 4 → ℕ)
    (inb : ∀ k, ∀ a, off k a + S8x48x48x64.size a ≤ S10x50x50x64.size a)
    (hoff : ∀ k, off k = ![k.val / 9, k.val / 3 % 3, k.val % 3, 0])
    (hs : ∀ G, ∀ k : Fin n, v.read (Elt Ideal) (v.writes (Elt Ideal) G (pb G (k.val + 1)))
      = tapStep X (v.read (Elt Ideal) (v.writes (Elt Ideal) G (pb G k.val))) (W k) (off k) (inb k))
    (Z : Vec Ideal S18432x64 .f32) (hZ : ∀ j, Z j = (0 : EReal)) (older : List (View.Piece (Elt Ideal) S18432x64 .f32))
    (inb0 inbZ : ∀ a, (![0, 0] : Fin 2 → ℕ) a + S18432x64.size a ≤ S18432x64.size a)
    (f : Fin 64 → Fin 8 → Fin 48 → Fin 48 → EReal) (hX : ∀ p, X p = at0 (f (p 3)) (p 0).val (p 1).val (p 2).val)
    (wt : Fin 64 → Fin 64 → Fin 3 → Fin 3 → Fin 3 → EReal)
    (hW : ∀ (k : Fin n) (t : Fin 27), t.val = k.val → ∀ (a b c : Fin 3) (i o : Fin 64), t.val = 9 * a.val + 3 * b.val + c.val →
      W k (ix2 i o) = wt o i a b c)
    (o : Fin 64) (d : Fin 8) (h w : Fin 48) :
    vol (v.readCov (pb (v.writes (Elt Ideal) v.junk (⟨Rect.unit (s := S18432x64) ![0, 0] S18432x64.size inbZ, Z⟩ :: older)) n
        ++ ⟨Rect.unit (s := S18432x64) ![0, 0] S18432x64.size inbZ, Z⟩ :: older)
        (Rect.unit (s := S18432x64) ![0, 0] S18432x64.size inb0).toLoadRect) o d h w = convAt f (wt o) d.val h.val w.val := by
  unfold View.readCov
  rw [View.readAt_full, View.writes_append]
  refine taps_value hn (fun k => v.read (Elt Ideal) (v.writes (Elt Ideal)
      (v.writes (Elt Ideal) v.junk (⟨Rect.unit (s := S18432x64) ![0, 0] S18432x64.size inbZ, Z⟩ :: older))
      (pb _ k))) X W off inb hoff ?_ (fun k => hs _ k) f hX wt (fun k a b c i o hk => hW k ⟨k.val, hn ▸ k.isLt⟩ rfl a b c i o hk) o d h w
  intro j
  dsimp only
  rw [hpb, View.writes_nil, View.read_writes_full]
  exact hZ j

/-- One tap's weights read from a stack of 27. -/
theorem weight3_apply (X : Vec Ideal S27x64x64 .f32) (off : Fin 3 → ℕ) (inb : ∀ a, off a + S1x64x64.size a ≤ S27x64x64.size a)
    (t : Fin 27) (hoff : off = ![t.val, 0, 0]) (i o : Fin 64) :
    shapeCast S64x64 (View.ld (Val := Elt Ideal) (e' := .f32) X (Rect.unit (s := S27x64x64) off S1x64x64.size inb) : Vec Ideal S1x64x64 .f32)
      shapeCasts_S1x64x64_S64x64 (ix2 i o) = X (ix3 t i o) := by
  subst hoff
  rw [shapeCast_apply _ _ _ (ix3 (0 : Fin 1) i o) (by rw [Shape.rowMajor_val_two, Shape.rowMajor_val_three]; show (0 * 64 + i.val) * 64 + o.val = i.val * 64 + o.val; omega)]
  refine congrArg X (funext fun a => Fin.ext ?_)
  match a with
  | ⟨0, _⟩ => show t.val + 1 * 0 = t.val; omega
  | ⟨1, _⟩ => show 0 + 1 * i.val = i.val; omega
  | ⟨2, _⟩ => show 0 + 1 * o.val = o.val; omega

/-- One tap's weights read from the stacks of two blocks. -/
theorem weight4_apply (X : Vec Ideal S2x27x64x64 .f32) (off : Fin 4 → ℕ) (inb : ∀ a, off a + S1x1x64x64.size a ≤ S2x27x64x64.size a)
    (q : Fin 2) (t : Fin 27) (hoff : off = ![q.val, t.val, 0, 0]) (i o : Fin 64) :
    shapeCast S64x64 (View.ld (Val := Elt Ideal) (e' := .f32) X (Rect.unit (s := S2x27x64x64) off S1x1x64x64.size inb) : Vec Ideal S1x1x64x64 .f32)
      shapeCasts_S1x1x64x64_S64x64 (ix2 i o) = X (ix4 q t i o) := by
  subst hoff
  rw [shapeCast_apply _ _ _ (ix4 (0 : Fin 1) (0 : Fin 1) i o) (by rw [Shape.rowMajor_val_two, Shape.rowMajor_val_four]; show ((0 * 1 + 0) * 64 + i.val) * 64 + o.val = i.val * 64 + o.val; omega)]
  refine congrArg X (funext fun a => Fin.ext ?_)
  match a with
  | ⟨0, _⟩ => show q.val + 1 * 0 = q.val; omega
  | ⟨1, _⟩ => show t.val + 1 * 0 = t.val; omega
  | ⟨2, _⟩ => show 0 + 1 * i.val = i.val; omega
  | ⟨3, _⟩ => show 0 + 1 * o.val = o.val; omega

variable (𝒱 : Variants) (c : Dev nD) (bd : Option 𝒱.V)
  (arg0 : Memref sig .tc .vmem S18432x64 .f32) (harg0 : arg0.IsWhole)
  (arg1 : Memref sig .tc .vmem S27x64x64 .f32) (harg1 : arg1.IsWhole)
  (arg2 : Memref sig .tc .vmem S1x64 .f32) (harg2 : arg2.IsWhole)
  (arg3 : Memref sig .tc .vmem S2x27x64x64 .f32) (harg3 : arg3.IsWhole)
  (arg4 : Memref sig .tc .vmem S2x1x64 .f32) (harg4 : arg4.IsWhole)
  (arg5 : Memref sig .tc .vmem S2x27x64x64 .f32) (harg5 : arg5.IsWhole)
  (arg6 : Memref sig .tc .vmem S2x1x64 .f32) (harg6 : arg6.IsWhole)
  (arg7 : Memref sig .tc .vmem S27x64x64 .f32) (harg7 : arg7.IsWhole)
  (arg8 : Memref sig .tc .vmem S1x64 .f32) (harg8 : arg8.IsWhole)
  (arg9 : Memref sig .tc .vmem S18432x64 .f32) (harg9 : arg9.IsWhole)
  (arg10 : Memref sig .tc .vmem S10x50x50x64 .f32) (harg10 : arg10.IsWhole)
  (arg11 : Memref sig .tc .vmem S18432x64 .f32) (harg11 : arg11.IsWhole)
  (arg12 : Memref sig .tc .vmem S18432x64 .f32) (harg12 : arg12.IsWhole)

theorem off1 : ∀ k : Fin k0_t1_loop.trips, k0_off1 k = ![k.val / 9, k.val / 3 % 3, k.val % 3, 0] := by decide +kernel

theorem off3 : ∀ k : Fin k0_t1_loop.trips, k0_off3 k = ![k.val, 0, 0] := by decide +kernel

/-- Loop 1: the accumulator after its trips. -/
theorem loop1 (X_w : BufTy.Contents (Elt Ideal) arg1.view.ty) (X_10 : BufTy.Contents (Elt Ideal) arg10.view.ty)
    (Z : Vec Ideal S18432x64 .f32) (hZ : ∀ j, Z j = (0 : EReal)) (older : List (View.Piece (Elt Ideal) S18432x64 .f32))
    (inb inbZ : ∀ a, (![0, 0] : Fin 2 → ℕ) a + S18432x64.size a ≤ S18432x64.size a)
    (f : Fin 64 → Fin 8 → Fin 48 → Fin 48 → EReal)
    (hX : ∀ p, arg10.view.read (Elt Ideal) X_10 p = at0 (f (p 3)) (p 0).val (p 1).val (p 2).val)
    (wt : Fin 64 → Fin 64 → Fin 3 → Fin 3 → Fin 3 → EReal)
    (hW : ∀ (t : Fin 27) (a b c : Fin 3) (i o : Fin 64), t.val = 9 * a.val + 3 * b.val + c.val →
      arg1.view.read (Elt Ideal) X_w (ix3 t i o) = wt o i a b c) (o : Fin 64) (d : Fin 8) (h w : Fin 48) :
    vol (arg11.view.readCov (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12  X_w X_10
        (arg11.view.writes (Elt Ideal) arg11.view.junk (⟨Rect.unit (s := S18432x64) ![0, 0] S18432x64.size inbZ, Z⟩ :: older))
        (Scf.trips k0_t1_loop.lb k0_t1_loop.ub k0_t1_loop.st) ++ ⟨Rect.unit (s := S18432x64) ![0, 0] S18432x64.size inbZ, Z⟩ :: older)
        (Rect.unit (s := S18432x64) ![0, 0] S18432x64.size inb).toLoadRect) o d h w = convAt f (wt o) d.val h.val w.val := by
  refine accumulated arg11.view (n := k0_t1_loop.trips) (by decide) (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12  X_w X_10) (fun G => rfl)
    (arg10.view.read (Elt Ideal) X_10) (fun k => shapeCast S64x64 (View.ld (Val := Elt Ideal) (e' := .f32) (arg1.view.read (Elt Ideal) X_w)
      (Rect.unit (k0_off3 k) S1x64x64.size (k0_off3_inb k)) : Vec Ideal S1x64x64 .f32) shapeCasts_S1x64x64_S64x64)
    k0_off1 k0_off1_inb off1 (fun G k => ?_) Z hZ older inb inbZ f hX wt
    (fun k t ht a b c i o hk => (weight3_apply _ _ _ t (by rw [ht]; exact off3 k) i o).trans (hW t a b c i o hk)) o d h w
  rw [pb_k0_t1_succ]
  unfold tripL_k0_t1 trip_k0_t1
  dsimp only
  refine (View.read_writes_full _ _ (k0_off2_inb k) _ _).trans ?_
  rw [View.readAt_full]
  unfold k0_pay5
  dsimp only
  rw [shapeCast_self]
  rfl

theorem off4 : ∀ k : Fin k0_t2_loop.trips, k0_off4 k = ![k.val / 9, k.val / 3 % 3, k.val % 3, 0] := by decide +kernel

theorem off6 : ∀ k : Fin k0_t2_loop.trips, k0_off6 k = ![0, k.val, 0, 0] := by decide +kernel

/-- Loop 2: the accumulator after its trips. -/
theorem loop2 (X_w : BufTy.Contents (Elt Ideal) arg3.view.ty) (X_10 : BufTy.Contents (Elt Ideal) arg10.view.ty)
    (Z : Vec Ideal S18432x64 .f32) (hZ : ∀ j, Z j = (0 : EReal)) (older : List (View.Piece (Elt Ideal) S18432x64 .f32))
    (inb inbZ : ∀ a, (![0, 0] : Fin 2 → ℕ) a + S18432x64.size a ≤ S18432x64.size a)
    (f : Fin 64 → Fin 8 → Fin 48 → Fin 48 → EReal)
    (hX : ∀ p, arg10.view.read (Elt Ideal) X_10 p = at0 (f (p 3)) (p 0).val (p 1).val (p 2).val)
    (wt : Fin 64 → Fin 64 → Fin 3 → Fin 3 → Fin 3 → EReal)
    (hW : ∀ (t : Fin 27) (a b c : Fin 3) (i o : Fin 64), t.val = 9 * a.val + 3 * b.val + c.val →
      arg3.view.read (Elt Ideal) X_w (ix4 (0 : Fin 2) t i o) = wt o i a b c) (o : Fin 64) (d : Fin 8) (h w : Fin 48) :
    vol (arg11.view.readCov (pb_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12  X_w X_10
        (arg11.view.writes (Elt Ideal) arg11.view.junk (⟨Rect.unit (s := S18432x64) ![0, 0] S18432x64.size inbZ, Z⟩ :: older))
        (Scf.trips k0_t2_loop.lb k0_t2_loop.ub k0_t2_loop.st) ++ ⟨Rect.unit (s := S18432x64) ![0, 0] S18432x64.size inbZ, Z⟩ :: older)
        (Rect.unit (s := S18432x64) ![0, 0] S18432x64.size inb).toLoadRect) o d h w = convAt f (wt o) d.val h.val w.val := by
  refine accumulated arg11.view (n := k0_t2_loop.trips) (by decide) (pb_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12  X_w X_10) (fun G => rfl)
    (arg10.view.read (Elt Ideal) X_10) (fun k => shapeCast S64x64 (View.ld (Val := Elt Ideal) (e' := .f32) (arg3.view.read (Elt Ideal) X_w)
      (Rect.unit (k0_off6 k) S1x1x64x64.size (k0_off6_inb k)) : Vec Ideal S1x1x64x64 .f32) shapeCasts_S1x1x64x64_S64x64)
    k0_off4 k0_off4_inb off4 (fun G k => ?_) Z hZ older inb inbZ f hX wt
    (fun k t ht a b c i o hk => (weight4_apply _ _ _ (0 : Fin 2) t (by rw [ht]; exact off6 k) i o).trans (hW t a b c i o hk)) o d h w
  rw [pb_k0_t2_succ]
  unfold tripL_k0_t2 trip_k0_t2
  dsimp only
  refine (View.read_writes_full _ _ (k0_off5_inb k) _ _).trans ?_
  rw [View.readAt_full]
  unfold k0_pay10
  dsimp only
  rw [shapeCast_self]
  rfl

theorem off7 : ∀ k : Fin k0_t3_loop.trips, k0_off7 k = ![k.val / 9, k.val / 3 % 3, k.val % 3, 0] := by decide +kernel

theorem off9 : ∀ k : Fin k0_t3_loop.trips, k0_off9 k = ![0, k.val, 0, 0] := by decide +kernel

/-- Loop 3: the accumulator after its trips. -/
theorem loop3 (v51 : FVec Ideal S8x48x48x64 .f32) (X_w : BufTy.Contents (Elt Ideal) arg5.view.ty) (X_10 : BufTy.Contents (Elt Ideal) arg10.view.ty)
    (Z : Vec Ideal S18432x64 .f32) (hZ : ∀ j, Z j = (0 : EReal)) (older : List (View.Piece (Elt Ideal) S18432x64 .f32))
    (inb inbZ : ∀ a, (![0, 0] : Fin 2 → ℕ) a + S18432x64.size a ≤ S18432x64.size a)
    (f : Fin 64 → Fin 8 → Fin 48 → Fin 48 → EReal)
    (hX : ∀ p, arg10.view.read (Elt Ideal) X_10 p = at0 (f (p 3)) (p 0).val (p 1).val (p 2).val)
    (wt : Fin 64 → Fin 64 → Fin 3 → Fin 3 → Fin 3 → EReal)
    (hW : ∀ (t : Fin 27) (a b c : Fin 3) (i o : Fin 64), t.val = 9 * a.val + 3 * b.val + c.val →
      arg5.view.read (Elt Ideal) X_w (ix4 (0 : Fin 2) t i o) = wt o i a b c) (o : Fin 64) (d : Fin 8) (h w : Fin 48) :
    vol (arg11.view.readCov (pb_k0_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 v51 X_w X_10
        (arg11.view.writes (Elt Ideal) arg11.view.junk (⟨Rect.unit (s := S18432x64) ![0, 0] S18432x64.size inbZ, Z⟩ :: older))
        (Scf.trips k0_t3_loop.lb k0_t3_loop.ub k0_t3_loop.st) ++ ⟨Rect.unit (s := S18432x64) ![0, 0] S18432x64.size inbZ, Z⟩ :: older)
        (Rect.unit (s := S18432x64) ![0, 0] S18432x64.size inb).toLoadRect) o d h w = convAt f (wt o) d.val h.val w.val := by
  refine accumulated arg11.view (n := k0_t3_loop.trips) (by decide) (pb_k0_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 v51 X_w X_10) (fun G => rfl)
    (arg10.view.read (Elt Ideal) X_10) (fun k => shapeCast S64x64 (View.ld (Val := Elt Ideal) (e' := .f32) (arg5.view.read (Elt Ideal) X_w)
      (Rect.unit (k0_off9 k) S1x1x64x64.size (k0_off9_inb k)) : Vec Ideal S1x1x64x64 .f32) shapeCasts_S1x1x64x64_S64x64)
    k0_off7 k0_off7_inb off7 (fun G k => ?_) Z hZ older inb inbZ f hX wt
    (fun k t ht a b c i o hk => (weight4_apply _ _ _ (0 : Fin 2) t (by rw [ht]; exact off9 k) i o).trans (hW t a b c i o hk)) o d h w
  rw [pb_k0_t3_succ]
  unfold tripL_k0_t3 trip_k0_t3
  dsimp only
  refine (View.read_writes_full _ _ (k0_off8_inb k) _ _).trans ?_
  rw [View.readAt_full]
  unfold k0_pay15
  dsimp only
  rw [shapeCast_self]
  rfl

theorem off10 : ∀ k : Fin k0_t4_loop.trips, k0_off10 k = ![k.val / 9, k.val / 3 % 3, k.val % 3, 0] := by decide +kernel

theorem off12 : ∀ k : Fin k0_t4_loop.trips, k0_off12 k = ![1, k.val, 0, 0] := by decide +kernel

/-- Loop 4: the accumulator after its trips. -/
theorem loop4 (v75 : FVec Ideal S8x48x48x64 .f32) (X_w : BufTy.Contents (Elt Ideal) arg3.view.ty) (X_10 : BufTy.Contents (Elt Ideal) arg10.view.ty)
    (Z : Vec Ideal S18432x64 .f32) (hZ : ∀ j, Z j = (0 : EReal)) (older : List (View.Piece (Elt Ideal) S18432x64 .f32))
    (inb inbZ : ∀ a, (![0, 0] : Fin 2 → ℕ) a + S18432x64.size a ≤ S18432x64.size a)
    (f : Fin 64 → Fin 8 → Fin 48 → Fin 48 → EReal)
    (hX : ∀ p, arg10.view.read (Elt Ideal) X_10 p = at0 (f (p 3)) (p 0).val (p 1).val (p 2).val)
    (wt : Fin 64 → Fin 64 → Fin 3 → Fin 3 → Fin 3 → EReal)
    (hW : ∀ (t : Fin 27) (a b c : Fin 3) (i o : Fin 64), t.val = 9 * a.val + 3 * b.val + c.val →
      arg3.view.read (Elt Ideal) X_w (ix4 (1 : Fin 2) t i o) = wt o i a b c) (o : Fin 64) (d : Fin 8) (h w : Fin 48) :
    vol (arg11.view.readCov (pb_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 v75 X_w X_10
        (arg11.view.writes (Elt Ideal) arg11.view.junk (⟨Rect.unit (s := S18432x64) ![0, 0] S18432x64.size inbZ, Z⟩ :: older))
        (Scf.trips k0_t4_loop.lb k0_t4_loop.ub k0_t4_loop.st) ++ ⟨Rect.unit (s := S18432x64) ![0, 0] S18432x64.size inbZ, Z⟩ :: older)
        (Rect.unit (s := S18432x64) ![0, 0] S18432x64.size inb).toLoadRect) o d h w = convAt f (wt o) d.val h.val w.val := by
  refine accumulated arg11.view (n := k0_t4_loop.trips) (by decide) (pb_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 v75 X_w X_10) (fun G => rfl)
    (arg10.view.read (Elt Ideal) X_10) (fun k => shapeCast S64x64 (View.ld (Val := Elt Ideal) (e' := .f32) (arg3.view.read (Elt Ideal) X_w)
      (Rect.unit (k0_off12 k) S1x1x64x64.size (k0_off12_inb k)) : Vec Ideal S1x1x64x64 .f32) shapeCasts_S1x1x64x64_S64x64)
    k0_off10 k0_off10_inb off10 (fun G k => ?_) Z hZ older inb inbZ f hX wt
    (fun k t ht a b c i o hk => (weight4_apply _ _ _ (1 : Fin 2) t (by rw [ht]; exact off12 k) i o).trans (hW t a b c i o hk)) o d h w
  rw [pb_k0_t4_succ]
  unfold tripL_k0_t4 trip_k0_t4
  dsimp only
  refine (View.read_writes_full _ _ (k0_off11_inb k) _ _).trans ?_
  rw [View.readAt_full]
  unfold k0_pay21
  dsimp only
  rw [shapeCast_self]
  rfl

theorem off13 : ∀ k : Fin k0_t5_loop.trips, k0_off13 k = ![k.val / 9, k.val / 3 % 3, k.val % 3, 0] := by decide +kernel

theorem off15 : ∀ k : Fin k0_t5_loop.trips, k0_off15 k = ![1, k.val, 0, 0] := by decide +kernel

/-- Loop 5: the accumulator after its trips. -/
theorem loop5 (c0_i32_107 c27_i32_108 : BitVec 32) (X_w : BufTy.Contents (Elt Ideal) arg5.view.ty) (X_10 : BufTy.Contents (Elt Ideal) arg10.view.ty)
    (Z : Vec Ideal S18432x64 .f32) (hZ : ∀ j, Z j = (0 : EReal)) (older : List (View.Piece (Elt Ideal) S18432x64 .f32))
    (inb inbZ : ∀ a, (![0, 0] : Fin 2 → ℕ) a + S18432x64.size a ≤ S18432x64.size a)
    (f : Fin 64 → Fin 8 → Fin 48 → Fin 48 → EReal)
    (hX : ∀ p, arg10.view.read (Elt Ideal) X_10 p = at0 (f (p 3)) (p 0).val (p 1).val (p 2).val)
    (wt : Fin 64 → Fin 64 → Fin 3 → Fin 3 → Fin 3 → EReal)
    (hW : ∀ (t : Fin 27) (a b c : Fin 3) (i o : Fin 64), t.val = 9 * a.val + 3 * b.val + c.val →
      arg5.view.read (Elt Ideal) X_w (ix4 (1 : Fin 2) t i o) = wt o i a b c) (o : Fin 64) (d : Fin 8) (h w : Fin 48) :
    vol (arg11.view.readCov (pb_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 c0_i32_107 c27_i32_108 X_w X_10
        (arg11.view.writes (Elt Ideal) arg11.view.junk (⟨Rect.unit (s := S18432x64) ![0, 0] S18432x64.size inbZ, Z⟩ :: older))
        (Scf.trips k0_t5_loop.lb k0_t5_loop.ub k0_t5_loop.st) ++ ⟨Rect.unit (s := S18432x64) ![0, 0] S18432x64.size inbZ, Z⟩ :: older)
        (Rect.unit (s := S18432x64) ![0, 0] S18432x64.size inb).toLoadRect) o d h w = convAt f (wt o) d.val h.val w.val := by
  refine accumulated arg11.view (n := k0_t5_loop.trips) (by decide) (pb_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 c0_i32_107 c27_i32_108 X_w X_10) (fun G => rfl)
    (arg10.view.read (Elt Ideal) X_10) (fun k => shapeCast S64x64 (View.ld (Val := Elt Ideal) (e' := .f32) (arg5.view.read (Elt Ideal) X_w)
      (Rect.unit (k0_off15 k) S1x1x64x64.size (k0_off15_inb k)) : Vec Ideal S1x1x64x64 .f32) shapeCasts_S1x1x64x64_S64x64)
    k0_off13 k0_off13_inb off13 (fun G k => ?_) Z hZ older inb inbZ f hX wt
    (fun k t ht a b c i o hk => (weight4_apply _ _ _ (1 : Fin 2) t (by rw [ht]; exact off15 k) i o).trans (hW t a b c i o hk)) o d h w
  rw [pb_k0_t5_succ]
  unfold tripL_k0_t5 trip_k0_t5
  dsimp only
  refine (View.read_writes_full _ _ (k0_off14_inb k) _ _).trans ?_
  rw [View.readAt_full]
  unfold k0_pay25
  dsimp only
  rw [shapeCast_self]
  rfl

theorem off16 : ∀ k : Fin k0_t6_loop.trips, k0_off16 k = ![k.val / 9, k.val / 3 % 3, k.val % 3, 0] := by decide +kernel

theorem off18 : ∀ k : Fin k0_t6_loop.trips, k0_off18 k = ![k.val, 0, 0] := by decide +kernel

/-- Loop 6: the accumulator after its trips. -/
theorem loop6 (c0_i32_107 c27_i32_108 : BitVec 32) (X_w : BufTy.Contents (Elt Ideal) arg7.view.ty) (X_10 : BufTy.Contents (Elt Ideal) arg10.view.ty)
    (Z : Vec Ideal S18432x64 .f32) (hZ : ∀ j, Z j = (0 : EReal)) (older : List (View.Piece (Elt Ideal) S18432x64 .f32))
    (inb inbZ : ∀ a, (![0, 0] : Fin 2 → ℕ) a + S18432x64.size a ≤ S18432x64.size a)
    (f : Fin 64 → Fin 8 → Fin 48 → Fin 48 → EReal)
    (hX : ∀ p, arg10.view.read (Elt Ideal) X_10 p = at0 (f (p 3)) (p 0).val (p 1).val (p 2).val)
    (wt : Fin 64 → Fin 64 → Fin 3 → Fin 3 → Fin 3 → EReal)
    (hW : ∀ (t : Fin 27) (a b c : Fin 3) (i o : Fin 64), t.val = 9 * a.val + 3 * b.val + c.val →
      arg7.view.read (Elt Ideal) X_w (ix3 t i o) = wt o i a b c) (o : Fin 64) (d : Fin 8) (h w : Fin 48) :
    vol (arg11.view.readCov (pb_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 c0_i32_107 c27_i32_108 X_w X_10
        (arg11.view.writes (Elt Ideal) arg11.view.junk (⟨Rect.unit (s := S18432x64) ![0, 0] S18432x64.size inbZ, Z⟩ :: older))
        (Scf.trips k0_t6_loop.lb k0_t6_loop.ub k0_t6_loop.st) ++ ⟨Rect.unit (s := S18432x64) ![0, 0] S18432x64.size inbZ, Z⟩ :: older)
        (Rect.unit (s := S18432x64) ![0, 0] S18432x64.size inb).toLoadRect) o d h w = convAt f (wt o) d.val h.val w.val := by
  refine accumulated arg11.view (n := k0_t6_loop.trips) (by decide) (pb_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 c0_i32_107 c27_i32_108 X_w X_10) (fun G => rfl)
    (arg10.view.read (Elt Ideal) X_10) (fun k => shapeCast S64x64 (View.ld (Val := Elt Ideal) (e' := .f32) (arg7.view.read (Elt Ideal) X_w)
      (Rect.unit (k0_off18 k) S1x64x64.size (k0_off18_inb k)) : Vec Ideal S1x64x64 .f32) shapeCasts_S1x64x64_S64x64)
    k0_off16 k0_off16_inb off16 (fun G k => ?_) Z hZ older inb inbZ f hX wt
    (fun k t ht a b c i o hk => (weight3_apply _ _ _ t (by rw [ht]; exact off18 k) i o).trans (hW t a b c i o hk)) o d h w
  rw [pb_k0_t6_succ]
  unfold tripL_k0_t6 trip_k0_t6
  dsimp only
  refine (View.read_writes_full _ _ (k0_off17_inb k) _ _).trans ?_
  rw [View.readAt_full]
  unfold k0_pay30
  dsimp only
  rw [shapeCast_self]
  rfl

end Cert.Taps

end
-- ==== Proof.Encoder.lean ====
/-
  The value of the encoder kernel: the rows it leaves are the formula `Conv.body` of the head's convolution.

  The lemmas before the theorem say what each step of the kernel between two loops computes: the bias added to what a loop
  left, the maximum with zero, the sum of a residual block. The theorem chains them with the six loops, from the last step
  back to the first.
-/
module

public import proofs.«01_k».proof.Proof.Stages
public import proofs.«01_k».proof.Proof.Loops
public import proofs.«01_k».proof.Proof.Gen.KernelIdeal.Frame
public import Idealize.ShloMosaic.Lib.Pipeline.Value

@[expose] public section

set_option maxRecDepth 200000

noncomputable section

namespace Cert.Taps

open Cert.KernelIdeal Cert.KernelIdeal.Gen Idealize.ShloMosaic Idealize.ShloMosaic.TcCoe Idealize.SL.Sem
open Cert.Conv

/-- A zero fill. -/
theorem fill_zero (s : Shape) (h : s.ShapeCasts s) (j : s.Idx) :
    shapeCast s (broadcast s (Scalar.ofBits (F := Ideal) .f32 0x00000000#32) : Vec Ideal s .f32) h j = (0 : EReal) := by
  rw [shapeCast_self]; exact Ideal.ofBits_zero_f32

/-- The bordered array holds the volume `f` in zeros, when the places stored inside it are those of `f`. -/
theorem bordered (v : Memref sig .tc .vmem S10x50x50x64 .f32) (g : v.view.ty.Contents (Elt Ideal))
    (y : Vec Ideal S8x48x48x64 .f32) (f : Vol 64) (hy : ∀ i d h w, y (ix4 d h w i) = f i d h w)
    {Z : Vec Ideal S10x50x50x64 .f32} (hZ : ∀ j, Z j = (0 : EReal))
    (inb : ∀ a, (![1, 1, 1, 0] : Fin 4 → ℕ) a + S8x48x48x64.size a ≤ S10x50x50x64.size a)
    (inb' : ∀ a, (![0, 0, 0, 0] : Fin 4 → ℕ) a + S10x50x50x64.size a ≤ S10x50x50x64.size a)
    (L : List (View.Piece (Elt Ideal) S10x50x50x64 .f32)) (p : S10x50x50x64.Idx) :
    v.view.read (Elt Ideal) (v.view.writes (Elt Ideal) g (⟨Rect.unit (s := S10x50x50x64) ![1, 1, 1, 0] S8x48x48x64.size inb, y⟩
        :: ⟨Rect.unit (s := S10x50x50x64) ![0, 0, 0, 0] S10x50x50x64.size inb', Z⟩ :: L)) p
      = at0 (f (p 3)) (p 0).val (p 1).val (p 2).val := by
  rw [bordered_apply v.view g y Z hZ inb inb' L p]
  exact congrArg (fun q => at0 q (p 0).val (p 1).val (p 2).val)
    (funext fun d => funext fun h => funext fun w => hy (p 3) d h w)

/-- A bias of 64 channels, spread over the rows. -/
theorem spread (b : Vec Ideal S1x64 .f32) (h : S1x64.Broadcasts S18432x64) (o : Fin 64) (r : Fin 18432) :
    broadcastTo S18432x64 b h (ix2 r o) = b (ix2 (0 : Fin 1) o) := by
  refine broadcastTo_apply b h (ix2 r o) (ix2 (0 : Fin 1) o) fun ax => ?_
  match ax with
  | ⟨0, _⟩ => rfl
  | ⟨1, _⟩ => rfl

/-- The bias of one residual block as one row. -/
theorem oneRow (b : Vec Ideal S1x1x64 .f32) (h : S1x1x64.ShapeCasts S1x64) (o : Fin 64) :
    shapeCast S1x64 b h (ix2 (0 : Fin 1) o) = b (ix3 (0 : Fin 1) (0 : Fin 1) o) := by
  refine shapeCast_apply _ _ _ _ ?_
  rw [Shape.rowMajor_val_two, Shape.rowMajor_val_three]
  rfl

/-- The head and the tail: the bias added to what the loop left. -/
theorem pay6_apply {A : Vec Ideal S18432x64 .f32} {b : Vec Ideal S1x64 .f32} {wt : Wts 64} {bs : Fin 64 → EReal} {f : Vol 64}
    (hA : ∀ o d h w, vol A o d h w = convAt f (wt o) d.val h.val w.val) (hb : ∀ o, b (ix2 (0 : Fin 1) o) = bs o)
    (o : Fin 64) (d : Fin 8) (h w : Fin 48) : vol (k0_pay6 A b) o d h w = layer wt bs f o d h w := by
  unfold k0_pay6
  dsimp only
  rw [shapeCast_self, shapeCast_self]
  show vol A o d h w + broadcastTo S18432x64 b broadcasts_S1x64_S18432x64 (ix2 (row d h w) o) = _
  rw [spread, hA, hb]
  rfl

/-- The last step: the head's output, what the tail's loop left, the tail's bias. -/
theorem pay1_apply {R A : Vec Ideal S18432x64 .f32} {b : Vec Ideal S1x64 .f32} {wt : Wts 64} {bs : Fin 64 → EReal} {r f : Vol 64}
    (hR : ∀ o d h w, vol R o d h w = r o d h w) (hA : ∀ o d h w, vol A o d h w = convAt f (wt o) d.val h.val w.val)
    (hb : ∀ o, b (ix2 (0 : Fin 1) o) = bs o) (o : Fin 64) (d : Fin 8) (h w : Fin 48) :
    vol (k0_pay1 R A b) o d h w = r o d h w + layer wt bs f o d h w := by
  unfold k0_pay1
  dsimp only
  rw [shapeCast_self]
  show vol R o d h w + vol A o d h w + broadcastTo S18432x64 b broadcasts_S1x64_S18432x64 (ix2 (row d h w) o) = _
  rw [spread, hR, hA, hb, add_assoc]
  rfl

/-- The sum at the end of a residual block. -/
theorem sum_apply {R A : Vec Ideal S18432x64 .f32} {b : Vec Ideal S1x1x64 .f32} {wt : Wts 64} {bs : Fin 64 → EReal} {r f : Vol 64}
    (hR : ∀ o d h w, vol R o d h w = r o d h w) (hA : ∀ o d h w, vol A o d h w = convAt f (wt o) d.val h.val w.val)
    (hb : ∀ o, b (ix3 (0 : Fin 1) (0 : Fin 1) o) = bs o) (o : Fin 64) (d : Fin 8) (h w : Fin 48) :
    vol (k0_pay16 R A b) o d h w = r o d h w + layer wt bs f o d h w := by
  unfold k0_pay16
  dsimp only
  rw [shapeCast_self]
  show vol R o d h w + vol A o d h w
    + broadcastTo S18432x64 (shapeCast S1x64 b shapeCasts_S1x1x64_S1x64) broadcasts_S1x64_S18432x64 (ix2 (row d h w) o) = _
  rw [spread, oneRow, hR, hA, hb, add_assoc]
  rfl

/-- The rows as places, stored unchanged. -/
theorem places_of {A : Vec Ideal S18432x64 .f32} {f : Vol 64} (hA : ∀ o d h w, vol A o d h w = f o d h w)
    (i : Fin 64) (d : Fin 8) (h w : Fin 48) : k0_pay3 A (ix4 d h w i) = f i d h w := by
  unfold k0_pay3
  rw [shapeCast_self, shapeCast_self, places_apply]
  exact hA i d h w

/-- The inner convolution of a residual block, its bias added and negative values replaced by zero, as places. -/
theorem relu_of {A : Vec Ideal S18432x64 .f32} {b : Vec Ideal S1x1x64 .f32} {wt : Wts 64} {bs : Fin 64 → EReal} {f : Vol 64}
    (hA : ∀ o d h w, vol A o d h w = convAt f (wt o) d.val h.val w.val)
    (hb : ∀ o, b (ix3 (0 : Fin 1) (0 : Fin 1) o) = bs o) (i : Fin 64) (d : Fin 8) (h w : Fin 48) :
    k0_pay13 (k0_pay12 A b) (ix4 d h w i) = relu (layer wt bs f) i d h w := by
  unfold k0_pay13 k0_pay12
  dsimp only
  rw [shapeCast_self, places_apply]
  show max (vol A i d h w
    + broadcastTo S18432x64 (shapeCast S1x64 b shapeCasts_S1x1x64_S1x64) broadcasts_S1x64_S18432x64 (ix2 (row d h w) i))
      (Scalar.ofBits (F := Ideal) .f32 0x00000000#32) = _
  rw [spread, oneRow, hA, hb]
  exact congrArg (max _) Ideal.ofBits_zero_f32

/-- An array stored whole and read whole is what was stored. -/
theorem kept {v : Memref sig .tc .vmem S18432x64 .f32} {x : Vec Ideal S18432x64 .f32} {f : Vol 64}
    (hx : ∀ o d h w, vol x o d h w = f o d h w) (L : List (View.Piece (Elt Ideal) S18432x64 .f32))
    (inb inb' : ∀ a, (![0, 0] : Fin 2 → ℕ) a + S18432x64.size a ≤ S18432x64.size a) (o : Fin 64) (d : Fin 8) (h w : Fin 48) :
    vol (v.view.readCov (⟨Rect.unit (s := S18432x64) ![0, 0] S18432x64.size inb, x⟩ :: L)
      (Rect.unit (s := S18432x64) ![0, 0] S18432x64.size inb').toLoadRect) o d h w = f o d h w := by
  rw [View.readCov_full]
  exact hx o d h w

/-- The bias of block `q`, read from the biases of two blocks. -/
theorem oneBias (v : Memref sig .tc .vmem S2x1x64 .f32) (g : v.view.ty.Contents (Elt Ideal)) (q : Fin 2) (o : Fin 64)
    (inb : ∀ a, (![q.val, 0, 0] : Fin 3 → ℕ) a + S1x1x64.size a ≤ S2x1x64.size a) :
    View.readAt (Elt Ideal) v.view (Rect.unit (s := S2x1x64) ![q.val, 0, 0] S1x1x64.size inb).toLoadRect g
      (ix3 (0 : Fin 1) (0 : Fin 1) o) = v.view.read (Elt Ideal) g (ix3 q (0 : Fin 1) o) := by
  refine congrArg (v.view.read (Elt Ideal) g) (funext fun a => Fin.ext ?_)
  match a with
  | ⟨0, _⟩ => show q.val + 1 * 0 = q.val; omega
  | ⟨1, _⟩ => rfl
  | ⟨2, _⟩ => show 0 + 1 * o.val = o.val; omega

/-- What the encoder kernel leaves in its output. -/
theorem encoder_value (c : Dev nD)
  (arg0 : Memref sig .tc .vmem S18432x64 .f32) (harg0 : arg0.IsWhole)
  (arg1 : Memref sig .tc .vmem S27x64x64 .f32) (harg1 : arg1.IsWhole)
  (arg2 : Memref sig .tc .vmem S1x64 .f32) (harg2 : arg2.IsWhole)
  (arg3 : Memref sig .tc .vmem S2x27x64x64 .f32) (harg3 : arg3.IsWhole)
  (arg4 : Memref sig .tc .vmem S2x1x64 .f32) (harg4 : arg4.IsWhole)
  (arg5 : Memref sig .tc .vmem S2x27x64x64 .f32) (harg5 : arg5.IsWhole)
  (arg6 : Memref sig .tc .vmem S2x1x64 .f32) (harg6 : arg6.IsWhole)
  (arg7 : Memref sig .tc .vmem S27x64x64 .f32) (harg7 : arg7.IsWhole)
  (arg8 : Memref sig .tc .vmem S1x64 .f32) (harg8 : arg8.IsWhole)
  (arg9 : Memref sig .tc .vmem S18432x64 .f32) (harg9 : arg9.IsWhole)
  (arg10 : Memref sig .tc .vmem S10x50x50x64 .f32) (harg10 : arg10.IsWhole)
  (arg11 : Memref sig .tc .vmem S18432x64 .f32) (harg11 : arg11.IsWhole)
  (arg12 : Memref sig .tc .vmem S18432x64 .f32) (harg12 : arg12.IsWhole)
    (x0 : Vec Ideal S18432x64 .f32) (x1 : Vec Ideal S27x64x64 .f32) (x2 : Vec Ideal S1x64 .f32) (x3 : Vec Ideal S2x27x64x64 .f32)
    (x4 : Vec Ideal S2x1x64 .f32) (x5 : Vec Ideal S2x27x64x64 .f32) (x6 : Vec Ideal S2x1x64 .f32) (x7 : Vec Ideal S27x64x64 .f32)
    (x8 : Vec Ideal S1x64 .f32)
    (hw : Wts 64) (hb : Fin 64 → EReal) (w1 : Fin 2 → Wts 64) (b1 : Fin 2 → Fin 64 → EReal) (w2 : Fin 2 → Wts 64)
    (b2 : Fin 2 → Fin 64 → EReal) (tw : Wts 64) (tb : Fin 64 → EReal)
    (h1 : ∀ (t : Fin 27) (a b c : Fin 3) (i o : Fin 64), t.val = 9 * a.val + 3 * b.val + c.val → x1 (ix3 t i o) = hw o i a b c)
    (h2 : ∀ o, x2 (ix2 (0 : Fin 1) o) = hb o)
    (h3 : ∀ (q : Fin 2) (t : Fin 27) (a b c : Fin 3) (i o : Fin 64), t.val = 9 * a.val + 3 * b.val + c.val → x3 (ix4 q t i o) = w1 q o i a b c)
    (h4 : ∀ q o, x4 (ix3 q (0 : Fin 1) o) = b1 q o)
    (h5 : ∀ (q : Fin 2) (t : Fin 27) (a b c : Fin 3) (i o : Fin 64), t.val = 9 * a.val + 3 * b.val + c.val → x5 (ix4 q t i o) = w2 q o i a b c)
    (h6 : ∀ q o, x6 (ix3 q (0 : Fin 1) o) = b2 q o)
    (h7 : ∀ (t : Fin 27) (a b c : Fin 3) (i o : Fin 64), t.val = 9 * a.val + 3 * b.val + c.val → x7 (ix3 t i o) = tw o i a b c)
    (h8 : ∀ o, x8 (ix2 (0 : Fin 1) o) = tb o) (o : Fin 64) (d : Fin 8) (h w : Fin 48) :
    vol (out0_A_9 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8) o d h w = body w1 b1 w2 b2 tw tb (layer hw hb (vol x0)) o d h w := by
  unfold out0_A_9
  unfold kernelRun0_A
  dsimp only
  sl_unfold_words
  -- the weights and the biases as the kernel reads them
  have H1 : ∀ (t : Fin 27) (a b c : Fin 3) (i o : Fin 64), t.val = 9 * a.val + 3 * b.val + c.val →
      arg1.view.read (Elt Ideal) (harg1.unread x1) (ix3 t i o) = hw o i a b c := by rw [harg1.read_unread]; exact h1
  have H3 : ∀ (q : Fin 2) (t : Fin 27) (a b c : Fin 3) (i o : Fin 64), t.val = 9 * a.val + 3 * b.val + c.val →
      arg3.view.read (Elt Ideal) (harg3.unread x3) (ix4 q t i o) = w1 q o i a b c := by rw [harg3.read_unread]; exact h3
  have H5 : ∀ (q : Fin 2) (t : Fin 27) (a b c : Fin 3) (i o : Fin 64), t.val = 9 * a.val + 3 * b.val + c.val →
      arg5.view.read (Elt Ideal) (harg5.unread x5) (ix4 q t i o) = w2 q o i a b c := by rw [harg5.read_unread]; exact h5
  have H7 : ∀ (t : Fin 27) (a b c : Fin 3) (i o : Fin 64), t.val = 9 * a.val + 3 * b.val + c.val →
      arg7.view.read (Elt Ideal) (harg7.unread x7) (ix3 t i o) = tw o i a b c := by rw [harg7.read_unread]; exact h7
  have H2 : ∀ o, View.readAt (Elt Ideal) arg2.view (Rect.unit (s := S1x64) ![0, 0] S1x64.size inb_S1x64_S1x64_0_0).toLoadRect
      (harg2.unread x2) (ix2 (0 : Fin 1) o) = hb o := by rw [View.readAt_full, harg2.read_unread]; exact h2
  have H8 : ∀ o, View.readAt (Elt Ideal) arg8.view (Rect.unit (s := S1x64) ![0, 0] S1x64.size inb_S1x64_S1x64_0_0).toLoadRect
      (harg8.unread x8) (ix2 (0 : Fin 1) o) = tb o := by rw [View.readAt_full, harg8.read_unread]; exact h8
  have H4 : ∀ (q : Fin 2) (o : Fin 64) (inb : ∀ a, (![q.val, 0, 0] : Fin 3 → ℕ) a + S1x1x64.size a ≤ S2x1x64.size a),
      View.readAt (Elt Ideal) arg4.view (Rect.unit (s := S2x1x64) ![q.val, 0, 0] S1x1x64.size inb).toLoadRect
      (harg4.unread x4) (ix3 (0 : Fin 1) (0 : Fin 1) o) = b1 q o := fun q o inb =>
    (oneBias _ _ q o inb).trans ((congrFun (harg4.read_unread x4) _).trans (h4 q o))
  have H6 : ∀ (q : Fin 2) (o : Fin 64) (inb : ∀ a, (![q.val, 0, 0] : Fin 3 → ℕ) a + S1x1x64.size a ≤ S2x1x64.size a),
      View.readAt (Elt Ideal) arg6.view (Rect.unit (s := S2x1x64) ![q.val, 0, 0] S1x1x64.size inb).toLoadRect
      (harg6.unread x6) (ix3 (0 : Fin 1) (0 : Fin 1) o) = b2 q o := fun q o inb =>
    (oneBias _ _ q o inb).trans ((congrFun (harg6.read_unread x6) _).trans (h6 q o))
  refine (congrFun (View.read_writes_full VO0_9 VO0_9.junk _ _ _) _).trans ?_
  refine pay1_apply (wt := tw) (bs := tb) (kept ?head _ _ _) (loop6 _ _ _ _ _ _ _ _ _ _ _ _ _ _ _ _ _ _ _ _ _ _ _ _ _ _ _ _ _ _ _ _ _ _ (fill_zero _ _) _ _ _ _ (bordered _ _ _ _ (places_of (kept ?block _ _ _)) (fill_zero _ _) _ _ _) _ H7) H8 o d h w
  case head =>
    exact pay6_apply (wt := hw) (bs := hb) (loop1 _ _ _ _ _ _ _ _ _ _ _ _ _ _ _ _ _ _ _ _ _ _ _ _ _ _ _ _ _ _ _ _ (fill_zero _ _) _ _ _ _ (bordered _ _ _ _ (places_of (f := vol x0) (fun o d h w => congrArg (fun y => vol y o d h w) ((View.readAt_full _ _ _).trans (harg0.read_unread x0)))) (fill_zero _ _) _ _ _) _ H1) H2
  case block =>
    refine sum_apply (wt := w2 1) (bs := b2 1) (kept ?r1 _ _ _) (loop5 _ _ _ _ _ _ _ _ _ _ _ _ _ _ _ _ _ _ _ _ _ _ _ _ _ _ _ _ _ _ _ _ _ _ (fill_zero _ _) _ _ _ _ (bordered _ _ _ _ (relu_of (wt := w1 1) (bs := b1 1) (loop4 _ _ _ _ _ _ _ _ _ _ _ _ _ _ _ _ _ _ _ _ _ _ _ _ _ _ _ _ _ _ _ _ _ (fill_zero _ _) _ _ _ _ (bordered _ _ _ _ (places_of (kept ?r1 _ _ _)) (fill_zero _ _) _ _ _) _ (H3 1)) (fun o => H4 1 o _)) (fill_zero _ _) _ _ _) _ (H5 1)) (fun o => H6 1 o _)
    refine sum_apply (wt := w2 0) (bs := b2 0) (kept ?r0 _ _ _) (loop3 _ _ _ _ _ _ _ _ _ _ _ _ _ _ _ _ _ _ _ _ _ _ _ _ _ _ _ _ _ _ _ _ _ (fill_zero _ _) _ _ _ _ (bordered _ _ _ _ (relu_of (wt := w1 0) (bs := b1 0) (loop2 _ _ _ _ _ _ _ _ _ _ _ _ _ _ _ _ _ _ _ _ _ _ _ _ _ _ _ _ _ _ _ _ (fill_zero _ _) _ _ _ _ (bordered _ _ _ _ (places_of (kept ?r0 _ _ _)) (fill_zero _ _) _ _ _) _ (H3 0)) (fun o => H4 0 o _)) (fill_zero _ _) _ _ _) _ (H5 0)) (fun o => H6 0 o _)
    refine kept ?head _ _ _
    exact pay6_apply (wt := hw) (bs := hb) (loop1 _ _ _ _ _ _ _ _ _ _ _ _ _ _ _ _ _ _ _ _ _ _ _ _ _ _ _ _ _ _ _ _ (fill_zero _ _) _ _ _ _ (bordered _ _ _ _ (places_of (f := vol x0) (fun o d h w => congrArg (fun y => vol y o d h w) ((View.readAt_full _ _ _).trans (harg0.read_unread x0)))) (fill_zero _ _) _ _ _) _ H1) H2

end Cert.Taps

end
-- ==== Proof.Prep.lean ====
/-
  The arrays the encoder call is given, as functions of the program's arguments: the volume as a column beside 63
  columns of zeros, each convolution's weights with the taps first, and the biases with a unit axis.
-/
module

public import proofs.«01_k».proof.Proof.Gen.KernelIdeal.Frame
public import Idealize.ShloMosaic.PureOps.Ideal.Laws
public import Idealize.ShloMosaic.Lib.Pointwise
public import Idealize.ShloMosaic.Lib.Pipeline.Value
public import Idealize.ShloMosaic.Lib.StableHlo.RunRead
public import Idealize.ShloMosaic.Lib.ValueIdxRank6

@[expose] public section

set_option maxRecDepth 16384

noncomputable section

namespace Cert.Prep

open Cert.KernelIdeal Cert.KernelIdeal.Gen Idealize.ShloMosaic Idealize.ShloMosaic.TcCoe Idealize.SL.Sem

variable {F : FTy → Type} [FloatOps F]

/-- The volume's places as rows, channel 0 the volume and the other 63 zero. -/
def rows1 (x : Vec F S1x1x8x48x48 .f32) : Vec F S18432x64 .f32 :=
  concatenate S18432x64 1
    [⟨S18432x1, shapeCast S18432x1 (shapeCast S8x48x48 x shapeCasts_S1x1x8x48x48_S8x48x48) shapeCasts_S8x48x48_S18432x1⟩,
     ⟨S18432x63, broadcastInDim S18432x63 ![] bcast_S_S18432x63 (constant (F := F) S_ .f32 0x00000000#32)⟩]
    concatenates_S18432x1_S18432x63_S18432x64_d1

/-- The head's weights by tap, its one input channel followed by 63 of zero weight. -/
def taps1 (w : Vec F S64x1x3x3x3 .f32) : Vec F S27x64x64 .f32 :=
  concatenate S27x64x64 1
    [⟨S27x1x64, shapeCast S27x1x64 (transpose S3x3x3x1x64 [2, 3, 4, 1, 0] w transposes_S64x1x3x3x3_S3x3x3x1x64_2_3_4_1_0) shapeCasts_S3x3x3x1x64_S27x1x64⟩,
     ⟨S27x63x64, broadcastInDim S27x63x64 ![] bcast_S_S27x63x64 (constant (F := F) S_ .f32 0x00000000#32)⟩]
    concatenates_S27x1x64_S27x63x64_S27x64x64_d1

/-- A convolution's weights by tap. -/
def taps (w : Vec F S64x64x3x3x3 .f32) : Vec F S27x64x64 .f32 :=
  shapeCast S27x64x64 (transpose S3x3x3x64x64 [2, 3, 4, 1, 0] w transposes_S64x64x3x3x3_S3x3x3x64x64_2_3_4_1_0) shapeCasts_S3x3x3x64x64_S27x64x64

/-- The weights of the two blocks by tap. -/
def taps2 (w : Vec F S2x64x64x3x3x3 .f32) : Vec F S2x27x64x64 .f32 :=
  concatenate S2x27x64x64 0
    [⟨S1x27x64x64, broadcastInDim S1x27x64x64 ![1, 2, 3] bcast_S27x64x64_S1x27x64x64_1_2_3 (taps (shapeCast S64x64x3x3x3
        (extractStridedSlice S1x64x64x3x3x3 ![0, 0, 0, 0, 0, 0] w slices_S2x64x64x3x3x3_S1x64x64x3x3x3_0_0_0_0_0_0) shapeCasts_S1x64x64x3x3x3_S64x64x3x3x3))⟩,
     ⟨S1x27x64x64, broadcastInDim S1x27x64x64 ![1, 2, 3] bcast_S27x64x64_S1x27x64x64_1_2_3 (taps (shapeCast S64x64x3x3x3
        (extractStridedSlice S1x64x64x3x3x3 ![1, 0, 0, 0, 0, 0] w slices_S2x64x64x3x3x3_S1x64x64x3x3x3_1_0_0_0_0_0) shapeCasts_S1x64x64x3x3x3_S64x64x3x3x3))⟩]
    concatenates_S1x27x64x64_S1x27x64x64_S2x27x64x64_d0

/-- One bias as a row. -/
def bias1 (b : Vec F S64 .f32) : Vec F S1x64 .f32 := shapeCast S1x64 b shapeCasts_S64_S1x64

/-- The two blocks' biases as rows. -/
def bias2 (b : Vec F S2x64 .f32) : Vec F S2x1x64 .f32 := shapeCast S2x1x64 b shapeCasts_S2x64_S2x1x64

section Contents

variable (m : (ℓ : Loc nD τ sig) → Buf (Elt F) ℓ) (c : Dev nD)

theorem in0 : V m c main_v3 = rows1 (m ((c.tc : Thread nD τ).loc main_arg0)) := by
  show StableHlo.after hostOps0 _ (Proc.devRef .tc main_v3) = _
  unfold hostOps0
  after_reads_simp
  repeat (dsimp only [Matrix.cons_val]; after_reads_simp)
  rfl

theorem in1 : V m c main_v7 = taps1 (m ((c.tc : Thread nD τ).loc main_arg1)) := by
  show StableHlo.after hostOps0 _ (Proc.devRef .tc main_v7) = _
  unfold hostOps0
  after_reads_simp
  repeat (dsimp only [Matrix.cons_val]; after_reads_simp)
  rfl

theorem in2 : V m c main_v9 = bias1 (m ((c.tc : Thread nD τ).loc main_arg2)) := by
  show StableHlo.after hostOps0 _ (Proc.devRef .tc main_v9) = _
  unfold hostOps0
  after_reads_simp
  repeat (dsimp only [Matrix.cons_val]; after_reads_simp)
  rfl

theorem in3 : V m c main_v20 = taps2 (m ((c.tc : Thread nD τ).loc main_arg3)) := by
  show StableHlo.after hostOps0 _ (Proc.devRef .tc main_v20) = _
  unfold hostOps0
  after_reads_simp
  repeat (dsimp only [Matrix.cons_val]; after_reads_simp)
  rfl

theorem in4 : V m c main_v21 = bias2 (m ((c.tc : Thread nD τ).loc main_arg4)) := by
  show StableHlo.after hostOps0 _ (Proc.devRef .tc main_v21) = _
  unfold hostOps0
  after_reads_simp
  repeat (dsimp only [Matrix.cons_val]; after_reads_simp)
  rfl

theorem in5 : V m c main_v32 = taps2 (m ((c.tc : Thread nD τ).loc main_arg5)) := by
  show StableHlo.after hostOps0 _ (Proc.devRef .tc main_v32) = _
  unfold hostOps0
  after_reads_simp
  repeat (dsimp only [Matrix.cons_val]; after_reads_simp)
  rfl

theorem in6 : V m c main_v33 = bias2 (m ((c.tc : Thread nD τ).loc main_arg6)) := by
  show StableHlo.after hostOps0 _ (Proc.devRef .tc main_v33) = _
  unfold hostOps0
  after_reads_simp
  repeat (dsimp only [Matrix.cons_val]; after_reads_simp)
  rfl

theorem in7 : V m c main_v35 = taps (m ((c.tc : Thread nD τ).loc main_arg7)) := by
  show StableHlo.after hostOps0 _ (Proc.devRef .tc main_v35) = _
  unfold hostOps0
  after_reads_simp
  repeat (dsimp only [Matrix.cons_val]; after_reads_simp)
  rfl

theorem in8 : V m c main_v36 = bias1 (m ((c.tc : Thread nD τ).loc main_arg8)) := by
  show StableHlo.after hostOps0 _ (Proc.devRef .tc main_v36) = _
  unfold hostOps0
  after_reads_simp
  repeat (dsimp only [Matrix.cons_val]; after_reads_simp)
  rfl

/-- The mask that the host code makes before the call. -/
def ones : Vec F S1x4096 .f32 := broadcastInDim S1x4096 ![] bcast_S_S1x4096 (constant S_ .f32 0x3F800000#32)

theorem mask : V m c main_v8 = ones := by
  show StableHlo.after hostOps0 _ (Proc.devRef .tc main_v8) = _
  unfold hostOps0
  after_reads_simp
  rfl

end Contents

/-- A row of the volume, channel 0. -/
theorem rows1_zero (x : Vec Ideal S1x1x8x48x48 .f32) (r : Fin 18432) (d : Fin 8) (h w : Fin 48)
    (hr : r.val = (d.val * 48 + h.val) * 48 + w.val) : rows1 x (ix2 r (0 : Fin 64)) = x (ix5 (0 : Fin 1) (0 : Fin 1) d h w) := by
  refine (concatenate_pair_apply_left (t := S18432x64) (s₁ := S18432x1) (s₂ := S18432x63) 1 _ _ _ _ rfl (ix2 r (0 : Fin 1)) fun b => ?_).trans ?_
  · match b with
    | ⟨0, _⟩ => rfl
    | ⟨1, _⟩ => rfl
  · refine (shapeCast_apply _ _ _ (ix3 d h w) ?_).trans (shapeCast_apply _ _ _ _ ?_)
    · rw [Shape.rowMajor_val_two, Shape.rowMajor_val_three]
      show (d.val * 48 + h.val) * 48 + w.val = r.val * 1 + 0
      omega
    · rw [Shape.rowMajor_val_five, Shape.rowMajor_val_three]
      show (((0 * 1 + 0) * 8 + d.val) * 48 + h.val) * 48 + w.val = (d.val * 48 + h.val) * 48 + w.val
      omega

/-- A row of the volume, the other channels. -/
theorem rows1_other (x : Vec Ideal S1x1x8x48x48 .f32) (r : Fin 18432) (i : Fin 64) (hi : i ≠ 0) : rows1 x (ix2 r i) = 0 := by
  have hp : 0 < i.val := Nat.pos_of_ne_zero fun h => hi (Fin.ext h)
  refine (concatenate_pair_apply_right (t := S18432x64) (s₁ := S18432x1) (s₂ := S18432x63) 1 _ _ _ _ rfl rfl (ix2 r (⟨i.val - 1, by omega⟩ : Fin 63)) (fun b hb => ?_) ?_).trans ?_
  · match b with
    | ⟨0, _⟩ => rfl
    | ⟨1, _⟩ => exact absurd rfl hb
  · show i.val - 1 + 1 = i.val
    omega
  · exact Ideal.ofBits_zero_f32

/-- A tap's place among the 27 in the transposed weights. -/
theorem taps_apply (w : Vec Ideal S64x64x3x3x3 .f32) (t : Fin 27) (a b c : Fin 3) (i o : Fin 64)
    (ht : t.val = 9 * a.val + 3 * b.val + c.val) : taps w (ix3 t i o) = w (ix5 o i a b c) := by
  refine (shapeCast_apply _ _ _ (ix5 a b c i o) ?_).trans (transpose_apply _ _ _ _ (ix5 o i a b c) fun e => ?_)
  · rw [Shape.rowMajor_val_five, Shape.rowMajor_val_three]
    show (((a.val * 3 + b.val) * 3 + c.val) * 64 + i.val) * 64 + o.val = (t.val * 64 + i.val) * 64 + o.val
    omega
  · match e with
    | ⟨0, _⟩ => rfl
    | ⟨1, _⟩ => rfl
    | ⟨2, _⟩ => rfl
    | ⟨3, _⟩ => rfl
    | ⟨4, _⟩ => rfl

/-- The head's weights, input channel 0. -/
theorem taps1_zero (w : Vec Ideal S64x1x3x3x3 .f32) (t : Fin 27) (a b c : Fin 3) (o : Fin 64)
    (ht : t.val = 9 * a.val + 3 * b.val + c.val) : taps1 w (ix3 t (0 : Fin 64) o) = w (ix5 o (0 : Fin 1) a b c) := by
  refine (concatenate_pair_apply_left (t := S27x64x64) (s₁ := S27x1x64) (s₂ := S27x63x64) 1 _ _ _ _ rfl (ix3 t (0 : Fin 1) o) fun b => ?_).trans ?_
  · match b with
    | ⟨0, _⟩ => rfl
    | ⟨1, _⟩ => rfl
    | ⟨2, _⟩ => rfl
  · refine (shapeCast_apply _ _ _ (ix5 a b c (0 : Fin 1) o) ?_).trans (transpose_apply _ _ _ _ (ix5 o (0 : Fin 1) a b c) fun e => ?_)
    · rw [Shape.rowMajor_val_five, Shape.rowMajor_val_three]
      show (((a.val * 3 + b.val) * 3 + c.val) * 1 + 0) * 64 + o.val = (t.val * 1 + 0) * 64 + o.val
      omega
    · match e with
      | ⟨0, _⟩ => rfl
      | ⟨1, _⟩ => rfl
      | ⟨2, _⟩ => rfl
      | ⟨3, _⟩ => rfl
      | ⟨4, _⟩ => rfl

/-- The head's weights, the other input channels. -/
theorem taps1_other (w : Vec Ideal S64x1x3x3x3 .f32) (t : Fin 27) (i o : Fin 64) (hi : i ≠ 0) : taps1 w (ix3 t i o) = 0 := by
  have hp : 0 < i.val := Nat.pos_of_ne_zero fun h => hi (Fin.ext h)
  refine (concatenate_pair_apply_right (t := S27x64x64) (s₁ := S27x1x64) (s₂ := S27x63x64) 1 _ _ _ _ rfl rfl (ix3 t (⟨i.val - 1, by omega⟩ : Fin 63) o) (fun b hb => ?_) ?_).trans ?_
  · match b with
    | ⟨0, _⟩ => rfl
    | ⟨1, _⟩ => exact absurd rfl hb
    | ⟨2, _⟩ => rfl
  · show i.val - 1 + 1 = i.val
    omega
  · exact Ideal.ofBits_zero_f32

/-- One block's part of the blocks' weights. -/
theorem part_apply (w : Vec Ideal S2x64x64x3x3x3 .f32) (off : Fin 6 → ℕ) (q : Fin 2) (hoff : off = ![q.val, 0, 0, 0, 0, 0])
    (hs : S2x64x64x3x3x3.Slices off S1x64x64x3x3x3) (t : Fin 27) (a b c : Fin 3) (i o : Fin 64)
    (ht : t.val = 9 * a.val + 3 * b.val + c.val) :
    broadcastInDim S1x27x64x64 ![1, 2, 3] bcast_S27x64x64_S1x27x64x64_1_2_3 (taps (F := Ideal) (shapeCast S64x64x3x3x3
        (extractStridedSlice S1x64x64x3x3x3 off w hs) shapeCasts_S1x64x64x3x3x3_S64x64x3x3x3)) (ix4 (0 : Fin 1) t i o)
      = w (ix6 q o i a b c) := by
  subst hoff
  refine (broadcastInDim_apply _ _ _ _ (ix3 t i o) fun e => ?_).trans ((taps_apply _ t a b c i o ht).trans
    ((shapeCast_apply _ _ _ (ix6 (0 : Fin 1) o i a b c) ?_).trans
      (extractStridedSlice_apply _ _ _ _ (ix6 q o i a b c) fun e => ?_)))
  · match e with
    | ⟨0, _⟩ => rfl
    | ⟨1, _⟩ => rfl
    | ⟨2, _⟩ => rfl
  · rw [Shape.rowMajor_val_five, Shape.rowMajor_val_six]
    show ((((0 * 64 + o.val) * 64 + i.val) * 3 + a.val) * 3 + b.val) * 3 + c.val = (((o.val * 64 + i.val) * 3 + a.val) * 3 + b.val) * 3 + c.val
    omega
  · match e with
    | ⟨0, _⟩ => show q.val = q.val + 0; omega
    | ⟨1, _⟩ => show o.val = 0 + o.val; omega
    | ⟨2, _⟩ => show i.val = 0 + i.val; omega
    | ⟨3, _⟩ => show a.val = 0 + a.val; omega
    | ⟨4, _⟩ => show b.val = 0 + b.val; omega
    | ⟨5, _⟩ => show c.val = 0 + c.val; omega

/-- The weights of a block at a tap. -/
theorem taps2_apply (w : Vec Ideal S2x64x64x3x3x3 .f32) (q : Fin 2) (t : Fin 27) (a b c : Fin 3) (i o : Fin 64)
    (ht : t.val = 9 * a.val + 3 * b.val + c.val) : taps2 w (ix4 q t i o) = w (ix6 q o i a b c) := by
  match q with
  | ⟨0, hq⟩ =>
    refine (concatenate_pair_apply_left (t := S2x27x64x64) (s₁ := S1x27x64x64) (s₂ := S1x27x64x64) 0 _ _ concatenates_S1x27x64x64_S1x27x64x64_S2x27x64x64_d0 (ix4 (⟨0, hq⟩ : Fin 2) t i o) rfl (ix4 (0 : Fin 1) t i o) fun b => ?_).trans (part_apply w _ 0 rfl _ t a b c i o ht)
    match b with
    | ⟨0, _⟩ => rfl
    | ⟨1, _⟩ => rfl
    | ⟨2, _⟩ => rfl
    | ⟨3, _⟩ => rfl
  | ⟨1, hq⟩ =>
    refine (concatenate_pair_apply_right (t := S2x27x64x64) (s₁ := S1x27x64x64) (s₂ := S1x27x64x64) 0 _ _ concatenates_S1x27x64x64_S1x27x64x64_S2x27x64x64_d0 (ix4 (⟨1, hq⟩ : Fin 2) t i o) rfl rfl (ix4 (0 : Fin 1) t i o) (fun b hb => ?_) rfl).trans (part_apply w _ 1 rfl _ t a b c i o ht)
    match b with
    | ⟨0, _⟩ => exact absurd rfl hb
    | ⟨1, _⟩ => rfl
    | ⟨2, _⟩ => rfl
    | ⟨3, _⟩ => rfl

theorem bias1_apply (b : Vec Ideal S64 .f32) (o : Fin 64) : bias1 b (ix2 (0 : Fin 1) o) = b (ix1 o) := by
  refine shapeCast_apply _ _ _ _ ?_
  rw [Shape.rowMajor_val_one, Shape.rowMajor_val_two]
  show o.val = 0 * 64 + o.val
  omega

theorem bias2_apply (b : Vec Ideal S2x64 .f32) (q : Fin 2) (o : Fin 64) : bias2 b (ix3 q (0 : Fin 1) o) = b (ix2 q o) := by
  refine shapeCast_apply _ _ _ _ ?_
  rw [Shape.rowMajor_val_two, Shape.rowMajor_val_three]
  show q.val * 64 + o.val = (q.val * 1 + 0) * 64 + o.val
  omega

end Cert.Prep

end
-- ==== Proof.Words.lean ====
/-
  Integer words and whole-array windows: what a window that is its whole array reads, and the ranges of clipped words that
  keep the second call's reads inside the padded feature volume.
-/
module

public import Idealize.ShloMosaic.Lib.Pipeline.FrameBody
public import Idealize.ShloMosaic.Lib.Pipeline.Value
public import Idealize.ShloMosaic.Lib.Pointwise

@[expose] public section

noncomputable section

namespace Cert.Words

open Idealize.ShloMosaic Idealize.ShloMosaic.TcCoe Idealize.SL.Sem

/-- A window that is its whole array: an index of its block is the same index of the array. -/
theorem emb_whole {sig : RefSig} {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (j : s.Idx) :
    ((Pipeline.Window.whole arr isOut sync stage sem harr hstage).rect t).emb j = j := by
  funext a
  apply Fin.ext
  refine (Pipeline.Window.rect_emb_val _ t j a rfl).trans ?_
  show 0 * s.size a + (j a).val = (j a).val
  omega

/-- A load from a whole buffer that holds `x` gives the words of `x` under the load's rectangle. -/
theorem load_whole {Val : EltTy → Type} {sig : RefSig} {κ : Kind} {sp : Space} {s : Shape} {e : EltTy}
    {b : Memref sig κ sp s e} (h : b.IsWhole) (r : LoadRect s) (x : s.Idx → Val e) (i : r.shape.Idx) :
    b.view.readAt Val r (h.unread x) i = x (r.idx i) := by
  rw [View.readAt_apply, Memref.IsWhole.read_unread]

/-- The signed word lies between two integers. -/
def Within (lo hi : Int) (w : BitVec 32) : Prop := lo ≤ w.toInt ∧ w.toInt ≤ hi

/-- A word raised to `L`, then lowered to `H`, lies between them. -/
theorem within_clip (L H x : BitVec 32) (h : L.toInt ≤ H.toInt) :
    Within L.toInt H.toInt (IntOp.minsi H (IntOp.maxsi L x)) := by
  unfold Within IntOp.minsi IntOp.maxsi
  simp only [BitVec.slt, decide_eq_true_eq]
  split <;> split <;> omega

/-- A word of a non-negative range, read unsigned. -/
theorem toNat_le {n : Nat} {w : BitVec 32} (h : Within 0 n w) : w.toNat ≤ n := by
  obtain ⟨h0, h1⟩ := h
  rw [BitVec.toInt_eq_toNat_cond] at h0 h1
  split at h0 <;> omega

/-- A word raised to zero, read unsigned. -/
theorem max_zero_le {n : Nat} {w : BitVec 32} (h : w.toInt ≤ n) : (IntOp.maxsi w 0#32).toNat ≤ n := by
  unfold IntOp.maxsi
  split
  · rename_i hw
    simp only [BitVec.slt, decide_eq_true_eq, BitVec.toInt_zero] at hw
    exact toNat_le ⟨by omega, h⟩
  · exact Nat.zero_le _

/-- Three less than a word of the range 0 … 46, raised to zero, is at most 43. -/
theorem sub_three_le {w : BitVec 32} (h : Within 0 46 w) : (IntOp.maxsi (w - 3#32) 0#32).toNat ≤ 43 := by
  have hw : w.toNat ≤ 46 := toNat_le h
  refine max_zero_le ?_
  rw [BitVec.toInt_sub]
  have e : w.toInt = w.toNat := by
    rw [BitVec.toInt_eq_toNat_cond]
    split <;> omega
  rw [e, show (3#32).toInt = 3 from rfl, Int.bmod_def]
  split <;> omega

/-- The two-tap corner of a query stays inside the padded volume. -/
theorem corner_inb {d h w : BitVec 32} (hd : Within 0 7 d) (hh : Within 0 49 h) (hw : Within 0 49 w) (a : Fin 4) :
    (![d.toNat, h.toNat, w.toNat, 0] : Fin 4 → Nat) a + (⟨4, ![2, 2, 2, 64]⟩ : Shape).size a
      ≤ (⟨4, ![9, 51, 51, 64]⟩ : Shape).size a := by
  have h0 : d.toNat ≤ 7 := toNat_le hd
  have h1 : h.toNat ≤ 49 := toNat_le hh
  have h2 : w.toNat ≤ 49 := toNat_le hw
  fin_cases a
  · show d.toNat + 2 ≤ 9; omega
  · show h.toNat + 2 ≤ 51; omega
  · show w.toNat + 2 ≤ 51; omega
  · show 0 + 64 ≤ 64; omega

/-- The attention window of a point stays inside the padded volume. -/
theorem window_inb {d h w : BitVec 32} (hd : Within (-1) 6 d) (hh : Within 0 46 h) (hw : Within 0 46 w) (a : Fin 4) :
    (![(IntOp.maxsi d 0#32).toNat, (IntOp.maxsi (h - 3#32) 0#32).toNat, (IntOp.maxsi (w - 3#32) 0#32).toNat, 0] : Fin 4 → Nat) a
        + (⟨4, ![3, 8, 8, 64]⟩ : Shape).size a
      ≤ (⟨4, ![9, 51, 51, 64]⟩ : Shape).size a := by
  have h0 : (IntOp.maxsi d 0#32).toNat ≤ 6 := max_zero_le hd.2
  have h1 := sub_three_le hh
  have h2 := sub_three_le hw
  fin_cases a
  · show (IntOp.maxsi d 0#32).toNat + 3 ≤ 9; omega
  · show (IntOp.maxsi (h - 3#32) 0#32).toNat + 8 ≤ 51; omega
  · show (IntOp.maxsi (w - 3#32) 0#32).toNat + 8 ≤ 51; omega
  · show 0 + 64 ≤ 64; omega

end Cert.Words

end
-- ==== Proof.Final.lean ====
/-
  The encoder call's result array is the reference's features of the program's arguments.
-/
module

public import proofs.«01_k».proof.Proof.RefValue
public import proofs.«01_k».proof.Proof.Encoder
public import proofs.«01_k».proof.Proof.Prep
public import proofs.«01_k».proof.Proof.Words
public import proofs.«01_k».proof.Proof.Gen.KernelIdeal.Value

@[expose] public section

set_option maxRecDepth 16384

noncomputable section

namespace Cert.Final

open Cert.KernelIdeal Cert.KernelIdeal.Gen Cert.KernelIdeal.Value Idealize.ShloMosaic Idealize.ShloMosaic.TcCoe Idealize.SL.Sem
open Cert.Conv Cert.Words

section Blocks

variable {F : FTy → Type} [FloatOps F] (m : (ℓ : Loc nD τ sig) → Buf (Elt F) ℓ) (c : Dev nD) (t : Fin cfg0.N)

theorem block0 : iblk m c 0 t = Prep.rows1 (m ((c.tc : Thread nD τ).loc main_arg0)) :=
  (funext fun j => congrArg (V m c main_v3) (emb_whole _ _ _ _ _ (Memref.isWhole_whole _) (hstage0_0 0) t j)).trans (Prep.in0 m c)

theorem block1 : iblk m c 1 t = Prep.taps1 (m ((c.tc : Thread nD τ).loc main_arg1)) :=
  (funext fun j => congrArg (V m c main_v7) (emb_whole _ _ _ _ _ (Memref.isWhole_whole _) (hstage0_1 0) t j)).trans (Prep.in1 m c)

theorem block2 : iblk m c 2 t = Prep.bias1 (m ((c.tc : Thread nD τ).loc main_arg2)) :=
  (funext fun j => congrArg (V m c main_v9) (emb_whole _ _ _ _ _ (Memref.isWhole_whole _) (hstage0_2 0) t j)).trans (Prep.in2 m c)

theorem block3 : iblk m c 3 t = Prep.taps2 (m ((c.tc : Thread nD τ).loc main_arg3)) :=
  (funext fun j => congrArg (V m c main_v20) (emb_whole _ _ _ _ _ (Memref.isWhole_whole _) (hstage0_3 0) t j)).trans (Prep.in3 m c)

theorem block4 : iblk m c 4 t = Prep.bias2 (m ((c.tc : Thread nD τ).loc main_arg4)) :=
  (funext fun j => congrArg (V m c main_v21) (emb_whole _ _ _ _ _ (Memref.isWhole_whole _) (hstage0_4 0) t j)).trans (Prep.in4 m c)

theorem block5 : iblk m c 5 t = Prep.taps2 (m ((c.tc : Thread nD τ).loc main_arg5)) :=
  (funext fun j => congrArg (V m c main_v32) (emb_whole _ _ _ _ _ (Memref.isWhole_whole _) (hstage0_5 0) t j)).trans (Prep.in5 m c)

theorem block6 : iblk m c 6 t = Prep.bias2 (m ((c.tc : Thread nD τ).loc main_arg6)) :=
  (funext fun j => congrArg (V m c main_v33) (emb_whole _ _ _ _ _ (Memref.isWhole_whole _) (hstage0_6 0) t j)).trans (Prep.in6 m c)

theorem block7 : iblk m c 7 t = Prep.taps (m ((c.tc : Thread nD τ).loc main_arg7)) :=
  (funext fun j => congrArg (V m c main_v35) (emb_whole _ _ _ _ _ (Memref.isWhole_whole _) (hstage0_7 0) t j)).trans (Prep.in7 m c)

theorem block8 : iblk m c 8 t = Prep.bias1 (m ((c.tc : Thread nD τ).loc main_arg8)) :=
  (funext fun j => congrArg (V m c main_v36) (emb_whole _ _ _ _ _ (Memref.isWhole_whole _) (hstage0_8 0) t j)).trans (Prep.in8 m c)

/-- An index of the output's block is the same index of the output. -/
theorem emb9 (j : S18432x64.Idx) : ((cfg0.win 9).blk t).view.emb j = j :=
  emb_whole _ _ _ _ _ (Memref.isWhole_whole _) (hstage0_9 0) t j

end Blocks

/-- The head's convolution of the volume beside 63 volumes of zeros, with zero weights for them, is the convolution of the
    one volume. -/
theorem head_layer (x : Vec Ideal S1x1x8x48x48 .f32) (hw : Vec Ideal S64x1x3x3x3 .f32) (hb : Vec Ideal S64 .f32) :
    layer (fun o i a b c => if i = 0 then hw (ix5 o (0 : Fin 1) a b c) else 0) (RefLine.bias hb) (Taps.vol (Prep.rows1 x))
      = layer (RefLine.wts1 hw) (RefLine.bias hb) (RefLine.input x) := by
  funext o d h w
  refine congrArg (· + _) (convAt_one _ _ _ _ (fun d h w => ?_) (fun i hi d h w => ?_) (fun a b c => ?_) _ _ _)
  · exact Prep.rows1_zero x _ d h w rfl
  · exact Prep.rows1_other x _ i hi
  · exact if_pos rfl

/-- What the encoder kernel leaves in its output, given the prepared arguments: the reference's features. -/
theorem encoder_feat (c : Dev nD)
    (r0 : Memref sig .tc .vmem S18432x64 .f32) (hr0 : r0.IsWhole) (r1 : Memref sig .tc .vmem S27x64x64 .f32) (hr1 : r1.IsWhole) (r2 : Memref sig .tc .vmem S1x64 .f32) (hr2 : r2.IsWhole) (r3 : Memref sig .tc .vmem S2x27x64x64 .f32) (hr3 : r3.IsWhole) (r4 : Memref sig .tc .vmem S2x1x64 .f32) (hr4 : r4.IsWhole) (r5 : Memref sig .tc .vmem S2x27x64x64 .f32) (hr5 : r5.IsWhole) (r6 : Memref sig .tc .vmem S2x1x64 .f32) (hr6 : r6.IsWhole) (r7 : Memref sig .tc .vmem S27x64x64 .f32) (hr7 : r7.IsWhole) (r8 : Memref sig .tc .vmem S1x64 .f32) (hr8 : r8.IsWhole) (r9 : Memref sig .tc .vmem S18432x64 .f32) (hr9 : r9.IsWhole) (r10 : Memref sig .tc .vmem S10x50x50x64 .f32) (hr10 : r10.IsWhole) (r11 : Memref sig .tc .vmem S18432x64 .f32) (hr11 : r11.IsWhole) (r12 : Memref sig .tc .vmem S18432x64 .f32) (hr12 : r12.IsWhole)
    (x : Vec Ideal S1x1x8x48x48 .f32) (hw : Vec Ideal S64x1x3x3x3 .f32) (hb : Vec Ideal S64 .f32)
    (w1 : Vec Ideal S2x64x64x3x3x3 .f32) (b1 : Vec Ideal S2x64 .f32) (w2 : Vec Ideal S2x64x64x3x3x3 .f32) (b2 : Vec Ideal S2x64 .f32)
    (tw : Vec Ideal S64x64x3x3x3 .f32) (tb : Vec Ideal S64 .f32) :
    Gen.out0_A_9 (F := Ideal) c r0 hr0 r1 hr1 r2 hr2 r3 hr3 r4 hr4 r5 hr5 r6 hr6 r7 hr7 r8 hr8 r9 hr9 r10 hr10 r11 hr11 r12 hr12
        (Prep.rows1 x) (Prep.taps1 hw) (Prep.bias1 hb) (Prep.taps2 w1) (Prep.bias2 b1) (Prep.taps2 w2) (Prep.bias2 b2) (Prep.taps tw) (Prep.bias1 tb)
      = RefLine.feat x hw hb w1 b1 w2 b2 tw tb := by
  funext j
  obtain ⟨r, o, rfl⟩ : ∃ (r : Fin 18432) (o : Fin 64), j = ix2 r o := ⟨j 0, j 1, (ix2_eta j).symm⟩
  have hr := r.isLt
  obtain ⟨d, h, w, rfl⟩ : ∃ (d : Fin 8) (h w : Fin 48), r = Taps.row d h w :=
    ⟨⟨r.val / 2304, by omega⟩, ⟨r.val / 48 % 48, by omega⟩, ⟨r.val % 48, by omega⟩, Fin.ext (by
      show r.val = (r.val / 2304 * 48 + r.val / 48 % 48) * 48 + r.val % 48
      omega)⟩
  refine (Taps.encoder_value c r0 hr0 r1 hr1 r2 hr2 r3 hr3 r4 hr4 r5 hr5 r6 hr6 r7 hr7 r8 hr8 r9 hr9 r10 hr10 r11 hr11 r12 hr12 _ _ _ _ _ _ _ _ _
    (fun o i a b c => if i = 0 then hw (ix5 o (0 : Fin 1) a b c) else 0) (RefLine.bias hb) (RefLine.wtsOf w1) (RefLine.biasOf b1)
    (RefLine.wtsOf w2) (RefLine.biasOf b2) (RefLine.wts tw) (RefLine.bias tb)
    (fun t a b c i o ht => ?_) (Prep.bias1_apply hb) (Prep.taps2_apply w1) (Prep.bias2_apply b1) (Prep.taps2_apply w2)
    (Prep.bias2_apply b2) (Prep.taps_apply tw) (Prep.bias1_apply tb) o d h w).trans ?_
  · split_ifs with hi
    · subst hi
      exact Prep.taps1_zero hw t a b c o ht
    · exact Prep.taps1_other hw t i o hi
  · rw [head_layer]
    exact (RefLine.feat_apply x hw hb w1 b1 w2 b2 tw tb _ o d h w rfl).symm

variable (m : (ℓ : Loc nD τ sig) → Buf (Elt Ideal) ℓ) (ρ : Dev nD → PrngReg)

/-- The features of a device's arguments. -/
def result (c : Dev nD) : Vec Ideal S18432x64 .f32 :=
  RefLine.feat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- What the one grid point writes back is its block of the features. -/
theorem flushed_result (c : Dev nD) (t : Fin cfg0.N) :
    (dats m 0 c).flushed 9 t = ((cfg0.win 9).blk t).view.read (Elt Ideal) (result m c) := by
  rw [flushed9_A, block0, block1, block2, block3, block4, block5, block6, block7, block8, encoder_feat]
  funext j
  exact congrArg (result m c) (emb9 t j).symm

/-- The output array after the run. -/
theorem arr_result (c : Dev nD) : (dats m 0 c).arrAt 9 cfg0.N = result m c :=
  (dats m 0 c).arrAt_eq_of_cover 9 (result m c) (fun t _ => flushed_result m c t) fun i =>
    ⟨t0_0, flush0_9 _, by
      have h := ((cfg0.win 9).blk t0_0).view.emb_mem_set i
      rwa [emb9] at h⟩

/-- After the run the mask, which no window stages, is as the host code made it. -/
theorem kept_mask (r : PUnit × MemSt nD τ sig (Elt Ideal)) (h : Pipeline.FramePost cfgs (dats m) 0 (V m) r) (c : Dev nD) :
    r.2.mem ((c.tc : Thread nD τ).loc main_v8) = Prep.ones :=
  ((h c).2 main_v8 (Pipeline.mem_restRefs_of main_v8 (by decide) (by decide))).trans (Prep.mask m c)

/-- The run of the program: its results are the features and the mask, its arguments are as they were. -/
theorem run : θ_run defs (onTc (τ := τ) (main (F := Ideal))) ⟨m, fun _ => 0, ρ⟩ fun r => ∀ c : Dev nD,
      r.2.mem ((c.tc : Thread nD τ).loc main_v37) = result m c
      ∧ r.2.mem ((c.tc : Thread nD τ).loc main_v8) = Prep.ones
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(post9 m r h c).trans (arr_result m c), kept_mask m r h c,
      kept_main_arg0 m r h c, kept_main_arg1 m r h c, kept_main_arg2 m r h c, kept_main_arg3 m r h c, kept_main_arg4 m r h c,
      kept_main_arg5 m r h c, kept_main_arg6 m r h c, kept_main_arg7 m r h c, kept_main_arg8 m r h c,
      kept_main_arg9 m r h c⟩) (run_main m ρ)

end Cert.Final

end
-- ==== Proof.BoundsIdeal.lean ====
/-
  The side conditions of the second call (its ideal program): every word it reads offsets from has been clipped by the
  program, so every corner and every window it reads lies inside the padded feature volume, whatever the arguments.
-/
module

public import proofs.«01_k».proof.Proof.Gen.Kernel2Ideal.Frame.Runs
public import proofs.«01_k».proof.Proof.Words
public import Idealize.ShloMosaic.Lib.StableHlo.RunRead

@[expose] public section

set_option maxRecDepth 16384

noncomputable section

namespace Cert.Kernel2Ideal.Bounds

open Cert.Kernel2Ideal Cert.Kernel2Ideal.Gen Cert.Words Idealize.ShloMosaic Idealize.ShloMosaic.TcCoe Idealize.SL.Sem

variable {F : FTy → Type} [FloatOps F] (m : (ℓ : Loc nD τ sig) → Buf (Elt F) ℓ) (c : Dev nD) (t : Fin cfg0.N)

/-- The words `x` clipped to the range of two words. -/
def clipped (lo hi : BitVec 32) (x : Vec F S4096 .i32) : Vec F S4096 .i32 := fun j => IntOp.minsi hi (IntOp.maxsi lo (x j))

theorem array32 : ∃ x, V m c main_v32 = clipped (F := F) 0#32 7#32 x := by
  refine ⟨V m c main_v31, ?_⟩
  show StableHlo.after _ _ (Proc.devRef .tc main_v32) = clipped 0#32 7#32 (StableHlo.after _ _ (Proc.devRef .tc main_v31))
  simp only [List.flatten_cons, List.flatten_nil, List.append_nil]
  after_reads_simp
  rfl

theorem array34 : ∃ x, V m c main_v34 = clipped (F := F) 0#32 49#32 x := by
  refine ⟨V m c main_v33, ?_⟩
  show StableHlo.after _ _ (Proc.devRef .tc main_v34) = clipped 0#32 49#32 (StableHlo.after _ _ (Proc.devRef .tc main_v33))
  simp only [List.flatten_cons, List.flatten_nil, List.append_nil]
  after_reads_simp
  rfl

theorem array36 : ∃ x, V m c main_v36 = clipped (F := F) 0#32 49#32 x := by
  refine ⟨V m c main_v35, ?_⟩
  show StableHlo.after _ _ (Proc.devRef .tc main_v36) = clipped 0#32 49#32 (StableHlo.after _ _ (Proc.devRef .tc main_v35))
  simp only [List.flatten_cons, List.flatten_nil, List.append_nil]
  after_reads_simp
  rfl

theorem array71 : ∃ x, V m c main_v71 = clipped (F := F) 4294967295#32 6#32 x := by
  refine ⟨V m c main_v70, ?_⟩
  show StableHlo.after _ _ (Proc.devRef .tc main_v71) = clipped 4294967295#32 6#32 (StableHlo.after _ _ (Proc.devRef .tc main_v70))
  simp only [List.flatten_cons, List.flatten_nil, List.append_nil]
  after_reads_simp
  rfl

theorem array73 : ∃ x, V m c main_v73 = clipped (F := F) 0#32 46#32 x := by
  refine ⟨V m c main_v72, ?_⟩
  show StableHlo.after _ _ (Proc.devRef .tc main_v73) = clipped 0#32 46#32 (StableHlo.after _ _ (Proc.devRef .tc main_v72))
  simp only [List.flatten_cons, List.flatten_nil, List.append_nil]
  after_reads_simp
  rfl

theorem array75 : ∃ x, V m c main_v75 = clipped (F := F) 0#32 46#32 x := by
  refine ⟨V m c main_v74, ?_⟩
  show StableHlo.after _ _ (Proc.devRef .tc main_v75) = clipped 0#32 46#32 (StableHlo.after _ _ (Proc.devRef .tc main_v74))
  simp only [List.flatten_cons, List.flatten_nil, List.append_nil]
  after_reads_simp
  rfl

/-- Every word of a clipped array is in the range. -/
theorem within_of_clipped {lo hi : BitVec 32} {A : Vec F S4096 .i32} (h : lo.toInt ≤ hi.toInt) (hA : ∃ x, A = clipped (F := F) lo hi x)
    (j : S4096.Idx) : Within lo.toInt hi.toInt (A j) := by
  obtain ⟨x, rfl⟩ := hA
  exact within_clip lo hi (x j) h

theorem block1 : iblk m c 1 t = V m c main_v32 :=
  funext fun j => congrArg (V m c main_v32) (emb_whole (Memref.whole main_v32) _ _ _ _ (Memref.isWhole_whole _) (hstage0_1 0) t j)

theorem word1 (r : LoadRect S4096) (i : r.shape.Idx) :
    Within 0 7 ((ms0_1 t).view.readAt (Elt F) r ((hs0_1 t).unread (iblk m c 1 t)) i) := by
  rw [load_whole]
  rw [block1]
  exact within_of_clipped (lo := 0#32) (hi := 7#32) (by decide) (array32 m c) (r.idx i)

theorem block2 : iblk m c 2 t = V m c main_v34 :=
  funext fun j => congrArg (V m c main_v34) (emb_whole (Memref.whole main_v34) _ _ _ _ (Memref.isWhole_whole _) (hstage0_2 0) t j)

theorem word2 (r : LoadRect S4096) (i : r.shape.Idx) :
    Within 0 49 ((ms0_2 t).view.readAt (Elt F) r ((hs0_2 t).unread (iblk m c 2 t)) i) := by
  rw [load_whole]
  rw [block2]
  exact within_of_clipped (lo := 0#32) (hi := 49#32) (by decide) (array34 m c) (r.idx i)

theorem block3 : iblk m c 3 t = V m c main_v36 :=
  funext fun j => congrArg (V m c main_v36) (emb_whole (Memref.whole main_v36) _ _ _ _ (Memref.isWhole_whole _) (hstage0_3 0) t j)

theorem word3 (r : LoadRect S4096) (i : r.shape.Idx) :
    Within 0 49 ((ms0_3 t).view.readAt (Elt F) r ((hs0_3 t).unread (iblk m c 3 t)) i) := by
  rw [load_whole]
  rw [block3]
  exact within_of_clipped (lo := 0#32) (hi := 49#32) (by decide) (array36 m c) (r.idx i)

theorem block4 : iblk m c 4 t = V m c main_v71 :=
  funext fun j => congrArg (V m c main_v71) (emb_whole (Memref.whole main_v71) _ _ _ _ (Memref.isWhole_whole _) (hstage0_4 0) t j)

theorem word4 (r : LoadRect S4096) (i : r.shape.Idx) :
    Within (-1) 6 ((ms0_4 t).view.readAt (Elt F) r ((hs0_4 t).unread (iblk m c 4 t)) i) := by
  rw [load_whole]
  rw [block4]
  exact within_of_clipped (lo := 4294967295#32) (hi := 6#32) (by decide) (array71 m c) (r.idx i)

theorem block5 : iblk m c 5 t = V m c main_v73 :=
  funext fun j => congrArg (V m c main_v73) (emb_whole (Memref.whole main_v73) _ _ _ _ (Memref.isWhole_whole _) (hstage0_5 0) t j)

theorem word5 (r : LoadRect S4096) (i : r.shape.Idx) :
    Within 0 46 ((ms0_5 t).view.readAt (Elt F) r ((hs0_5 t).unread (iblk m c 5 t)) i) := by
  rw [load_whole]
  rw [block5]
  exact within_of_clipped (lo := 0#32) (hi := 46#32) (by decide) (array73 m c) (r.idx i)

theorem block6 : iblk m c 6 t = V m c main_v75 :=
  funext fun j => congrArg (V m c main_v75) (emb_whole (Memref.whole main_v75) _ _ _ _ (Memref.isWhole_whole _) (hstage0_6 0) t j)

theorem word6 (r : LoadRect S4096) (i : r.shape.Idx) :
    Within 0 46 ((ms0_6 t).view.readAt (Elt F) r ((hs0_6 t).unread (iblk m c 6 t)) i) := by
  rw [load_whole]
  rw [block6]
  exact within_of_clipped (lo := 0#32) (hi := 46#32) (by decide) (array75 m c) (r.idx i)

/-- The first loop's condition at any query. -/
theorem corner (o : Fin 1 → Nat) (ho : ∀ a, o a + S1.size a ≤ S4096.size a) (i i' i'' : (Rect.unit (s := S4096) o S1.size ho).toLoadRect.shape.Idx) :
    k0_chk1 ((ms0_1 t).view.readAt (Elt F) (Rect.unit (s := S4096) o S1.size ho).toLoadRect ((hs0_1 t).unread (iblk m c 1 t)) i)
      ((ms0_2 t).view.readAt (Elt F) (Rect.unit (s := S4096) o S1.size ho).toLoadRect ((hs0_2 t).unread (iblk m c 2 t)) i')
      ((ms0_3 t).view.readAt (Elt F) (Rect.unit (s := S4096) o S1.size ho).toLoadRect ((hs0_3 t).unread (iblk m c 3 t)) i'') :=
  corner_inb (word1 m c t _ i) (word2 m c t _ i') (word3 m c t _ i'')

/-- The second loop's condition at any point. -/
theorem window (o : Fin 1 → Nat) (ho : ∀ a, o a + S1.size a ≤ S4096.size a) (i i' i'' : (Rect.unit (s := S4096) o S1.size ho).toLoadRect.shape.Idx) :
    k0_chk17 ((ms0_4 t).view.readAt (Elt F) (Rect.unit (s := S4096) o S1.size ho).toLoadRect ((hs0_4 t).unread (iblk m c 4 t)) i)
      ((ms0_5 t).view.readAt (Elt F) (Rect.unit (s := S4096) o S1.size ho).toLoadRect ((hs0_5 t).unread (iblk m c 5 t)) i')
      ((ms0_6 t).view.readAt (Elt F) (Rect.unit (s := S4096) o S1.size ho).toLoadRect ((hs0_6 t).unread (iblk m c 6 t)) i'') :=
  window_inb (word4 m c t _ i) (word5 m c t _ i') (word6 m c t _ i'')

set_option maxHeartbeats 8000000 in
/-- The body's side conditions hold at every launch. -/
theorem hyps : Hyps m := by
  apply Hyps.of
  iterate 16 exact fun c t k hk => corner m c t _ _ _ _ _
  iterate 32 exact fun c t k hk => window m c t _ _ _ _ _

end Cert.Kernel2Ideal.Bounds

end
-- ==== Proof.SampleRunIdeal.lean ====
/-
  The second call (its ideal program): its body run on whole buffers, under the side conditions of the words it reads, with what its
  stores leave in the output as the witness. Adapted from the run generated with the program; the side conditions are
  said by one definition.
-/
module

public import proofs.«01_k».proof.Proof.Gen.Kernel2Ideal.Frame.Runs

@[expose] public section

set_option maxRecDepth 16384

noncomputable section

namespace Cert.Kernel2Ideal.Sample

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition `chk` at the words three arrays have at every row of a loop. -/
abbrev Inside {n : ℕ} (chk : Elt F .i32 → Elt F .i32 → Elt F .i32 → Prop) (off : Fin n → Fin 1 → ℕ)
    (inb : ∀ (k : Fin n) (a : Fin 1), off k a + S1.size a ≤ S4096.size a)
    (a : Memref sig .tc .smem S4096 .i32) (x : BufTy.Contents (Elt F) a.view.ty)
    (b : Memref sig .tc .smem S4096 .i32) (y : BufTy.Contents (Elt F) b.view.ty)
    (d : Memref sig .tc .smem S4096 .i32) (z : BufTy.Contents (Elt F) d.view.ty) : Prop :=
  ∀ (kq : ℕ) (hkq : kq < n), chk
    (a.view.readAt (Elt F) (Rect.unit (s := S4096) (off ⟨kq, hkq⟩) S1.size (inb ⟨kq, hkq⟩)).toLoadRect x (Shape.Idx.first (numel1_S1.symm ▸ Nat.one_pos)))
    (b.view.readAt (Elt F) (Rect.unit (s := S4096) (off ⟨kq, hkq⟩) S1.size (inb ⟨kq, hkq⟩)).toLoadRect y (Shape.Idx.first (numel1_S1.symm ▸ Nat.one_pos)))
    (d.view.readAt (Elt F) (Rect.unit (s := S4096) (off ⟨kq, hkq⟩) S1.size (inb ⟨kq, hkq⟩)).toLoadRect z (Shape.Idx.first (numel1_S1.symm ▸ Nat.one_pos)))

set_option backward.proofsInPublic true in
set_option maxHeartbeats 0 in
/-- What the body's stores leave in the output's buffer, as pieces (last first), with the proof that on whole buffers
    the body runs to the continuation that holds the inputs as they were, the scratch at some contents and the output's
    buffer with its pieces written. -/
noncomputable def run (c : Dev nD) (arg0 : Memref sig .tc .vmem S9x51x51x64 .f32) (harg0 : arg0.IsWhole) (arg1 :
  Memref sig .tc .smem S4096 .i32) (harg1 : arg1.IsWhole) (arg2 : Memref sig .tc .smem S4096 .i32) (harg2 :
  arg2.IsWhole) (arg3 : Memref sig .tc .smem S4096 .i32) (harg3 : arg3.IsWhole) (arg4 : Memref sig .tc .smem S4096
  .i32) (harg4 : arg4.IsWhole) (arg5 : Memref sig .tc .smem S4096 .i32) (harg5 : arg5.IsWhole) (arg6 : Memref sig .tc
  .smem S4096 .i32) (harg6 : arg6.IsWhole) (arg7 : Memref sig .tc .smem S4096 .f32) (harg7 : arg7.IsWhole) (arg8 :
  Memref sig .tc .smem S4096 .f32) (harg8 : arg8.IsWhole) (arg9 : Memref sig .tc .smem S4096 .f32) (harg9 :
  arg9.IsWhole) (arg10 : Memref sig .tc .smem S4096 .f32) (harg10 : arg10.IsWhole) (arg11 : Memref sig .tc .smem S4096
  .f32) (harg11 : arg11.IsWhole) (arg12 : Memref sig .tc .smem S4096 .f32) (harg12 : arg12.IsWhole) (arg13 : Memref
  sig .tc .vmem S64x64 .f32) (harg13 : arg13.IsWhole) (arg14 : Memref sig .tc .vmem S1x64 .f32) (harg14 :
  arg14.IsWhole) (arg15 : Memref sig .tc .vmem S64x64 .f32) (harg15 : arg15.IsWhole) (arg16 : Memref sig .tc .vmem
  S1x64 .f32) (harg16 : arg16.IsWhole) (arg17 : Memref sig .tc .vmem S64x64 .f32) (harg17 : arg17.IsWhole) (arg18 :
  Memref sig .tc .vmem S1x64 .f32) (harg18 : arg18.IsWhole) (arg19 : Memref sig .tc .vmem S64x64 .f32) (harg19 :
  arg19.IsWhole) (arg20 : Memref sig .tc .vmem S1x64 .f32) (harg20 : arg20.IsWhole) (arg21 : Memref sig .tc .vmem
  S64x256 .f32) (harg21 : arg21.IsWhole) (arg22 : Memref sig .tc .vmem S1x256 .f32) (harg22 : arg22.IsWhole) (arg23 :
  Memref sig .tc .vmem S256x256 .f32) (harg23 : arg23.IsWhole) (arg24 : Memref sig .tc .vmem S1x256 .f32) (harg24 :
  arg24.IsWhole) (arg25 : Memref sig .tc .vmem S256x256 .f32) (harg25 : arg25.IsWhole) (arg26 : Memref sig .tc .vmem
  S1x256 .f32) (harg26 : arg26.IsWhole) (arg27 : Memref sig .tc .vmem S256x256 .f32) (harg27 : arg27.IsWhole) (arg28 :
  Memref sig .tc .vmem S1x256 .f32) (harg28 : arg28.IsWhole) (arg29 : Memref sig .tc .vmem S256x1 .f32) (harg29 :
  arg29.IsWhole) (arg30 : Memref sig .tc .vmem S1x1 .f32) (harg30 : arg30.IsWhole) (arg31 : Memref sig .tc .vmem
  S4096x1 .f32) (harg31 : arg31.IsWhole) (arg32 : Memref sig .tc .vmem S4096x64 .f32) (harg32 : arg32.IsWhole) (arg33
  : Memref sig .tc .vmem S4096x64 .f32) (harg33 : arg33.IsWhole) (arg34 : Memref sig .tc .vmem S4096x64 .f32) (harg34
  : arg34.IsWhole)
    (x0 : Vec F S9x51x51x64 .f32) (x1 : Vec F S4096 .i32) (x2 : Vec F S4096 .i32) (x3 : Vec F S4096 .i32) (x4 : Vec F
        S4096 .i32) (x5 : Vec F S4096 .i32) (x6 : Vec F S4096 .i32) (x7 : Vec F S4096 .f32) (x8 : Vec F S4096 .f32)
        (x9 : Vec F S4096 .f32) (x10 : Vec F S4096 .f32) (x11 : Vec F S4096 .f32) (x12 : Vec F S4096 .f32) (x13 : Vec
        F S64x64 .f32) (x14 : Vec F S1x64 .f32) (x15 : Vec F S64x64 .f32) (x16 : Vec F S1x64 .f32) (x17 : Vec F S64x64
        .f32) (x18 : Vec F S1x64 .f32) (x19 : Vec F S64x64 .f32) (x20 : Vec F S1x64 .f32) (x21 : Vec F S64x256 .f32)
        (x22 : Vec F S1x256 .f32) (x23 : Vec F S256x256 .f32) (x24 : Vec F S1x256 .f32) (x25 : Vec F S256x256 .f32)
        (x26 : Vec F S1x256 .f32) (x27 : Vec F S256x256 .f32) (x28 : Vec F S1x256 .f32) (x29 : Vec F S256x1 .f32) (x30
        : Vec F S1x1 .f32) (k0_hw1L : Inside k0_chk1 k0_off1 k0_off1_inb arg1 (harg1.unread x1) arg2 (harg2.unread x2)
        arg3 (harg3.unread x3)) (k0_hw2L : Inside k0_chk2 k0_off4 k0_off4_inb arg1 (harg1.unread x1) arg2
        (harg2.unread x2) arg3 (harg3.unread x3)) (k0_hw3L : Inside k0_chk3 k0_off7 k0_off7_inb arg1 (harg1.unread x1)
        arg2 (harg2.unread x2) arg3 (harg3.unread x3)) (k0_hw4L : Inside k0_chk4 k0_off10 k0_off10_inb arg1
        (harg1.unread x1) arg2 (harg2.unread x2) arg3 (harg3.unread x3)) (k0_hw5L : Inside k0_chk5 k0_off13
        k0_off13_inb arg1 (harg1.unread x1) arg2 (harg2.unread x2) arg3 (harg3.unread x3)) (k0_hw6L : Inside k0_chk6
        k0_off16 k0_off16_inb arg1 (harg1.unread x1) arg2 (harg2.unread x2) arg3 (harg3.unread x3)) (k0_hw7L : Inside
        k0_chk7 k0_off19 k0_off19_inb arg1 (harg1.unread x1) arg2 (harg2.unread x2) arg3 (harg3.unread x3)) (k0_hw8L :
        Inside k0_chk8 k0_off22 k0_off22_inb arg1 (harg1.unread x1) arg2 (harg2.unread x2) arg3 (harg3.unread x3))
        (k0_hw9L : Inside k0_chk9 k0_off25 k0_off25_inb arg1 (harg1.unread x1) arg2 (harg2.unread x2) arg3
        (harg3.unread x3)) (k0_hw10L : Inside k0_chk10 k0_off28 k0_off28_inb arg1 (harg1.unread x1) arg2 (harg2.unread
        x2) arg3 (harg3.unread x3)) (k0_hw11L : Inside k0_chk11 k0_off31 k0_off31_inb arg1 (harg1.unread x1) arg2
        (harg2.unread x2) arg3 (harg3.unread x3)) (k0_hw12L : Inside k0_chk12 k0_off34 k0_off34_inb arg1 (harg1.unread
        x1) arg2 (harg2.unread x2) arg3 (harg3.unread x3)) (k0_hw13L : Inside k0_chk13 k0_off37 k0_off37_inb arg1
        (harg1.unread x1) arg2 (harg2.unread x2) arg3 (harg3.unread x3)) (k0_hw14L : Inside k0_chk14 k0_off40
        k0_off40_inb arg1 (harg1.unread x1) arg2 (harg2.unread x2) arg3 (harg3.unread x3)) (k0_hw15L : Inside k0_chk15
        k0_off43 k0_off43_inb arg1 (harg1.unread x1) arg2 (harg2.unread x2) arg3 (harg3.unread x3)) (k0_hw16L : Inside
        k0_chk16 k0_off46 k0_off46_inb arg1 (harg1.unread x1) arg2 (harg2.unread x2) arg3 (harg3.unread x3)) (k0_hw17L
        : Inside k0_chk17 k0_off49 k0_off49_inb arg4 (harg4.unread x4) arg5 (harg5.unread x5) arg6 (harg6.unread x6))
        (k0_hw18L : Inside k0_chk18 k0_off52 k0_off52_inb arg4 (harg4.unread x4) arg5 (harg5.unread x5) arg6
        (harg6.unread x6)) (k0_hw19L : Inside k0_chk19 k0_off55 k0_off55_inb arg4 (harg4.unread x4) arg5 (harg5.unread
        x5) arg6 (harg6.unread x6)) (k0_hw20L : Inside k0_chk20 k0_off58 k0_off58_inb arg4 (harg4.unread x4) arg5
        (harg5.unread x5) arg6 (harg6.unread x6)) (k0_hw21L : Inside k0_chk21 k0_off61 k0_off61_inb arg4 (harg4.unread
        x4) arg5 (harg5.unread x5) arg6 (harg6.unread x6)) (k0_hw22L : Inside k0_chk22 k0_off64 k0_off64_inb arg4
        (harg4.unread x4) arg5 (harg5.unread x5) arg6 (harg6.unread x6)) (k0_hw23L : Inside k0_chk23 k0_off67
        k0_off67_inb arg4 (harg4.unread x4) arg5 (harg5.unread x5) arg6 (harg6.unread x6)) (k0_hw24L : Inside k0_chk24
        k0_off70 k0_off70_inb arg4 (harg4.unread x4) arg5 (harg5.unread x5) arg6 (harg6.unread x6)) (k0_hw25L : Inside
        k0_chk25 k0_off73 k0_off73_inb arg4 (harg4.unread x4) arg5 (harg5.unread x5) arg6 (harg6.unread x6)) (k0_hw26L
        : Inside k0_chk26 k0_off76 k0_off76_inb arg4 (harg4.unread x4) arg5 (harg5.unread x5) arg6 (harg6.unread x6))
        (k0_hw27L : Inside k0_chk27 k0_off79 k0_off79_inb arg4 (harg4.unread x4) arg5 (harg5.unread x5) arg6
        (harg6.unread x6)) (k0_hw28L : Inside k0_chk28 k0_off82 k0_off82_inb arg4 (harg4.unread x4) arg5 (harg5.unread
        x5) arg6 (harg6.unread x6)) (k0_hw29L : Inside k0_chk29 k0_off85 k0_off85_inb arg4 (harg4.unread x4) arg5
        (harg5.unread x5) arg6 (harg6.unread x6)) (k0_hw30L : Inside k0_chk30 k0_off88 k0_off88_inb arg4 (harg4.unread
        x4) arg5 (harg5.unread x5) arg6 (harg6.unread x6)) (k0_hw31L : Inside k0_chk31 k0_off91 k0_off91_inb arg4
        (harg4.unread x4) arg5 (harg5.unread x5) arg6 (harg6.unread x6)) (k0_hw32L : Inside k0_chk32 k0_off94
        k0_off94_inb arg4 (harg4.unread x4) arg5 (harg5.unread x5) arg6 (harg6.unread x6)) (k0_hw33L : Inside k0_chk33
        k0_off97 k0_off97_inb arg4 (harg4.unread x4) arg5 (harg5.unread x5) arg6 (harg6.unread x6)) (k0_hw34L : Inside
        k0_chk34 k0_off100 k0_off100_inb arg4 (harg4.unread x4) arg5 (harg5.unread x5) arg6 (harg6.unread x6))
        (k0_hw35L : Inside k0_chk35 k0_off103 k0_off103_inb arg4 (harg4.unread x4) arg5 (harg5.unread x5) arg6
        (harg6.unread x6)) (k0_hw36L : Inside k0_chk36 k0_off106 k0_off106_inb arg4 (harg4.unread x4) arg5
        (harg5.unread x5) arg6 (harg6.unread x6)) (k0_hw37L : Inside k0_chk37 k0_off109 k0_off109_inb arg4
        (harg4.unread x4) arg5 (harg5.unread x5) arg6 (harg6.unread x6)) (k0_hw38L : Inside k0_chk38 k0_off112
        k0_off112_inb arg4 (harg4.unread x4) arg5 (harg5.unread x5) arg6 (harg6.unread x6)) (k0_hw39L : Inside
        k0_chk39 k0_off115 k0_off115_inb arg4 (harg4.unread x4) arg5 (harg5.unread x5) arg6 (harg6.unread x6))
        (k0_hw40L : Inside k0_chk40 k0_off118 k0_off118_inb arg4 (harg4.unread x4) arg5 (harg5.unread x5) arg6
        (harg6.unread x6)) (k0_hw41L : Inside k0_chk41 k0_off121 k0_off121_inb arg4 (harg4.unread x4) arg5
        (harg5.unread x5) arg6 (harg6.unread x6)) (k0_hw42L : Inside k0_chk42 k0_off124 k0_off124_inb arg4
        (harg4.unread x4) arg5 (harg5.unread x5) arg6 (harg6.unread x6)) (k0_hw43L : Inside k0_chk43 k0_off127
        k0_off127_inb arg4 (harg4.unread x4) arg5 (harg5.unread x5) arg6 (harg6.unread x6)) (k0_hw44L : Inside
        k0_chk44 k0_off130 k0_off130_inb arg4 (harg4.unread x4) arg5 (harg5.unread x5) arg6 (harg6.unread x6))
        (k0_hw45L : Inside k0_chk45 k0_off133 k0_off133_inb arg4 (harg4.unread x4) arg5 (harg5.unread x5) arg6
        (harg6.unread x6)) (k0_hw46L : Inside k0_chk46 k0_off136 k0_off136_inb arg4 (harg4.unread x4) arg5
        (harg5.unread x5) arg6 (harg6.unread x6)) (k0_hw47L : Inside k0_chk47 k0_off139 k0_off139_inb arg4
        (harg4.unread x4) arg5 (harg5.unread x5) arg6 (harg6.unread x6)) (k0_hw48L : Inside k0_chk48 k0_off142
        k0_off142_inb arg4 (harg4.unread x4) arg5 (harg5.unread x5) arg6 (harg6.unread x6)) :
    { L : List (View.Piece (Elt F) S4096x1 .f32) //
      ∀ (E : Set ℕ) (K : PUnit → sProp 𝕄),
        iprop(owns (c : Thread nD τ) arg0 fullShare x0 ∗ owns (c : Thread nD τ) arg1 fullShare x1 ∗ owns (c : Thread
            nD τ) arg2 fullShare x2 ∗ owns (c : Thread nD τ) arg3 fullShare x3 ∗ owns (c : Thread nD τ) arg4 fullShare
            x4 ∗ owns (c : Thread nD τ) arg5 fullShare x5 ∗ owns (c : Thread nD τ) arg6 fullShare x6 ∗ owns (c :
            Thread nD τ) arg7 fullShare x7 ∗ owns (c : Thread nD τ) arg8 fullShare x8 ∗ owns (c : Thread nD τ) arg9
            fullShare x9 ∗ owns (c : Thread nD τ) arg10 fullShare x10 ∗ owns (c : Thread nD τ) arg11 fullShare x11 ∗
            owns (c : Thread nD τ) arg12 fullShare x12 ∗ owns (c : Thread nD τ) arg13 fullShare x13 ∗ owns (c : Thread
            nD τ) arg14 fullShare x14 ∗ owns (c : Thread nD τ) arg15 fullShare x15 ∗ owns (c : Thread nD τ) arg16
            fullShare x16 ∗ owns (c : Thread nD τ) arg17 fullShare x17 ∗ owns (c : Thread nD τ) arg18 fullShare x18 ∗
            owns (c : Thread nD τ) arg19 fullShare x19 ∗ owns (c : Thread nD τ) arg20 fullShare x20 ∗ owns (c : Thread
            nD τ) arg21 fullShare x21 ∗ owns (c : Thread nD τ) arg22 fullShare x22 ∗ owns (c : Thread nD τ) arg23
            fullShare x23 ∗ owns (c : Thread nD τ) arg24 fullShare x24 ∗ owns (c : Thread nD τ) arg25 fullShare x25 ∗
            owns (c : Thread nD τ) arg26 fullShare x26 ∗ owns (c : Thread nD τ) arg27 fullShare x27 ∗ owns (c : Thread
            nD τ) arg28 fullShare x28 ∗ owns (c : Thread nD τ) arg29 fullShare x29 ∗ owns (c : Thread nD τ) arg30
            fullShare x30 ∗ (∃ d, owns (c : Thread nD τ) arg31 fullShare d) ∗ (∃ d, owns (c : Thread nD τ) arg32
            fullShare d) ∗ (∃ d, owns (c : Thread nD τ) arg33 fullShare d) ∗ (∃ d, owns (c : Thread nD τ) arg34
            fullShare d)
            ∗ (iprop(owns (c : Thread nD τ) arg0 fullShare x0 ∗ owns (c : Thread nD τ) arg1 fullShare x1 ∗ owns (c :
                Thread nD τ) arg2 fullShare x2 ∗ owns (c : Thread nD τ) arg3 fullShare x3 ∗ owns (c : Thread nD τ)
                arg4 fullShare x4 ∗ owns (c : Thread nD τ) arg5 fullShare x5 ∗ owns (c : Thread nD τ) arg6 fullShare
                x6 ∗ owns (c : Thread nD τ) arg7 fullShare x7 ∗ owns (c : Thread nD τ) arg8 fullShare x8 ∗ owns (c :
                Thread nD τ) arg9 fullShare x9 ∗ owns (c : Thread nD τ) arg10 fullShare x10 ∗ owns (c : Thread nD τ)
                arg11 fullShare x11 ∗ owns (c : Thread nD τ) arg12 fullShare x12 ∗ owns (c : Thread nD τ) arg13
                fullShare x13 ∗ owns (c : Thread nD τ) arg14 fullShare x14 ∗ owns (c : Thread nD τ) arg15 fullShare
                x15 ∗ owns (c : Thread nD τ) arg16 fullShare x16 ∗ owns (c : Thread nD τ) arg17 fullShare x17 ∗ owns
                (c : Thread nD τ) arg18 fullShare x18 ∗ owns (c : Thread nD τ) arg19 fullShare x19 ∗ owns (c : Thread
                nD τ) arg20 fullShare x20 ∗ owns (c : Thread nD τ) arg21 fullShare x21 ∗ owns (c : Thread nD τ) arg22
                fullShare x22 ∗ owns (c : Thread nD τ) arg23 fullShare x23 ∗ owns (c : Thread nD τ) arg24 fullShare
                x24 ∗ owns (c : Thread nD τ) arg25 fullShare x25 ∗ owns (c : Thread nD τ) arg26 fullShare x26 ∗ owns
                (c : Thread nD τ) arg27 fullShare x27 ∗ owns (c : Thread nD τ) arg28 fullShare x28 ∗ owns (c : Thread
                nD τ) arg29 fullShare x29 ∗ owns (c : Thread nD τ) arg30 fullShare x30 ∗ (∃ f, arg31.view.loc (c :
                Thread nD τ) ↦[arg31.view.set]{fullShare} arg31.view.writes (Elt F) f L) ∗ (∃ d, owns (c : Thread nD
                τ) arg32 fullShare d) ∗ (∃ d, owns (c : Thread nD τ) arg33 fullShare d) ∗ (∃ d, owns (c : Thread nD τ)
                arg34 fullShare d)) -∗ K ⟨⟩))
          ⊢ wp frame (wpE (defs₀ (F := F)) Variants.none c none) E (cc0__sample_attn_mlp_body arg0 harg0 arg1 harg1
              arg2 harg2 arg3 harg3 arg4 harg4 arg5 harg5 arg6 harg6 arg7 harg7 arg8 harg8 arg9 harg9 arg10 harg10
              arg11 harg11 arg12 harg12 arg13 harg13 arg14 harg14 arg15 harg15 arg16 harg16 arg17 harg17 arg18 harg18
              arg19 harg19 arg20 harg20 arg21 harg21 arg22 harg22 arg23 harg23 arg24 harg24 arg25 harg25 arg26 harg26
              arg27 harg27 arg28 harg28 arg29 harg29 arg30 harg30 arg31 harg31 arg32 harg32 arg33 harg33 arg34 harg34)
              K } := by
  refine ⟨?_, fun E K => ?run⟩
  case run =>
    simp only [cc0__sample_attn_mlp_body_eq_skeleton]; unfold cc0__sample_attn_mlp_body_skel
    simp only [k0_part99_eq_skeleton, k0_part100_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
        ⟨%f6, %hf6, H6⟩, ⟨%f7, %hf7, H7⟩, ⟨%f8, %hf8, H8⟩, ⟨%f9, %hf9, H9⟩, ⟨%f10, %hf10, H10⟩, ⟨%f11, %hf11, H11⟩,
        ⟨%f12, %hf12, H12⟩, ⟨%f13, %hf13, H13⟩, ⟨%f14, %hf14, H14⟩, ⟨%f15, %hf15, H15⟩, ⟨%f16, %hf16, H16⟩, ⟨%f17,
        %hf17, H17⟩, ⟨%f18, %hf18, H18⟩, ⟨%f19, %hf19, H19⟩, ⟨%f20, %hf20, H20⟩, ⟨%f21, %hf21, H21⟩, ⟨%f22, %hf22,
        H22⟩, ⟨%f23, %hf23, H23⟩, ⟨%f24, %hf24, H24⟩, ⟨%f25, %hf25, H25⟩, ⟨%f26, %hf26, H26⟩, ⟨%f27, %hf27, H27⟩,
        ⟨%f28, %hf28, H28⟩, ⟨%f29, %hf29, H29⟩, ⟨%f30, %hf30, H30⟩, ⟨%d31, %f31, -, H31⟩, ⟨%ds0, %fs0, -, HS0⟩, ⟨%ds1,
        %fs1, -, HS1⟩, ⟨%ds2, %fs2, -, HS2⟩, Hk⟩
    obtain rfl := harg0.eq_unread hf0; obtain rfl := harg1.eq_unread hf1
    obtain rfl := harg2.eq_unread hf2; obtain rfl := harg3.eq_unread hf3
    obtain rfl := harg4.eq_unread hf4; obtain rfl := harg5.eq_unread hf5
    obtain rfl := harg6.eq_unread hf6; obtain rfl := harg7.eq_unread hf7
    obtain rfl := harg8.eq_unread hf8; obtain rfl := harg9.eq_unread hf9
    obtain rfl := harg10.eq_unread hf10; obtain rfl := harg11.eq_unread hf11
    obtain rfl := harg12.eq_unread hf12; obtain rfl := harg13.eq_unread hf13
    obtain rfl := harg14.eq_unread hf14; obtain rfl := harg15.eq_unread hf15
    obtain rfl := harg16.eq_unread hf16; obtain rfl := harg17.eq_unread hf17
    obtain rfl := harg18.eq_unread hf18; obtain rfl := harg19.eq_unread hf19
    obtain rfl := harg20.eq_unread hf20; obtain rfl := harg21.eq_unread hf21
    obtain rfl := harg22.eq_unread hf22; obtain rfl := harg23.eq_unread hf23
    obtain rfl := harg24.eq_unread hf24; obtain rfl := harg25.eq_unread hf25
    obtain rfl := harg26.eq_unread hf26; obtain rfl := harg27.eq_unread hf27
    obtain rfl := harg28.eq_unread hf28; obtain rfl := harg29.eq_unread hf29
    obtain rfl := harg30.eq_unread hf30
    have hrd0 : ∀ (𝒱 : Variants) (c : Dev nD) (bd : Option 𝒱.V) (arg0 : Memref sig .tc .vmem S9x51x51x64 .f32) (harg0
        : arg0.IsWhole) (arg1 : Memref sig .tc .smem S4096 .i32) (harg1 : arg1.IsWhole) (arg2 : Memref sig .tc .smem
        S4096 .i32) (harg2 : arg2.IsWhole) (arg3 : Memref sig .tc .smem S4096 .i32) (harg3 : arg3.IsWhole) (arg4 :
        Memref sig .tc .smem S4096 .i32) (harg4 : arg4.IsWhole) (arg5 : Memref sig .tc .smem S4096 .i32) (harg5 :
        arg5.IsWhole) (arg6 : Memref sig .tc .smem S4096 .i32) (harg6 : arg6.IsWhole) (arg7 : Memref sig .tc .smem
        S4096 .f32) (harg7 : arg7.IsWhole) (arg8 : Memref sig .tc .smem S4096 .f32) (harg8 : arg8.IsWhole) (arg9 :
        Memref sig .tc .smem S4096 .f32) (harg9 : arg9.IsWhole) (arg10 : Memref sig .tc .smem S4096 .f32) (harg10 :
        arg10.IsWhole) (arg11 : Memref sig .tc .smem S4096 .f32) (harg11 : arg11.IsWhole) (arg12 : Memref sig .tc
        .smem S4096 .f32) (harg12 : arg12.IsWhole) (arg13 : Memref sig .tc .vmem S64x64 .f32) (harg13 : arg13.IsWhole)
        (arg14 : Memref sig .tc .vmem S1x64 .f32) (harg14 : arg14.IsWhole) (arg15 : Memref sig .tc .vmem S64x64 .f32)
        (harg15 : arg15.IsWhole) (arg16 : Memref sig .tc .vmem S1x64 .f32) (harg16 : arg16.IsWhole) (arg17 : Memref
        sig .tc .vmem S64x64 .f32) (harg17 : arg17.IsWhole) (arg18 : Memref sig .tc .vmem S1x64 .f32) (harg18 :
        arg18.IsWhole) (arg19 : Memref sig .tc .vmem S64x64 .f32) (harg19 : arg19.IsWhole) (arg20 : Memref sig .tc
        .vmem S1x64 .f32) (harg20 : arg20.IsWhole) (arg21 : Memref sig .tc .vmem S64x256 .f32) (harg21 :
        arg21.IsWhole) (arg22 : Memref sig .tc .vmem S1x256 .f32) (harg22 : arg22.IsWhole) (arg23 : Memref sig .tc
        .vmem S256x256 .f32) (harg23 : arg23.IsWhole) (arg24 : Memref sig .tc .vmem S1x256 .f32) (harg24 :
        arg24.IsWhole) (arg25 : Memref sig .tc .vmem S256x256 .f32) (harg25 : arg25.IsWhole) (arg26 : Memref sig .tc
        .vmem S1x256 .f32) (harg26 : arg26.IsWhole) (arg27 : Memref sig .tc .vmem S256x256 .f32) (harg27 :
        arg27.IsWhole) (arg28 : Memref sig .tc .vmem S1x256 .f32) (harg28 : arg28.IsWhole) (arg29 : Memref sig .tc
        .vmem S256x1 .f32) (harg29 : arg29.IsWhole) (arg30 : Memref sig .tc .vmem S1x1 .f32) (harg30 : arg30.IsWhole)
        (arg31 : Memref sig .tc .vmem S4096x1 .f32) (harg31 : arg31.IsWhole) (arg32 : Memref sig .tc .vmem S4096x64
        .f32) (harg32 : arg32.IsWhole) (arg33 : Memref sig .tc .vmem S4096x64 .f32) (harg33 : arg33.IsWhole) (arg34 :
        Memref sig .tc .vmem S4096x64 .f32) (harg34 : arg34.IsWhole) (X_arg0 : BufTy.Contents (Elt F) arg0.view.ty)
        (X_arg1 : BufTy.Contents (Elt F) arg1.view.ty) (X_arg2 : BufTy.Contents (Elt F) arg2.view.ty) (X_arg3 :
        BufTy.Contents (Elt F) arg3.view.ty) (X_arg7 : BufTy.Contents (Elt F) arg7.view.ty) (X_arg8 : BufTy.Contents
        (Elt F) arg8.view.ty) (X_arg9 : BufTy.Contents (Elt F) arg9.view.ty) (k0_hw1L : Inside k0_chk1 k0_off1
        k0_off1_inb arg1 X_arg1 arg2 X_arg2 arg3 X_arg3) (k0_hw2L : Inside k0_chk2 k0_off4 k0_off4_inb arg1 X_arg1
        arg2 X_arg2 arg3 X_arg3) (k0_hw3L : Inside k0_chk3 k0_off7 k0_off7_inb arg1 X_arg1 arg2 X_arg2 arg3 X_arg3)
        (k0_hw4L : Inside k0_chk4 k0_off10 k0_off10_inb arg1 X_arg1 arg2 X_arg2 arg3 X_arg3) (k0_hw5L : Inside k0_chk5
        k0_off13 k0_off13_inb arg1 X_arg1 arg2 X_arg2 arg3 X_arg3) (k0_hw6L : Inside k0_chk6 k0_off16 k0_off16_inb
        arg1 X_arg1 arg2 X_arg2 arg3 X_arg3) (k0_hw7L : Inside k0_chk7 k0_off19 k0_off19_inb arg1 X_arg1 arg2 X_arg2
        arg3 X_arg3) (k0_hw8L : Inside k0_chk8 k0_off22 k0_off22_inb arg1 X_arg1 arg2 X_arg2 arg3 X_arg3) (k0_hw9L :
        Inside k0_chk9 k0_off25 k0_off25_inb arg1 X_arg1 arg2 X_arg2 arg3 X_arg3) (k0_hw10L : Inside k0_chk10 k0_off28
        k0_off28_inb arg1 X_arg1 arg2 X_arg2 arg3 X_arg3) (k0_hw11L : Inside k0_chk11 k0_off31 k0_off31_inb arg1
        X_arg1 arg2 X_arg2 arg3 X_arg3) (k0_hw12L : Inside k0_chk12 k0_off34 k0_off34_inb arg1 X_arg1 arg2 X_arg2 arg3
        X_arg3) (k0_hw13L : Inside k0_chk13 k0_off37 k0_off37_inb arg1 X_arg1 arg2 X_arg2 arg3 X_arg3) (k0_hw14L :
        Inside k0_chk14 k0_off40 k0_off40_inb arg1 X_arg1 arg2 X_arg2 arg3 X_arg3) (k0_hw15L : Inside k0_chk15
        k0_off43 k0_off43_inb arg1 X_arg1 arg2 X_arg2 arg3 X_arg3) (k0_hw16L : Inside k0_chk16 k0_off46 k0_off46_inb
        arg1 X_arg1 arg2 X_arg2 arg3 X_arg3) (hrdF : BufTy.Contents (Elt F) arg32.view.ty) (hrdB : LoadRect S4096x64),
        arg32.view.readAt (Elt F) hrdB (arg32.view.writes (Elt F) hrdF (pb_k0_t1 (F := F) 𝒱 c bd arg0 harg0 arg1 harg1
        arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19
        arg20 harg20 arg21 harg21 arg22 harg22 arg23 harg23 arg24 harg24 arg25 harg25 arg26 harg26 arg27 harg27 arg28
        harg28 arg29 harg29 arg30 harg30 arg31 harg31 arg32 harg32 arg33 harg33 arg34 harg34 X_arg0 X_arg1 X_arg2
        X_arg3 X_arg7 X_arg8 X_arg9 k0_hw1L k0_hw2L k0_hw3L k0_hw4L k0_hw5L k0_hw6L k0_hw7L k0_hw8L k0_hw9L k0_hw10L
        k0_hw11L k0_hw12L k0_hw13L k0_hw14L k0_hw15L k0_hw16L (Scf.trips k0_t1_loop.lb k0_t1_loop.ub k0_t1_loop.st)))
        = arg32.view.readCov (pb_k0_t1 (F := F) 𝒱 c bd arg0 harg0 arg1 harg1 arg2 harg2 arg3 harg3 arg4 harg4 arg5
        harg5 arg6 harg6 arg7 harg7 arg8 harg8 arg9 harg9 arg10 harg10 arg11 harg11 arg12 harg12 arg13 harg13 arg14
        harg14 arg15 harg15 arg16 harg16 arg17 harg17 arg18 harg18 arg19 harg19 arg20 harg20 arg21 harg21 arg22 harg22
        arg23 harg23 arg24 harg24 arg25 harg25 arg26 harg26 arg27 harg27 arg28 harg28 arg29 harg29 arg30 harg30 arg31
        harg31 arg32 harg32 arg33 harg33 arg34 harg34 X_arg0 X_arg1 X_arg2 X_arg3 X_arg7 X_arg8 X_arg9 k0_hw1L k0_hw2L
        k0_hw3L k0_hw4L k0_hw5L k0_hw6L k0_hw7L k0_hw8L k0_hw9L k0_hw10L k0_hw11L k0_hw12L k0_hw13L k0_hw14L k0_hw15L
        k0_hw16L (Scf.trips k0_t1_loop.lb k0_t1_loop.ub k0_t1_loop.st)) hrdB := fun 𝒱 c bd arg0 harg0 arg1 harg1 arg2
        harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20
        harg20 arg21 harg21 arg22 harg22 arg23 harg23 arg24 harg24 arg25 harg25 arg26 harg26 arg27 harg27 arg28 harg28
        arg29 harg29 arg30 harg30 arg31 harg31 arg32 harg32 arg33 harg33 arg34 harg34 X_arg0 X_arg1 X_arg2 X_arg3
        X_arg7 X_arg8 X_arg9 k0_hw1L k0_hw2L k0_hw3L k0_hw4L k0_hw5L k0_hw6L k0_hw7L k0_hw8L k0_hw9L k0_hw10L k0_hw11L
        k0_hw12L k0_hw13L k0_hw14L k0_hw15L k0_hw16L hrdF hrdB => View.readAt_writes_of_cover _ hrdF _ hrdB (fun hrdJ
        => View.cover_of_tiledL (pb_k0_t1 (F := F) 𝒱 c bd arg0 harg0 arg1 harg1 arg2 harg2 arg3 harg3 arg4 harg4 arg5
        harg5 arg6 harg6 arg7 harg7 arg8 harg8 arg9 harg9 arg10 harg10 arg11 harg11 arg12 harg12 arg13 harg13 arg14
        harg14 arg15 harg15 arg16 harg16 arg17 harg17 arg18 harg18 arg19 harg19 arg20 harg20 arg21 harg21 arg22 harg22
        arg23 harg23 arg24 harg24 arg25 harg25 arg26 harg26 arg27 harg27 arg28 harg28 arg29 harg29 arg30 harg30 arg31
        harg31 arg32 harg32 arg33 harg33 arg34 harg34 X_arg0 X_arg1 X_arg2 X_arg3 X_arg7 X_arg8 X_arg9 k0_hw1L k0_hw2L
        k0_hw3L k0_hw4L k0_hw5L k0_hw6L k0_hw7L k0_hw8L k0_hw9L k0_hw10L k0_hw11L k0_hw12L k0_hw13L k0_hw14L k0_hw15L
        k0_hw16L (Scf.trips k0_t1_loop.lb k0_t1_loop.ub k0_t1_loop.st)) S1x64.size (by sl_kernel_rfl) (hrdB.idx hrdJ))
    have hrd1 : ∀ (𝒱 : Variants) (c : Dev nD) (bd : Option 𝒱.V) (arg0 : Memref sig .tc .vmem S9x51x51x64 .f32) (harg0
        : arg0.IsWhole) (arg1 : Memref sig .tc .smem S4096 .i32) (harg1 : arg1.IsWhole) (arg2 : Memref sig .tc .smem
        S4096 .i32) (harg2 : arg2.IsWhole) (arg3 : Memref sig .tc .smem S4096 .i32) (harg3 : arg3.IsWhole) (arg4 :
        Memref sig .tc .smem S4096 .i32) (harg4 : arg4.IsWhole) (arg5 : Memref sig .tc .smem S4096 .i32) (harg5 :
        arg5.IsWhole) (arg6 : Memref sig .tc .smem S4096 .i32) (harg6 : arg6.IsWhole) (arg7 : Memref sig .tc .smem
        S4096 .f32) (harg7 : arg7.IsWhole) (arg8 : Memref sig .tc .smem S4096 .f32) (harg8 : arg8.IsWhole) (arg9 :
        Memref sig .tc .smem S4096 .f32) (harg9 : arg9.IsWhole) (arg10 : Memref sig .tc .smem S4096 .f32) (harg10 :
        arg10.IsWhole) (arg11 : Memref sig .tc .smem S4096 .f32) (harg11 : arg11.IsWhole) (arg12 : Memref sig .tc
        .smem S4096 .f32) (harg12 : arg12.IsWhole) (arg13 : Memref sig .tc .vmem S64x64 .f32) (harg13 : arg13.IsWhole)
        (arg14 : Memref sig .tc .vmem S1x64 .f32) (harg14 : arg14.IsWhole) (arg15 : Memref sig .tc .vmem S64x64 .f32)
        (harg15 : arg15.IsWhole) (arg16 : Memref sig .tc .vmem S1x64 .f32) (harg16 : arg16.IsWhole) (arg17 : Memref
        sig .tc .vmem S64x64 .f32) (harg17 : arg17.IsWhole) (arg18 : Memref sig .tc .vmem S1x64 .f32) (harg18 :
        arg18.IsWhole) (arg19 : Memref sig .tc .vmem S64x64 .f32) (harg19 : arg19.IsWhole) (arg20 : Memref sig .tc
        .vmem S1x64 .f32) (harg20 : arg20.IsWhole) (arg21 : Memref sig .tc .vmem S64x256 .f32) (harg21 :
        arg21.IsWhole) (arg22 : Memref sig .tc .vmem S1x256 .f32) (harg22 : arg22.IsWhole) (arg23 : Memref sig .tc
        .vmem S256x256 .f32) (harg23 : arg23.IsWhole) (arg24 : Memref sig .tc .vmem S1x256 .f32) (harg24 :
        arg24.IsWhole) (arg25 : Memref sig .tc .vmem S256x256 .f32) (harg25 : arg25.IsWhole) (arg26 : Memref sig .tc
        .vmem S1x256 .f32) (harg26 : arg26.IsWhole) (arg27 : Memref sig .tc .vmem S256x256 .f32) (harg27 :
        arg27.IsWhole) (arg28 : Memref sig .tc .vmem S1x256 .f32) (harg28 : arg28.IsWhole) (arg29 : Memref sig .tc
        .vmem S256x1 .f32) (harg29 : arg29.IsWhole) (arg30 : Memref sig .tc .vmem S1x1 .f32) (harg30 : arg30.IsWhole)
        (arg31 : Memref sig .tc .vmem S4096x1 .f32) (harg31 : arg31.IsWhole) (arg32 : Memref sig .tc .vmem S4096x64
        .f32) (harg32 : arg32.IsWhole) (arg33 : Memref sig .tc .vmem S4096x64 .f32) (harg33 : arg33.IsWhole) (arg34 :
        Memref sig .tc .vmem S4096x64 .f32) (harg34 : arg34.IsWhole) (v18 : IVec S2x7x7 32) (v19 : IVec S2x7x7 32)
        (v20 : IVec S2x7x7 32) (X_arg0 : BufTy.Contents (Elt F) arg0.view.ty) (X_arg4 : BufTy.Contents (Elt F)
        arg4.view.ty) (X_arg5 : BufTy.Contents (Elt F) arg5.view.ty) (X_arg6 : BufTy.Contents (Elt F) arg6.view.ty)
        (X_arg10 : BufTy.Contents (Elt F) arg10.view.ty) (X_arg11 : BufTy.Contents (Elt F) arg11.view.ty) (X_arg12 :
        BufTy.Contents (Elt F) arg12.view.ty) (X_arg33 : BufTy.Contents (Elt F) arg33.view.ty) (k0_hw17L : Inside
        k0_chk17 k0_off49 k0_off49_inb arg4 X_arg4 arg5 X_arg5 arg6 X_arg6) (k0_hw18L : Inside k0_chk18 k0_off52
        k0_off52_inb arg4 X_arg4 arg5 X_arg5 arg6 X_arg6) (k0_hw19L : Inside k0_chk19 k0_off55 k0_off55_inb arg4
        X_arg4 arg5 X_arg5 arg6 X_arg6) (k0_hw20L : Inside k0_chk20 k0_off58 k0_off58_inb arg4 X_arg4 arg5 X_arg5 arg6
        X_arg6) (k0_hw21L : Inside k0_chk21 k0_off61 k0_off61_inb arg4 X_arg4 arg5 X_arg5 arg6 X_arg6) (k0_hw22L :
        Inside k0_chk22 k0_off64 k0_off64_inb arg4 X_arg4 arg5 X_arg5 arg6 X_arg6) (k0_hw23L : Inside k0_chk23
        k0_off67 k0_off67_inb arg4 X_arg4 arg5 X_arg5 arg6 X_arg6) (k0_hw24L : Inside k0_chk24 k0_off70 k0_off70_inb
        arg4 X_arg4 arg5 X_arg5 arg6 X_arg6) (k0_hw25L : Inside k0_chk25 k0_off73 k0_off73_inb arg4 X_arg4 arg5 X_arg5
        arg6 X_arg6) (k0_hw26L : Inside k0_chk26 k0_off76 k0_off76_inb arg4 X_arg4 arg5 X_arg5 arg6 X_arg6) (k0_hw27L
        : Inside k0_chk27 k0_off79 k0_off79_inb arg4 X_arg4 arg5 X_arg5 arg6 X_arg6) (k0_hw28L : Inside k0_chk28
        k0_off82 k0_off82_inb arg4 X_arg4 arg5 X_arg5 arg6 X_arg6) (k0_hw29L : Inside k0_chk29 k0_off85 k0_off85_inb
        arg4 X_arg4 arg5 X_arg5 arg6 X_arg6) (k0_hw30L : Inside k0_chk30 k0_off88 k0_off88_inb arg4 X_arg4 arg5 X_arg5
        arg6 X_arg6) (k0_hw31L : Inside k0_chk31 k0_off91 k0_off91_inb arg4 X_arg4 arg5 X_arg5 arg6 X_arg6) (k0_hw32L
        : Inside k0_chk32 k0_off94 k0_off94_inb arg4 X_arg4 arg5 X_arg5 arg6 X_arg6) (k0_hw33L : Inside k0_chk33
        k0_off97 k0_off97_inb arg4 X_arg4 arg5 X_arg5 arg6 X_arg6) (k0_hw34L : Inside k0_chk34 k0_off100 k0_off100_inb
        arg4 X_arg4 arg5 X_arg5 arg6 X_arg6) (k0_hw35L : Inside k0_chk35 k0_off103 k0_off103_inb arg4 X_arg4 arg5
        X_arg5 arg6 X_arg6) (k0_hw36L : Inside k0_chk36 k0_off106 k0_off106_inb arg4 X_arg4 arg5 X_arg5 arg6 X_arg6)
        (k0_hw37L : Inside k0_chk37 k0_off109 k0_off109_inb arg4 X_arg4 arg5 X_arg5 arg6 X_arg6) (k0_hw38L : Inside
        k0_chk38 k0_off112 k0_off112_inb arg4 X_arg4 arg5 X_arg5 arg6 X_arg6) (k0_hw39L : Inside k0_chk39 k0_off115
        k0_off115_inb arg4 X_arg4 arg5 X_arg5 arg6 X_arg6) (k0_hw40L : Inside k0_chk40 k0_off118 k0_off118_inb arg4
        X_arg4 arg5 X_arg5 arg6 X_arg6) (k0_hw41L : Inside k0_chk41 k0_off121 k0_off121_inb arg4 X_arg4 arg5 X_arg5
        arg6 X_arg6) (k0_hw42L : Inside k0_chk42 k0_off124 k0_off124_inb arg4 X_arg4 arg5 X_arg5 arg6 X_arg6)
        (k0_hw43L : Inside k0_chk43 k0_off127 k0_off127_inb arg4 X_arg4 arg5 X_arg5 arg6 X_arg6) (k0_hw44L : Inside
        k0_chk44 k0_off130 k0_off130_inb arg4 X_arg4 arg5 X_arg5 arg6 X_arg6) (k0_hw45L : Inside k0_chk45 k0_off133
        k0_off133_inb arg4 X_arg4 arg5 X_arg5 arg6 X_arg6) (k0_hw46L : Inside k0_chk46 k0_off136 k0_off136_inb arg4
        X_arg4 arg5 X_arg5 arg6 X_arg6) (k0_hw47L : Inside k0_chk47 k0_off139 k0_off139_inb arg4 X_arg4 arg5 X_arg5
        arg6 X_arg6) (k0_hw48L : Inside k0_chk48 k0_off142 k0_off142_inb arg4 X_arg4 arg5 X_arg5 arg6 X_arg6) (hrdF :
        BufTy.Contents (Elt F) arg34.view.ty) (hrdB : LoadRect S4096x64), arg34.view.readAt (Elt F) hrdB
        (arg34.view.writes (Elt F) hrdF (pb_k0_t2 (F := F) 𝒱 c bd arg0 harg0 arg1 harg1 arg2 harg2 arg3 harg3 arg4
        harg4 arg5 harg5 arg6 harg6 arg7 harg7 arg8 harg8 arg9 harg9 arg10 harg10 arg11 harg11 arg12 harg12 arg13
        harg13 arg14 harg14 arg15 harg15 arg16 harg16 arg17 harg17 arg18 harg18 arg19 harg19 arg20 harg20 arg21 harg21
        arg22 harg22 arg23 harg23 arg24 harg24 arg25 harg25 arg26 harg26 arg27 harg27 arg28 harg28 arg29 harg29 arg30
        harg30 arg31 harg31 arg32 harg32 arg33 harg33 arg34 harg34 v18 v19 v20 X_arg0 X_arg4 X_arg5 X_arg6 X_arg10
        X_arg11 X_arg12 X_arg33 k0_hw17L k0_hw18L k0_hw19L k0_hw20L k0_hw21L k0_hw22L k0_hw23L k0_hw24L k0_hw25L
        k0_hw26L k0_hw27L k0_hw28L k0_hw29L k0_hw30L k0_hw31L k0_hw32L k0_hw33L k0_hw34L k0_hw35L k0_hw36L k0_hw37L
        k0_hw38L k0_hw39L k0_hw40L k0_hw41L k0_hw42L k0_hw43L k0_hw44L k0_hw45L k0_hw46L k0_hw47L k0_hw48L (Scf.trips
        k0_t2_loop.lb k0_t2_loop.ub k0_t2_loop.st))) = arg34.view.readCov (pb_k0_t2 (F := F) 𝒱 c bd arg0 harg0 arg1
        harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29 arg30 harg30 arg31 harg31 arg32 harg32 arg33 harg33 arg34 harg34 v18 v19 v20 X_arg0
        X_arg4 X_arg5 X_arg6 X_arg10 X_arg11 X_arg12 X_arg33 k0_hw17L k0_hw18L k0_hw19L k0_hw20L k0_hw21L k0_hw22L
        k0_hw23L k0_hw24L k0_hw25L k0_hw26L k0_hw27L k0_hw28L k0_hw29L k0_hw30L k0_hw31L k0_hw32L k0_hw33L k0_hw34L
        k0_hw35L k0_hw36L k0_hw37L k0_hw38L k0_hw39L k0_hw40L k0_hw41L k0_hw42L k0_hw43L k0_hw44L k0_hw45L k0_hw46L
        k0_hw47L k0_hw48L (Scf.trips k0_t2_loop.lb k0_t2_loop.ub k0_t2_loop.st)) hrdB := fun 𝒱 c bd arg0 harg0 arg1
        harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29 arg30 harg30 arg31 harg31 arg32 harg32 arg33 harg33 arg34 harg34 v18 v19 v20 X_arg0
        X_arg4 X_arg5 X_arg6 X_arg10 X_arg11 X_arg12 X_arg33 k0_hw17L k0_hw18L k0_hw19L k0_hw20L k0_hw21L k0_hw22L
        k0_hw23L k0_hw24L k0_hw25L k0_hw26L k0_hw27L k0_hw28L k0_hw29L k0_hw30L k0_hw31L k0_hw32L k0_hw33L k0_hw34L
        k0_hw35L k0_hw36L k0_hw37L k0_hw38L k0_hw39L k0_hw40L k0_hw41L k0_hw42L k0_hw43L k0_hw44L k0_hw45L k0_hw46L
        k0_hw47L k0_hw48L hrdF hrdB => View.readAt_writes_of_cover _ hrdF _ hrdB (fun hrdJ => View.cover_of_tiledL
        (pb_k0_t2 (F := F) 𝒱 c bd arg0 harg0 arg1 harg1 arg2 harg2 arg3 harg3 arg4 harg4 arg5 harg5 arg6 harg6 arg7
        harg7 arg8 harg8 arg9 harg9 arg10 harg10 arg11 harg11 arg12 harg12 arg13 harg13 arg14 harg14 arg15 harg15
        arg16 harg16 arg17 harg17 arg18 harg18 arg19 harg19 arg20 harg20 arg21 harg21 arg22 harg22 arg23 harg23 arg24
        harg24 arg25 harg25 arg26 harg26 arg27 harg27 arg28 harg28 arg29 harg29 arg30 harg30 arg31 harg31 arg32 harg32
        arg33 harg33 arg34 harg34 v18 v19 v20 X_arg0 X_arg4 X_arg5 X_arg6 X_arg10 X_arg11 X_arg12 X_arg33 k0_hw17L
        k0_hw18L k0_hw19L k0_hw20L k0_hw21L k0_hw22L k0_hw23L k0_hw24L k0_hw25L k0_hw26L k0_hw27L k0_hw28L k0_hw29L
        k0_hw30L k0_hw31L k0_hw32L k0_hw33L k0_hw34L k0_hw35L k0_hw36L k0_hw37L k0_hw38L k0_hw39L k0_hw40L k0_hw41L
        k0_hw42L k0_hw43L k0_hw44L k0_hw45L k0_hw46L k0_hw47L k0_hw48L (Scf.trips k0_t2_loop.lb k0_t2_loop.ub
        k0_t2_loop.st)) S1x64.size (by sl_kernel_rfl) (hrdB.idx hrdJ))
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; isplitr; · ipureintro; exact harg26.read_unread _
      iexact H26
    isplitl [H27]
    · iexists _; isplitr; · ipureintro; exact harg27.read_unread _
      iexact H27
    isplitl [H28]
    · iexists _; isplitr; · ipureintro; exact harg28.read_unread _
      iexact H28
    isplitl [H29]
    · iexists _; isplitr; · ipureintro; exact harg29.read_unread _
      iexact H29
    isplitl [H30]
    · iexists _; isplitr; · ipureintro; exact harg30.read_unread _
      iexact H30
    isplitl [H31]; · iexists _; iexact H31
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl
end Cert.Kernel2Ideal.Sample

end
-- ==== Proof.SampleFrameIdeal.lean ====
/-
  The second call (its ideal program): its frame, from the run of its body (SampleRunIdeal). Adapted from the frame
      generated with the
  program; the run, its cover and its result are taken at a point's own buffers only.
-/
module

public import proofs.«01_k».proof.Proof.SampleRunIdeal
public import Idealize.ShloMosaic.Lib.Claim

@[expose] public section

set_option maxRecDepth 16384

noncomputable section

namespace Cert.Kernel2Ideal.Sample

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run at point `t`'s buffers and blocks. -/
def runAt (hH : Hyps m) (c : Dev nD) (t : Fin cfg0.N) :=
  run c (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t) (ms0_19 t) (hs0_19 t) (ms0_20 t) (hs0_20 t)
      (ms0_21 t) (hs0_21 t) (ms0_22 t) (hs0_22 t) (ms0_23 t) (hs0_23 t) (ms0_24 t) (hs0_24 t) (ms0_25 t) (hs0_25 t)
      (ms0_26 t) (hs0_26 t) (ms0_27 t) (hs0_27 t) (ms0_28 t) (hs0_28 t) (ms0_29 t) (hs0_29 t) (ms0_30 t) (hs0_30 t)
      (ms0_31 t) (hs0_31 t) scM0_0 (Memref.isWhole_whole _) scM0_1 (Memref.isWhole_whole _) scM0_2
      (Memref.isWhole_whole _) (iblk m c 0 t) (iblk m c 1 t) (iblk m c 2 t) (iblk m c 3 t) (iblk m c 4 t) (iblk m c 5
      t) (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t)
      (iblk m c 20 t) (iblk m c 21 t) (iblk m c 22 t) (iblk m c 23 t) (iblk m c 24 t) (iblk m c 25 t) (iblk m c 26 t)
      (iblk m c 27 t) (iblk m c 28 t) (iblk m c 29 t) (iblk m c 30 t) (Hyps.c0 hH c t) (Hyps.c1 hH c t) (Hyps.c2 hH c
      t) (Hyps.c3 hH c t) (Hyps.c4 hH c t) (Hyps.c5 hH c t) (Hyps.c6 hH c t) (Hyps.c7 hH c t) (Hyps.c8 hH c t)
      (Hyps.c9 hH c t) (Hyps.c10 hH c t) (Hyps.c11 hH c t) (Hyps.c12 hH c t) (Hyps.c13 hH c t) (Hyps.c14 hH c t)
      (Hyps.c15 hH c t) (Hyps.c16 hH c t) (Hyps.c17 hH c t) (Hyps.c18 hH c t) (Hyps.c19 hH c t) (Hyps.c20 hH c t)
      (Hyps.c21 hH c t) (Hyps.c22 hH c t) (Hyps.c23 hH c t) (Hyps.c24 hH c t) (Hyps.c25 hH c t) (Hyps.c26 hH c t)
      (Hyps.c27 hH c t) (Hyps.c28 hH c t) (Hyps.c29 hH c t) (Hyps.c30 hH c t) (Hyps.c31 hH c t) (Hyps.c32 hH c t)
      (Hyps.c33 hH c t) (Hyps.c34 hH c t) (Hyps.c35 hH c t) (Hyps.c36 hH c t) (Hyps.c37 hH c t) (Hyps.c38 hH c t)
      (Hyps.c39 hH c t) (Hyps.c40 hH c t) (Hyps.c41 hH c t) (Hyps.c42 hH c t) (Hyps.c43 hH c t) (Hyps.c44 hH c t)
      (Hyps.c45 hH c t) (Hyps.c46 hH c t) (Hyps.c47 hH c t)

/-- Its pieces tile the output's block. -/
theorem covers (hH : Hyps m) (c : Dev nD) (t : Fin cfg0.N) (y : S4096x1.Idx) : ∃ pc ∈ (runAt m hH c t).1, y ∈ pc.1.set
  :=
  View.cover_of_tiledL (runAt m hH c t).1 S4096x1.size (by sl_kernel_rfl) y

set_option maxHeartbeats 1200000 in
set_option maxRecDepth 131072 in
/-- What the output's buffer holds after the body at point `t`. -/
def outsAt0 (hH : Hyps m) (c : Dev nD) (t : Fin cfg0.N) : Vec F S4096x1 .f32 :=
  VO0_31.read (Elt F) (VO0_31.writes (Elt F) VO0_31.junk (runAt m hH c t).1)

/-! ## The pipeline's proof data -/

/-- The proof data of the call on core `c`: each input's buffer at its block, the output's at `outsAt0`; nothing owed,
    full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => (outsAt0 m hH c t)
    | ⟨_ + 32, h⟩ => absurd h (Nat.not_lt.2 (Nat.le_add_left _ _))
  Φ _ := Pipeline.ΦA spec0 c
  q _ := fullShare
  owed _ := 0

/-- The proof data's arrays are the contents at the call's entry. -/
theorem A_eq (hH : Hyps m) (c : Dev nD) (w : Fin cfg0.W) : (dats m hH 0 c).A w = V m c (Pipeline.arrRef spec0 w) := by
  dsimp only [dats]

/-- What the body leaves, buffer by buffer. -/
theorem after0_0 (hH : Hyps m) (c : Dev nD) (t : Fin cfg0.N) : (dats m hH 0 c).after 0 t = iblk m c 0 t := by dsimp
  only [dats]
theorem after0_1 (hH : Hyps m) (c : Dev nD) (t : Fin cfg0.N) : (dats m hH 0 c).after 1 t = iblk m c 1 t := by dsimp
  only [dats]
theorem after0_2 (hH : Hyps m) (c : Dev nD) (t : Fin cfg0.N) : (dats m hH 0 c).after 2 t = iblk m c 2 t := by dsimp
  only [dats]
theorem after0_3 (hH : Hyps m) (c : Dev nD) (t : Fin cfg0.N) : (dats m hH 0 c).after 3 t = iblk m c 3 t := by dsimp
  only [dats]
theorem after0_4 (hH : Hyps m) (c : Dev nD) (t : Fin cfg0.N) : (dats m hH 0 c).after 4 t = iblk m c 4 t := by dsimp
  only [dats]
theorem after0_5 (hH : Hyps m) (c : Dev nD) (t : Fin cfg0.N) : (dats m hH 0 c).after 5 t = iblk m c 5 t := by dsimp
  only [dats]
theorem after0_6 (hH : Hyps m) (c : Dev nD) (t : Fin cfg0.N) : (dats m hH 0 c).after 6 t = iblk m c 6 t := by dsimp
  only [dats]
theorem after0_7 (hH : Hyps m) (c : Dev nD) (t : Fin cfg0.N) : (dats m hH 0 c).after 7 t = iblk m c 7 t := by dsimp
  only [dats]
theorem after0_8 (hH : Hyps m) (c : Dev nD) (t : Fin cfg0.N) : (dats m hH 0 c).after 8 t = iblk m c 8 t := by dsimp
  only [dats]
theorem after0_9 (hH : Hyps m) (c : Dev nD) (t : Fin cfg0.N) : (dats m hH 0 c).after 9 t = iblk m c 9 t := by dsimp
  only [dats]
theorem after0_10 (hH : Hyps m) (c : Dev nD) (t : Fin cfg0.N) : (dats m hH 0 c).after 10 t = iblk m c 10 t := by dsimp
  only [dats]
theorem after0_11 (hH : Hyps m) (c : Dev nD) (t : Fin cfg0.N) : (dats m hH 0 c).after 11 t = iblk m c 11 t := by dsimp
  only [dats]
theorem after0_12 (hH : Hyps m) (c : Dev nD) (t : Fin cfg0.N) : (dats m hH 0 c).after 12 t = iblk m c 12 t := by dsimp
  only [dats]
theorem after0_13 (hH : Hyps m) (c : Dev nD) (t : Fin cfg0.N) : (dats m hH 0 c).after 13 t = iblk m c 13 t := by dsimp
  only [dats]
theorem after0_14 (hH : Hyps m) (c : Dev nD) (t : Fin cfg0.N) : (dats m hH 0 c).after 14 t = iblk m c 14 t := by dsimp
  only [dats]
theorem after0_15 (hH : Hyps m) (c : Dev nD) (t : Fin cfg0.N) : (dats m hH 0 c).after 15 t = iblk m c 15 t := by dsimp
  only [dats]
theorem after0_16 (hH : Hyps m) (c : Dev nD) (t : Fin cfg0.N) : (dats m hH 0 c).after 16 t = iblk m c 16 t := by dsimp
  only [dats]
theorem after0_17 (hH : Hyps m) (c : Dev nD) (t : Fin cfg0.N) : (dats m hH 0 c).after 17 t = iblk m c 17 t := by dsimp
  only [dats]
theorem after0_18 (hH : Hyps m) (c : Dev nD) (t : Fin cfg0.N) : (dats m hH 0 c).after 18 t = iblk m c 18 t := by dsimp
  only [dats]
theorem after0_19 (hH : Hyps m) (c : Dev nD) (t : Fin cfg0.N) : (dats m hH 0 c).after 19 t = iblk m c 19 t := by dsimp
  only [dats]
theorem after0_20 (hH : Hyps m) (c : Dev nD) (t : Fin cfg0.N) : (dats m hH 0 c).after 20 t = iblk m c 20 t := by dsimp
  only [dats]
theorem after0_21 (hH : Hyps m) (c : Dev nD) (t : Fin cfg0.N) : (dats m hH 0 c).after 21 t = iblk m c 21 t := by dsimp
  only [dats]
theorem after0_22 (hH : Hyps m) (c : Dev nD) (t : Fin cfg0.N) : (dats m hH 0 c).after 22 t = iblk m c 22 t := by dsimp
  only [dats]
theorem after0_23 (hH : Hyps m) (c : Dev nD) (t : Fin cfg0.N) : (dats m hH 0 c).after 23 t = iblk m c 23 t := by dsimp
  only [dats]
theorem after0_24 (hH : Hyps m) (c : Dev nD) (t : Fin cfg0.N) : (dats m hH 0 c).after 24 t = iblk m c 24 t := by dsimp
  only [dats]
theorem after0_25 (hH : Hyps m) (c : Dev nD) (t : Fin cfg0.N) : (dats m hH 0 c).after 25 t = iblk m c 25 t := by dsimp
  only [dats]
theorem after0_26 (hH : Hyps m) (c : Dev nD) (t : Fin cfg0.N) : (dats m hH 0 c).after 26 t = iblk m c 26 t := by dsimp
  only [dats]
theorem after0_27 (hH : Hyps m) (c : Dev nD) (t : Fin cfg0.N) : (dats m hH 0 c).after 27 t = iblk m c 27 t := by dsimp
  only [dats]
theorem after0_28 (hH : Hyps m) (c : Dev nD) (t : Fin cfg0.N) : (dats m hH 0 c).after 28 t = iblk m c 28 t := by dsimp
  only [dats]
theorem after0_29 (hH : Hyps m) (c : Dev nD) (t : Fin cfg0.N) : (dats m hH 0 c).after 29 t = iblk m c 29 t := by dsimp
  only [dats]
theorem after0_30 (hH : Hyps m) (c : Dev nD) (t : Fin cfg0.N) : (dats m hH 0 c).after 30 t = iblk m c 30 t := by dsimp
  only [dats]
theorem after0_31 (hH : Hyps m) (c : Dev nD) (t : Fin cfg0.N) : (dats m hH 0 c).after 31 t = (outsAt0 m hH c t) := by
  dsimp only [dats]

/-- Each input's buffer holds its block at every point. -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d
theorem before0_9 (hH : Hyps m) (c : Dev nD) (t : Fin cfg0.N) (d) : (dats m hH 0 c).before 9 t d = iblk m c 9 t :=
  before0_9_of m (dats m hH 0 c) (A_eq m hH c 9) (after0_9 m hH c) t d
theorem before0_10 (hH : Hyps m) (c : Dev nD) (t : Fin cfg0.N) (d) : (dats m hH 0 c).before 10 t d = iblk m c 10 t :=
  before0_10_of m (dats m hH 0 c) (A_eq m hH c 10) (after0_10 m hH c) t d
theorem before0_11 (hH : Hyps m) (c : Dev nD) (t : Fin cfg0.N) (d) : (dats m hH 0 c).before 11 t d = iblk m c 11 t :=
  before0_11_of m (dats m hH 0 c) (A_eq m hH c 11) (after0_11 m hH c) t d
theorem before0_12 (hH : Hyps m) (c : Dev nD) (t : Fin cfg0.N) (d) : (dats m hH 0 c).before 12 t d = iblk m c 12 t :=
  before0_12_of m (dats m hH 0 c) (A_eq m hH c 12) (after0_12 m hH c) t d
theorem before0_13 (hH : Hyps m) (c : Dev nD) (t : Fin cfg0.N) (d) : (dats m hH 0 c).before 13 t d = iblk m c 13 t :=
  before0_13_of m (dats m hH 0 c) (A_eq m hH c 13) (after0_13 m hH c) t d
theorem before0_14 (hH : Hyps m) (c : Dev nD) (t : Fin cfg0.N) (d) : (dats m hH 0 c).before 14 t d = iblk m c 14 t :=
  before0_14_of m (dats m hH 0 c) (A_eq m hH c 14) (after0_14 m hH c) t d
theorem before0_15 (hH : Hyps m) (c : Dev nD) (t : Fin cfg0.N) (d) : (dats m hH 0 c).before 15 t d = iblk m c 15 t :=
  before0_15_of m (dats m hH 0 c) (A_eq m hH c 15) (after0_15 m hH c) t d
theorem before0_16 (hH : Hyps m) (c : Dev nD) (t : Fin cfg0.N) (d) : (dats m hH 0 c).before 16 t d = iblk m c 16 t :=
  before0_16_of m (dats m hH 0 c) (A_eq m hH c 16) (after0_16 m hH c) t d
theorem before0_17 (hH : Hyps m) (c : Dev nD) (t : Fin cfg0.N) (d) : (dats m hH 0 c).before 17 t d = iblk m c 17 t :=
  before0_17_of m (dats m hH 0 c) (A_eq m hH c 17) (after0_17 m hH c) t d
theorem before0_18 (hH : Hyps m) (c : Dev nD) (t : Fin cfg0.N) (d) : (dats m hH 0 c).before 18 t d = iblk m c 18 t :=
  before0_18_of m (dats m hH 0 c) (A_eq m hH c 18) (after0_18 m hH c) t d
theorem before0_19 (hH : Hyps m) (c : Dev nD) (t : Fin cfg0.N) (d) : (dats m hH 0 c).before 19 t d = iblk m c 19 t :=
  before0_19_of m (dats m hH 0 c) (A_eq m hH c 19) (after0_19 m hH c) t d
theorem before0_20 (hH : Hyps m) (c : Dev nD) (t : Fin cfg0.N) (d) : (dats m hH 0 c).before 20 t d = iblk m c 20 t :=
  before0_20_of m (dats m hH 0 c) (A_eq m hH c 20) (after0_20 m hH c) t d
theorem before0_21 (hH : Hyps m) (c : Dev nD) (t : Fin cfg0.N) (d) : (dats m hH 0 c).before 21 t d = iblk m c 21 t :=
  before0_21_of m (dats m hH 0 c) (A_eq m hH c 21) (after0_21 m hH c) t d
theorem before0_22 (hH : Hyps m) (c : Dev nD) (t : Fin cfg0.N) (d) : (dats m hH 0 c).before 22 t d = iblk m c 22 t :=
  before0_22_of m (dats m hH 0 c) (A_eq m hH c 22) (after0_22 m hH c) t d
theorem before0_23 (hH : Hyps m) (c : Dev nD) (t : Fin cfg0.N) (d) : (dats m hH 0 c).before 23 t d = iblk m c 23 t :=
  before0_23_of m (dats m hH 0 c) (A_eq m hH c 23) (after0_23 m hH c) t d
theorem before0_24 (hH : Hyps m) (c : Dev nD) (t : Fin cfg0.N) (d) : (dats m hH 0 c).before 24 t d = iblk m c 24 t :=
  before0_24_of m (dats m hH 0 c) (A_eq m hH c 24) (after0_24 m hH c) t d
theorem before0_25 (hH : Hyps m) (c : Dev nD) (t : Fin cfg0.N) (d) : (dats m hH 0 c).before 25 t d = iblk m c 25 t :=
  before0_25_of m (dats m hH 0 c) (A_eq m hH c 25) (after0_25 m hH c) t d
theorem before0_26 (hH : Hyps m) (c : Dev nD) (t : Fin cfg0.N) (d) : (dats m hH 0 c).before 26 t d = iblk m c 26 t :=
  before0_26_of m (dats m hH 0 c) (A_eq m hH c 26) (after0_26 m hH c) t d
theorem before0_27 (hH : Hyps m) (c : Dev nD) (t : Fin cfg0.N) (d) : (dats m hH 0 c).before 27 t d = iblk m c 27 t :=
  before0_27_of m (dats m hH 0 c) (A_eq m hH c 27) (after0_27 m hH c) t d
theorem before0_28 (hH : Hyps m) (c : Dev nD) (t : Fin cfg0.N) (d) : (dats m hH 0 c).before 28 t d = iblk m c 28 t :=
  before0_28_of m (dats m hH 0 c) (A_eq m hH c 28) (after0_28 m hH c) t d
theorem before0_29 (hH : Hyps m) (c : Dev nD) (t : Fin cfg0.N) (d) : (dats m hH 0 c).before 29 t d = iblk m c 29 t :=
  before0_29_of m (dats m hH 0 c) (A_eq m hH c 29) (after0_29 m hH c) t d
theorem before0_30 (hH : Hyps m) (c : Dev nD) (t : Fin cfg0.N) (d) : (dats m hH 0 c).before 30 t d = iblk m c 30 t :=
  before0_30_of m (dats m hH 0 c) (A_eq m hH c 30) (after0_30 m hH c) t d

/-! ## The body obligation, at a generic point -/

/-- What the body is called with at point `t`, -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d))
    ∗ (∃ d, owns (c : Thread nD τ) (ms0_11 t) fullShare ((dats m hH 0 c).before 11 t d))
    ∗ (∃ d, owns (c : Thread nD τ) (ms0_12 t) fullShare ((dats m hH 0 c).before 12 t d))
    ∗ (∃ d, owns (c : Thread nD τ) (ms0_13 t) fullShare ((dats m hH 0 c).before 13 t d))
    ∗ (∃ d, owns (c : Thread nD τ) (ms0_14 t) fullShare ((dats m hH 0 c).before 14 t d))
    ∗ (∃ d, owns (c : Thread nD τ) (ms0_15 t) fullShare ((dats m hH 0 c).before 15 t d))
    ∗ (∃ d, owns (c : Thread nD τ) (ms0_16 t) fullShare ((dats m hH 0 c).before 16 t d))
    ∗ (∃ d, owns (c : Thread nD τ) (ms0_17 t) fullShare ((dats m hH 0 c).before 17 t d))
    ∗ (∃ d, owns (c : Thread nD τ) (ms0_18 t) fullShare ((dats m hH 0 c).before 18 t d))
    ∗ (∃ d, owns (c : Thread nD τ) (ms0_19 t) fullShare ((dats m hH 0 c).before 19 t d))
    ∗ (∃ d, owns (c : Thread nD τ) (ms0_20 t) fullShare ((dats m hH 0 c).before 20 t d))
    ∗ (∃ d, owns (c : Thread nD τ) (ms0_21 t) fullShare ((dats m hH 0 c).before 21 t d))
    ∗ (∃ d, owns (c : Thread nD τ) (ms0_22 t) fullShare ((dats m hH 0 c).before 22 t d))
    ∗ (∃ d, owns (c : Thread nD τ) (ms0_23 t) fullShare ((dats m hH 0 c).before 23 t d))
    ∗ (∃ d, owns (c : Thread nD τ) (ms0_24 t) fullShare ((dats m hH 0 c).before 24 t d))
    ∗ (∃ d, owns (c : Thread nD τ) (ms0_25 t) fullShare ((dats m hH 0 c).before 25 t d))
    ∗ (∃ d, owns (c : Thread nD τ) (ms0_26 t) fullShare ((dats m hH 0 c).before 26 t d))
    ∗ (∃ d, owns (c : Thread nD τ) (ms0_27 t) fullShare ((dats m hH 0 c).before 27 t d))
    ∗ (∃ d, owns (c : Thread nD τ) (ms0_28 t) fullShare ((dats m hH 0 c).before 28 t d))
    ∗ (∃ d, owns (c : Thread nD τ) (ms0_29 t) fullShare ((dats m hH 0 c).before 29 t d))
    ∗ (∃ d, owns (c : Thread nD τ) (ms0_30 t) fullShare ((dats m hH 0 c).before 30 t d))
    ∗ (∃ d, owns (c : Thread nD τ) (ms0_31 t) fullShare ((dats m hH 0 c).before 31 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t)
    ∗ owns (c : Thread nD τ) (ms0_10 t) fullShare ((dats m hH 0 c).after 10 t)
    ∗ owns (c : Thread nD τ) (ms0_11 t) fullShare ((dats m hH 0 c).after 11 t)
    ∗ owns (c : Thread nD τ) (ms0_12 t) fullShare ((dats m hH 0 c).after 12 t)
    ∗ owns (c : Thread nD τ) (ms0_13 t) fullShare ((dats m hH 0 c).after 13 t)
    ∗ owns (c : Thread nD τ) (ms0_14 t) fullShare ((dats m hH 0 c).after 14 t)
    ∗ owns (c : Thread nD τ) (ms0_15 t) fullShare ((dats m hH 0 c).after 15 t)
    ∗ owns (c : Thread nD τ) (ms0_16 t) fullShare ((dats m hH 0 c).after 16 t)
    ∗ owns (c : Thread nD τ) (ms0_17 t) fullShare ((dats m hH 0 c).after 17 t)
    ∗ owns (c : Thread nD τ) (ms0_18 t) fullShare ((dats m hH 0 c).after 18 t)
    ∗ owns (c : Thread nD τ) (ms0_19 t) fullShare ((dats m hH 0 c).after 19 t)
    ∗ owns (c : Thread nD τ) (ms0_20 t) fullShare ((dats m hH 0 c).after 20 t)
    ∗ owns (c : Thread nD τ) (ms0_21 t) fullShare ((dats m hH 0 c).after 21 t)
    ∗ owns (c : Thread nD τ) (ms0_22 t) fullShare ((dats m hH 0 c).after 22 t)
    ∗ owns (c : Thread nD τ) (ms0_23 t) fullShare ((dats m hH 0 c).after 23 t)
    ∗ owns (c : Thread nD τ) (ms0_24 t) fullShare ((dats m hH 0 c).after 24 t)
    ∗ owns (c : Thread nD τ) (ms0_25 t) fullShare ((dats m hH 0 c).after 25 t)
    ∗ owns (c : Thread nD τ) (ms0_26 t) fullShare ((dats m hH 0 c).after 26 t)
    ∗ owns (c : Thread nD τ) (ms0_27 t) fullShare ((dats m hH 0 c).after 27 t)
    ∗ owns (c : Thread nD τ) (ms0_28 t) fullShare ((dats m hH 0 c).after 28 t)
    ∗ owns (c : Thread nD τ) (ms0_29 t) fullShare ((dats m hH 0 c).after 29 t)
    ∗ owns (c : Thread nD τ) (ms0_30 t) fullShare ((dats m hH 0 c).after 30 t)
    ∗ owns (c : Thread nD τ) (ms0_31 t) fullShare ((dats m hH 0 c).after 31 t))

set_option maxHeartbeats 19200000 in
set_option maxRecDepth 131072 in
/-- The body at any point: the inputs' buffers hold their blocks, so the run applies; it gets the scratch at some
  contents
    and gives it back at some contents. -/
theorem sound_body (hH : Hyps m) (c : Dev nD) (t : Fin cfg0.N) :
    bodyPre m hH c t ⊢ wp frame (wpE (defs₀ (F := F)) Variants.none c none) Set.univ (bodyAt0 t) (fun _ => bodyPost m
        hH c t) := by
  unfold bodyPre bodyPost bodyAt0
  simp only [before0_0, before0_1, before0_2, before0_3, before0_4, before0_5, before0_6, before0_7, before0_8,
      before0_9, before0_10, before0_11, before0_12, before0_13, before0_14, before0_15, before0_16, before0_17,
      before0_18, before0_19, before0_20, before0_21, before0_22, before0_23, before0_24, before0_25, before0_26,
      before0_27, before0_28, before0_29, before0_30]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10,
        after0_11, after0_12, after0_13, after0_14, after0_15, after0_16, after0_17, after0_18, after0_19, after0_20,
        after0_21, after0_22, after0_23, after0_24, after0_25, after0_26, after0_27, after0_28, after0_29, after0_30,
        after0_31]
  rw [show (dats m hH 0 c).Φ t.castSucc = Pipeline.ΦA spec0 c from rfl, PhiA0_eq]
  unfold outsAt0
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩,
      ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩,
      ⟨%d16, H16⟩, ⟨%d17, H17⟩, ⟨%d18, H18⟩, ⟨%d19, H19⟩, ⟨%d20, H20⟩, ⟨%d21, H21⟩, ⟨%d22, H22⟩, ⟨%d23, H23⟩, ⟨%d24,
      H24⟩, ⟨%d25, H25⟩, ⟨%d26, H26⟩, ⟨%d27, H27⟩, ⟨%d28, H28⟩, ⟨%d29, H29⟩, ⟨%d30, H30⟩, ⟨%d31, H31⟩⟩
  iapply ((runAt m hH c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22,
      H23, H24, H25, H26, H27, H28, H29, H30, ⟨%e31, H31⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  unfold owns; iexists _; isplitr
  swap; · iexact H31
  ipureintro; exact View.read_writes_of_cover _ _ _ _ _ (covers m hH c t)

/-- The body at point `t` is `bodyAt0 t`. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (hH : Hyps m) (c : Dev nD) : BodyObligation (dats (F := F) m hH 0 c) (defs₀ (F := F))
  Variants.none () Set.univ := fun t => by
  rw [bigSep_W0, bigSep_W0, defs₀_row]
  exact triple_restated (sound_body m hH c t) rfl .rfl fun _ => .rfl

/-! ## The run and the frame -/

set_option backward.isDefEq.respectTransparency.types false in
/-- The launch ends with every array as the proof data says and every semaphore at zero. -/
theorem run_main_quiescent (hH : Hyps m) : θ_run defs (onTc (τ := τ) (main (F := F))) (s₀ m ρ) (fun r =>
  (Pipeline.FramePost cfgs (dats m hH) 0 (V m)) r ∧ r.2.sem = fun _ => 0) :=
  Pipeline.θ_run_frame (Q' := _) cfgs (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- The same without the semaphores. -/
theorem run_main (hH : Hyps m) : θ_run defs (onTc (τ := τ) (main (F := F))) (s₀ m ρ) (Pipeline.FramePost cfgs (dats m
  hH) 0 (V m)) :=
  (θ_run defs _ _).mono (fun _ h => h.1) (run_main_quiescent m ρ hH)

/-- The arguments end unchanged. -/
theorem unchanged (hH : Hyps m) : θ_run defs (onTc (τ := τ) (main (F := F))) ⟨m, fun _ => 0, ρ⟩ (fun r => ∀ c : Dev
  nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m hH) (A_eq m hH) (run_main m ρ hH)

/-- The frame of the call, under its side conditions. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ hH) ((θ_run defs _ _).mono (fun _ h => h.2) (run_main_quiescent m ρ hH))

end Cert.Kernel2Ideal.Sample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points

public import proofs.«01_k».proof.Proof.Gen.KernelIdeal.Value

public import proofs.«01_k».proof.Proof.RefRun
public import proofs.«01_k».proof.Proof.Final
public import proofs.«01_k».proof.Proof.Bounds
public import proofs.«01_k».proof.Proof.BoundsIdeal
public import proofs.«01_k».proof.Proof.SampleFrame
public import proofs.«01_k».proof.Proof.SampleFrameIdeal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- From launches that agree on the arguments both programs end with the same features and the same mask. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.Final.result m c, fun _ => Cert.Prep.ones, Cert.Final.run m g, ?_⟩
  refine (θ_run Cert.ReferenceIdeal.defs _ _).mono (fun r h c => ⟨(h c).1.trans ?_, (h c).2⟩) (Cert.RefLine.run (F := Ideal) m' g')
  obtain ⟨e0, e1, e2, e3, e4, e5, e6, e7, e8, _⟩ := hargs c
  rw [e0, e1, e2, e3, e4, e5, e6, e7, e8]
  rfl

theorem claim : Cert.Claim := ⟨Cert.Kernel.Gen.facts, Cert.KernelIdeal.Gen.facts, Cert.ReferenceIdeal.Gen.facts, Cert.Kernel2.Gen.facts, Cert.Kernel2Ideal.Gen.facts,
  fun m ρ _ => Cert.Kernel.Gen.frame m ρ, fun m ρ _ => Cert.KernelIdeal.Gen.frame m ρ,
  fun m ρ _ => (θ_run Cert.ReferenceIdeal.defs _ _).mono
    (fun r h => ⟨fun c => (h c).2.2, Idealize.ShloMosaic.sem_eq_zero_of_no_sems (by decide) r.2⟩) (Cert.RefLine.run m ρ),
  fun m ρ _ => Cert.Kernel2.Sample.frame m ρ (Cert.Kernel2.Bounds.hyps m),
  fun m ρ _ => Cert.Kernel2Ideal.Sample.frame m ρ (Cert.Kernel2Ideal.Bounds.hyps m),
  trivial, algebraic, trivial⟩

end Cert.Proof

end
